-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Scales (m : (ℓ : Loc Cert.Scales.nD Cert.Scales.τ Cert.Scales.sig) → Buf (Elt Bits) ℓ) : Prop :=
  True

def Pre_ScalesIdeal (m : (ℓ : Loc Cert.ScalesIdeal.nD Cert.ScalesIdeal.τ Cert.ScalesIdeal.sig) → Buf (Elt Ideal) ℓ) : Prop :=
  True

def Pre_ScalesReferenceIdeal (m : (ℓ : Loc Cert.ScalesReferenceIdeal.nD Cert.ScalesReferenceIdeal.τ Cert.ScalesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0)
      ∧ r.2.mem ((c.tc : Thread Cert.Scales.nD Cert.Scales.τ).loc Cert.Scales.main_arg1) = m ((c.tc : Thread Cert.Scales.nD Cert.Scales.τ).loc Cert.Scales.main_arg1)
      ∧ r.2.mem ((c.tc : Thread Cert.Scales.nD Cert.Scales.τ).loc Cert.Scales.main_arg2) = m ((c.tc : Thread Cert.Scales.nD Cert.Scales.τ).loc Cert.Scales.main_arg2)
      ∧ r.2.mem ((c.tc : Thread Cert.Scales.nD Cert.Scales.τ).loc Cert.Scales.main_arg3) = m ((c.tc : Thread Cert.Scales.nD Cert.Scales.τ).loc Cert.Scales.main_arg3)
      ∧ r.2.mem ((c.tc : Thread Cert.Scales.nD Cert.Scales.τ).loc Cert.Scales.main_arg4) = m ((c.tc : Thread Cert.Scales.nD Cert.Scales.τ).loc Cert.Scales.main_arg4)
      ∧ r.2.mem ((c.tc : Thread Cert.Scales.nD Cert.Scales.τ).loc Cert.Scales.main_arg5) = m ((c.tc : Thread Cert.Scales.nD Cert.Scales.τ).loc Cert.Scales.main_arg5))
      ∧ r.2.sem = fun _ => 0)

def quiescent_ScalesIdeal [hScalesIdeal : Cert.ScalesIdeal.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
      ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2)
      ∧ r.2.mem ((c.tc : Thread Cert.ScalesIdeal.nD Cert.ScalesIdeal.τ).loc Cert.ScalesIdeal.main_arg3) = m ((c.tc : Thread Cert.ScalesIdeal.nD Cert.ScalesIdeal.τ).loc Cert.ScalesIdeal.main_arg3)
      ∧ r.2.mem ((c.tc : Thread Cert.ScalesIdeal.nD Cert.ScalesIdeal.τ).loc Cert.ScalesIdeal.main_arg4) = m ((c.tc : Thread Cert.ScalesIdeal.nD Cert.ScalesIdeal.τ).loc Cert.ScalesIdeal.main_arg4)
      ∧ r.2.mem ((c.tc : Thread Cert.ScalesIdeal.nD Cert.ScalesIdeal.τ).loc Cert.ScalesIdeal.main_arg5) = m ((c.tc : Thread Cert.ScalesIdeal.nD Cert.ScalesIdeal.τ).loc Cert.ScalesIdeal.main_arg5))
      ∧ r.2.sem = fun _ => 0)

def quiescent_ScalesReferenceIdeal [hScalesReferenceIdeal : Cert.ScalesReferenceIdeal.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0)
      ∧ r.2.mem ((c.tc : Thread Cert.ScalesReferenceIdeal.nD Cert.ScalesReferenceIdeal.τ).loc Cert.ScalesReferenceIdeal.main_arg1) = m ((c.tc : Thread Cert.ScalesReferenceIdeal.nD Cert.ScalesReferenceIdeal.τ).loc Cert.ScalesReferenceIdeal.main_arg1)
      ∧ r.2.mem ((c.tc : Thread Cert.ScalesReferenceIdeal.nD Cert.ScalesReferenceIdeal.τ).loc Cert.ScalesReferenceIdeal.main_arg2) = m ((c.tc : Thread Cert.ScalesReferenceIdeal.nD Cert.ScalesReferenceIdeal.τ).loc Cert.ScalesReferenceIdeal.main_arg2)
      ∧ r.2.mem ((c.tc : Thread Cert.ScalesReferenceIdeal.nD Cert.ScalesReferenceIdeal.τ).loc Cert.ScalesReferenceIdeal.main_arg3) = m ((c.tc : Thread Cert.ScalesReferenceIdeal.nD Cert.ScalesReferenceIdeal.τ).loc Cert.ScalesReferenceIdeal.main_arg3)
      ∧ r.2.mem ((c.tc : Thread Cert.ScalesReferenceIdeal.nD Cert.ScalesReferenceIdeal.τ).loc Cert.ScalesReferenceIdeal.main_arg4) = m ((c.tc : Thread Cert.ScalesReferenceIdeal.nD Cert.ScalesReferenceIdeal.τ).loc Cert.ScalesReferenceIdeal.main_arg4)
      ∧ r.2.mem ((c.tc : Thread Cert.ScalesReferenceIdeal.nD Cert.ScalesReferenceIdeal.τ).loc Cert.ScalesReferenceIdeal.main_arg5) = m ((c.tc : Thread Cert.ScalesReferenceIdeal.nD Cert.ScalesReferenceIdeal.τ).loc Cert.ScalesReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v77) = v0 c
          ∧ r.2.mem ((c.tc : Thread Cert.PrepReferenceIdeal.nD Cert.PrepReferenceIdeal.τ).loc Cert.PrepReferenceIdeal.main_v80) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1))

def preserves_Scales_ScalesIdeal : Prop :=
  True

def algebraic_ScalesIdeal_ScalesReferenceIdeal [hScalesIdeal : Cert.ScalesIdeal.Facts] [hScalesReferenceIdeal : Cert.ScalesReferenceIdeal.Facts] : Prop :=
  ∀ (m : (ℓ : Loc Cert.ScalesIdeal.nD Cert.ScalesIdeal.τ Cert.ScalesIdeal.sig) → Buf (Elt Ideal) ℓ) (g : Dev Cert.ScalesIdeal.nD → PrngReg)
    (m' : (ℓ : Loc Cert.ScalesReferenceIdeal.nD Cert.ScalesReferenceIdeal.τ Cert.ScalesReferenceIdeal.sig) → Buf (Elt Ideal) ℓ) (g' : Dev Cert.ScalesReferenceIdeal.nD → PrngReg), Pre_ScalesIdeal m →
    (∀ c : Dev Cert.ScalesIdeal.nD,
      m' ((c.tc : Thread Cert.ScalesReferenceIdeal.nD Cert.ScalesReferenceIdeal.τ).loc Cert.ScalesReferenceIdeal.main_arg0) = m ((c.tc : Thread Cert.ScalesIdeal.nD Cert.ScalesIdeal.τ).loc Cert.ScalesIdeal.main_arg0)
      ∧ m' ((c.tc : Thread Cert.ScalesReferenceIdeal.nD Cert.ScalesReferenceIdeal.τ).loc Cert.ScalesReferenceIdeal.main_arg1) = m ((c.tc : Thread Cert.ScalesIdeal.nD Cert.ScalesIdeal.τ).loc Cert.ScalesIdeal.main_arg1)
      ∧ m' ((c.tc : Thread Cert.ScalesReferenceIdeal.nD Cert.ScalesReferenceIdeal.τ).loc Cert.ScalesReferenceIdeal.main_arg2) = m ((c.tc : Thread Cert.ScalesIdeal.nD Cert.ScalesIdeal.τ).loc Cert.ScalesIdeal.main_arg2)
      ∧ m' ((c.tc : Thread Cert.ScalesReferenceIdeal.nD Cert.ScalesReferenceIdeal.τ).loc Cert.ScalesReferenceIdeal.main_arg3) = m ((c.tc : Thread Cert.ScalesIdeal.nD Cert.ScalesIdeal.τ).loc Cert.ScalesIdeal.main_arg3)
      ∧ m' ((c.tc : Thread Cert.ScalesReferenceIdeal.nD Cert.ScalesReferenceIdeal.τ).loc Cert.ScalesReferenceIdeal.main_arg4) = m ((c.tc : Thread Cert.ScalesIdeal.nD Cert.ScalesIdeal.τ).loc Cert.ScalesIdeal.main_arg4)
      ∧ m' ((c.tc : Thread Cert.ScalesReferenceIdeal.nD Cert.ScalesReferenceIdeal.τ).loc Cert.ScalesReferenceIdeal.main_arg5) = m ((c.tc : Thread Cert.ScalesIdeal.nD Cert.ScalesIdeal.τ).loc Cert.ScalesIdeal.main_arg5)) →
    ∃ (v0 : (c : Dev Cert.ScalesIdeal.nD) → Buf (Elt Ideal) ((c.tc : Thread Cert.ScalesIdeal.nD Cert.ScalesIdeal.τ).loc Cert.ScalesIdeal.main_v0_0)) (v1 : (c : Dev Cert.ScalesIdeal.nD) → Buf (Elt Ideal) ((c.tc : Thread Cert.ScalesIdeal.nD Cert.ScalesIdeal.τ).loc Cert.ScalesIdeal.main_v0_1)),
      θ_run (Cert.ScalesIdeal.defs (F := Ideal)) (onTc (τ := Cert.ScalesIdeal.τ) (Cert.ScalesIdeal.main (F := Ideal))) ⟨m, fun _ => 0, g⟩ (fun r => ∀ c : Dev Cert.ScalesIdeal.nD,
          r.2.mem ((c.tc : Thread Cert.ScalesIdeal.nD Cert.ScalesIdeal.τ).loc Cert.ScalesIdeal.main_v0_0) = v0 c
          ∧ r.2.mem ((c.tc : Thread Cert.ScalesIdeal.nD Cert.ScalesIdeal.τ).loc Cert.ScalesIdeal.main_v0_1) = v1 c
          ∧ r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
          ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
          ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2)
          ∧ r.2.mem ((c.tc : Thread Cert.ScalesIdeal.nD Cert.ScalesIdeal.τ).loc Cert.ScalesIdeal.main_arg3) = m ((c.tc : Thread Cert.ScalesIdeal.nD Cert.ScalesIdeal.τ).loc Cert.ScalesIdeal.main_arg3)
          ∧ r.2.mem ((c.tc : Thread Cert.ScalesIdeal.nD Cert.ScalesIdeal.τ).loc Cert.ScalesIdeal.main_arg4) = m ((c.tc : Thread Cert.ScalesIdeal.nD Cert.ScalesIdeal.τ).loc Cert.ScalesIdeal.main_arg4)
          ∧ r.2.mem ((c.tc : Thread Cert.ScalesIdeal.nD Cert.ScalesIdeal.τ).loc Cert.ScalesIdeal.main_arg5) = m ((c.tc : Thread Cert.ScalesIdeal.nD Cert.ScalesIdeal.τ).loc Cert.ScalesIdeal.main_arg5))
      ∧ θ_run (Cert.ScalesReferenceIdeal.defs (F := Ideal)) (onTc (τ := Cert.ScalesReferenceIdeal.τ) (Cert.ScalesReferenceIdeal.main (F := Ideal))) ⟨m', fun _ => 0, g'⟩ (fun r => ∀ c : Dev Cert.ScalesReferenceIdeal.nD,
          r.2.mem ((c.tc : Thread Cert.ScalesReferenceIdeal.nD Cert.ScalesReferenceIdeal.τ).loc Cert.ScalesReferenceIdeal.main_v47) = v0 c
          ∧ r.2.mem ((c.tc : Thread Cert.ScalesReferenceIdeal.nD Cert.ScalesReferenceIdeal.τ).loc Cert.ScalesReferenceIdeal.main_v95) = v1 c
          ∧ r.2.mem ((c.tc : Thread Cert.ScalesReferenceIdeal.nD Cert.ScalesReferenceIdeal.τ).loc Cert.ScalesReferenceIdeal.main_arg0) = m' ((c.tc : Thread Cert.ScalesReferenceIdeal.nD Cert.ScalesReferenceIdeal.τ).loc Cert.ScalesReferenceIdeal.main_arg0)
          ∧ r.2.mem ((c.tc : Thread Cert.ScalesReferenceIdeal.nD Cert.ScalesReferenceIdeal.τ).loc Cert.ScalesReferenceIdeal.main_arg1) = m' ((c.tc : Thread Cert.ScalesReferenceIdeal.nD Cert.ScalesReferenceIdeal.τ).loc Cert.ScalesReferenceIdeal.main_arg1)
          ∧ r.2.mem ((c.tc : Thread Cert.ScalesReferenceIdeal.nD Cert.ScalesReferenceIdeal.τ).loc Cert.ScalesReferenceIdeal.main_arg2) = m' ((c.tc : Thread Cert.ScalesReferenceIdeal.nD Cert.ScalesReferenceIdeal.τ).loc Cert.ScalesReferenceIdeal.main_arg2)
          ∧ r.2.mem ((c.tc : Thread Cert.ScalesReferenceIdeal.nD Cert.ScalesReferenceIdeal.τ).loc Cert.ScalesReferenceIdeal.main_arg3) = m' ((c.tc : Thread Cert.ScalesReferenceIdeal.nD Cert.ScalesReferenceIdeal.τ).loc Cert.ScalesReferenceIdeal.main_arg3)
          ∧ r.2.mem ((c.tc : Thread Cert.ScalesReferenceIdeal.nD Cert.ScalesReferenceIdeal.τ).loc Cert.ScalesReferenceIdeal.main_arg4) = m' ((c.tc : Thread Cert.ScalesReferenceIdeal.nD Cert.ScalesReferenceIdeal.τ).loc Cert.ScalesReferenceIdeal.main_arg4)
          ∧ r.2.mem ((c.tc : Thread Cert.ScalesReferenceIdeal.nD Cert.ScalesReferenceIdeal.τ).loc Cert.ScalesReferenceIdeal.main_arg5) = m' ((c.tc : Thread Cert.ScalesReferenceIdeal.nD Cert.ScalesReferenceIdeal.τ).loc Cert.ScalesReferenceIdeal.main_arg5))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts) (hScales : Cert.Scales.Facts) (hScalesIdeal : Cert.ScalesIdeal.Facts) (hScalesReferenceIdeal : Cert.ScalesReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_Scales (hScales := hScales)
    ∧ quiescent_ScalesIdeal (hScalesIdeal := hScalesIdeal)
    ∧ quiescent_ScalesReferenceIdeal (hScalesReferenceIdeal := hScalesReferenceIdeal)
    ∧ preserves_Kernel_KernelIdeal
    ∧ algebraic_KernelIdeal_ReferenceIdeal (hKernelIdeal := hKernelIdeal) (hReferenceIdeal := hReferenceIdeal)
    ∧ preserves_Prep_PrepIdeal
    ∧ algebraic_PrepIdeal_PrepReferenceIdeal (hPrepIdeal := hPrepIdeal) (hPrepReferenceIdeal := hPrepReferenceIdeal)
    ∧ preserves_Scales_ScalesIdeal
    ∧ algebraic_ScalesIdeal_ScalesReferenceIdeal (hScalesIdeal := hScalesIdeal) (hScalesReferenceIdeal := hScalesReferenceIdeal)
-- ==== Kernel.lean ====
abbrev S8x344x2x8x128 : Shape := ⟨5, ![8, 344, 2, 8, 128]⟩
abbrev S32x352x128 : Shape := ⟨3, ![32, 352, 128]⟩
abbrev S2x32x64x128 : Shape := ⟨4, ![2, 32, 64, 128]⟩
abbrev S256x11008 : Shape := ⟨2, ![256, 11008]⟩
abbrev S256x4096 : Shape := ⟨2, ![256, 4096]⟩
abbrev S1x344x2x8x128 : Shape := ⟨5, ![1, 344, 2, 8, 128]⟩
abbrev S4x352x128 : Shape := ⟨3, ![4, 352, 128]⟩
abbrev S2x4x64x128 : Shape := ⟨4, ![2, 4, 64, 128]⟩
abbrev S4x688x128 : Shape := ⟨3, ![4, 688, 128]⟩
abbrev S4x11008x128 : Shape := ⟨3, ![4, 11008, 128]⟩
abbrev S2x2x256x256 : Shape := ⟨4, ![2, 2, 256, 256]⟩
abbrev S8x128 : Shape := ⟨2, ![8, 128]⟩
abbrev S16x128 : Shape := ⟨2, ![16, 128]⟩
abbrev S1x4x64x128 : Shape := ⟨4, ![1, 4, 64, 128]⟩
abbrev S4x64x128 : Shape := ⟨3, ![4, 64, 128]⟩
abbrev S1x1x128 : Shape := ⟨3, ![1, 1, 128]⟩
abbrev S1x128 : Shape := ⟨2, ![1, 128]⟩
abbrev S1x8x128 : Shape := ⟨3, ![1, 8, 128]⟩
abbrev S1x1x1x8x128 : Shape := ⟨5, ![1, 1, 1, 8, 128]⟩
abbrev S32x128 : Shape := ⟨2, ![32, 128]⟩
abbrev S1x16x128 : Shape := ⟨3, ![1, 16, 128]⟩
abbrev S1x11008x128 : Shape := ⟨3, ![1, 11008, 128]⟩
abbrev S11008x128 : Shape := ⟨2, ![11008, 128]⟩
abbrev S11008x256 : Shape := ⟨2, ![11008, 256]⟩
abbrev S256x256 : Shape := ⟨2, ![256, 256]⟩
abbrev S1x1x256x256 : Shape := ⟨4, ![1, 1, 256, 256]⟩
abbrev S512x512 : Shape := ⟨2, ![512, 512]⟩
abbrev S256x512 : Shape := ⟨2, ![256, 512]⟩

abbrev nBuf : Space → Nat
  | .hbm => 6
  | .vmem => 14
  | .smem => 0
  | _ => 0

abbrev bufTy : (tb : Table) → Fin (tcTables nBuf tb) → BufTy
  | .hbm, ⟨0, _⟩ => ⟨S8x344x2x8x128, .i32⟩
  | .hbm, ⟨1, _⟩ => ⟨S32x352x128, .i32⟩
  | .hbm, ⟨2, _⟩ => ⟨S32x352x128, .i32⟩
  | .hbm, ⟨3, _⟩ => ⟨S2x32x64x128, .i32⟩
  | .hbm, ⟨4, _⟩ => ⟨S256x11008, .bf16⟩
  | .hbm, ⟨5, _⟩ => ⟨S256x4096, .bf16⟩
  | .local _ .vmem, ⟨0, _⟩ => ⟨S1x344x2x8x128, .i32⟩
  | .local _ .vmem, ⟨1, _⟩ => ⟨S1x344x2x8x128, .i32⟩
  | .local _ .vmem, ⟨2, _⟩ => ⟨S4x352x128, .i32⟩
  | .local _ .vmem, ⟨3, _⟩ => ⟨S4x352x128, .i32⟩
  | .local _ .vmem, ⟨4, _⟩ => ⟨S4x352x128, .i32⟩
  | .local _ .vmem, ⟨5, _⟩ => ⟨S4x352x128, .i32⟩
  | .local _ .vmem, ⟨6, _⟩ => ⟨S2x4x64x128, .i32⟩
  | .local _ .vmem, ⟨7, _⟩ => ⟨S2x4x64x128, .i32⟩
  | .local _ .vmem, ⟨8, _⟩ => ⟨S256x11008, .bf16⟩
  | .local _ .vmem, ⟨9, _⟩ => ⟨S256x4096, .bf16⟩
  | .local _ .vmem, ⟨10, _⟩ => ⟨S4x688x128, .i32⟩
  | .local _ .vmem, ⟨11, _⟩ => ⟨S4x688x128, .i32⟩
  | .local _ .vmem, ⟨12, _⟩ => ⟨S4x11008x128, .bf16⟩
  | .local _ .vmem, ⟨13, _⟩ => ⟨S2x2x256x256, .bf16⟩
  | _, _ => ⟨S8x344x2x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_7 : BitVec 32 := 0#32
  let c86_i32 : BitVec 32 := 86#32
  let v38 : BitVec 32 := Scalar.addi c0_i32_7 c86_i32
  let c1_i32_8 : BitVec 32 := 1#32
  ⟨c0_i32_7, v38, c1_i32_8⟩
def k0_off1 (k0_t1 : Fin k0_t1_loop.trips) (c0_i32_86 : BitVec 32) : Fin 3 → Nat :=
  let c0_91 : Index := 0#32
  let c16_i32_85 : BitVec 32 := 16#32
  let c0_i32_84 : BitVec 32 := 0#32
  let c0_i32_7 : BitVec 32 := 0#32
  let c1_i32_8 : BitVec 32 := 1#32
  let arg11 : BitVec 32 := Scf.iv c0_i32_7 c1_i32_8 k0_t1
  let c1_i32_83 : BitVec 32 := 1#32
  let v147 : BitVec 32 := Scalar.muli arg11 c1_i32_83
  let v148 : BitVec 32 := Scalar.addi c0_i32_84 v147
  let v149 : BitVec 32 := Scalar.muli c16_i32_85 v148
  let c1311_i32 : BitVec 32 := 1311#32
  let v150 : BitVec 32 := Scalar.muli v149 c1311_i32
  let c15_i32 : BitVec 32 := 15#32
  let v151 : BitVec 32 := Scalar.shrsi v150 c15_i32
  let v152 : BitVec 32 := Scalar.addi v151 c0_i32_86
  let v155 : Index := Scalar.indexCast v152
  let c0_92 : Index := 0#32
  ![0, v155.toNat, 0]
def k0_mult1 (k0_t1 : Fin k0_t1_loop.trips) : BitVec 32 :=
  let c8_i32_143 : BitVec 32 := 8#32
  let c0_i32_84 : BitVec 32 := 0#32
  let c0_i32_7 : BitVec 32 := 0#32
  let c1_i32_8 : BitVec 32 := 1#32
  let arg11 : BitVec 32 := Scf.iv c0_i32_7 c1_i32_8 k0_t1
  let c1_i32_83 : BitVec 32 := 1#32
  let v147 : BitVec 32 := Scalar.muli arg11 c1_i32_83
  let v148 : BitVec 32 := Scalar.addi c0_i32_84 v147
  let v267 : BitVec 32 := Scalar.muli c8_i32_143 v148
  v267
def k0_off2 (k0_t1 : Fin k0_t1_loop.trips) : Fin 3 → Nat :=
  let c0_144 : Index := 0#32
  let c8_i32_143 : BitVec 32 := 8#32
  let c0_i32_84 : BitVec 32 := 0#32
  let c0_i32_7 : BitVec 32 := 0#32
  let c1_i32_8 : BitVec 32 := 1#32
  let arg11 : BitVec 32 := Scf.iv c0_i32_7 c1_i32_8 k0_t1
  let c1_i32_83 : BitVec 32 := 1#32
  let v147 : BitVec 32 := Scalar.muli arg11 c1_i32_83
  let v148 : BitVec 32 := Scalar.addi c0_i32_84 v147
  let v267 : BitVec 32 := Scalar.muli c8_i32_143 v148
  let v268 : BitVec 32 := v267
  let v270 : Index := Scalar.indexCast v268
  let c0_145 : Index := 0#32
  ![0, v270.toNat, 0]
@[reducible] def k0_t2_loop : Scf.Loop 32 :=
  let c0_i32_21 : BitVec 32 := 0#32
  let c86_i32_22 : BitVec 32 := 86#32
  let v62 : BitVec 32 := Scalar.addi c0_i32_21 c86_i32_22
  let c1_i32_23 : BitVec 32 := 1#32
  ⟨c0_i32_21, v62, c1_i32_23⟩
def k0_off3 (k0_t2 : Fin k0_t2_loop.trips) (c0_i32_86 : BitVec 32) : Fin 3 → Nat :=
  let c1_91 : Index := 1#32
  let c16_i32_85 : BitVec 32 := 16#32
  let c0_i32_84 : BitVec 32 := 0#32
  let c0_i32_21 : BitVec 32 := 0#32
  let c1_i32_23 : BitVec 32 := 1#32
  let arg11 : BitVec 32 := Scf.iv c0_i32_21 c1_i32_23 k0_t2
  let c1_i32_83 : BitVec 32 := 1#32
  let v147 : BitVec 32 := Scalar.muli arg11 c1_i32_83
  let v148 : BitVec 32 := Scalar.addi c0_i32_84 v147
  let v149 : BitVec 32 := Scalar.muli c16_i32_85 v148
  let c1311_i32 : BitVec 32 := 1311#32
  let v150 : BitVec 32 := Scalar.muli v149 c1311_i32
  let c15_i32 : BitVec 32 := 15#32
  let v151 : BitVec 32 := Scalar.shrsi v150 c15_i32
  let v152 : BitVec 32 := Scalar.addi v151 c0_i32_86
  let v155 : Index := Scalar.indexCast v152
  let c0_92 : Index := 0#32
  ![1, v155.toNat, 0]
def k0_mult2 (k0_t2 : Fin k0_t2_loop.trips) : BitVec 32 :=
  let c8_i32_143 : BitVec 32 := 8#32
  let c0_i32_84 : BitVec 32 := 0#32
  let c0_i32_21 : BitVec 32 := 0#32
  let c1_i32_23 : BitVec 32 := 1#32
  let arg11 : BitVec 32 := Scf.iv c0_i32_21 c1_i32_23 k0_t2
  let c1_i32_83 : BitVec 32 := 1#32
  let v147 : BitVec 32 := Scalar.muli arg11 c1_i32_83
  let v148 : BitVec 32 := Scalar.addi c0_i32_84 v147
  let v267 : BitVec 32 := Scalar.muli c8_i32_143 v148
  v267
def k0_off4 (k0_t2 : Fin k0_t2_loop.trips) : Fin 3 → Nat :=
  let c1_144 : Index := 1#32
  let c8_i32_143 : BitVec 32 := 8#32
  let c0_i32_84 : BitVec 32 := 0#32
  let c0_i32_21 : BitVec 32 := 0#32
  let c1_i32_23 : BitVec 32 := 1#32
  let arg11 : BitVec 32 := Scf.iv c0_i32_21 c1_i32_23 k0_t2
  let c1_i32_83 : BitVec 32 := 1#32
  let v147 : BitVec 32 := Scalar.muli arg11 c1_i32_83
  let v148 : BitVec 32 := Scalar.addi c0_i32_84 v147
  let v267 : BitVec 32 := Scalar.muli c8_i32_143 v148
  let v268 : BitVec 32 := v267
  let v270 : Index := Scalar.indexCast v268
  let c0_145 : Index := 0#32
  ![1, v270.toNat, 0]
@[reducible] def k0_t3_loop : Scf.Loop 32 :=
  let c0_i32_36 : BitVec 32 := 0#32
  let c86_i32_37 : BitVec 32 := 86#32
  let v86 : BitVec 32 := Scalar.addi c0_i32_36 c86_i32_37
  let c1_i32_38 : BitVec 32 := 1#32
  ⟨c0_i32_36, v86, c1_i32_38⟩
def k0_off5 (k0_t3 : Fin k0_t3_loop.trips) (c0_i32_86 : BitVec 32) : Fin 3 → Nat :=
  let c2_91 : Index := 2#32
  let c16_i32_85 : BitVec 32 := 16#32
  let c0_i32_84 : BitVec 32 := 0#32
  let c0_i32_36 : BitVec 32 := 0#32
  let c1_i32_38 : BitVec 32 := 1#32
  let arg11 : BitVec 32 := Scf.iv c0_i32_36 c1_i32_38 k0_t3
  let c1_i32_83 : BitVec 32 := 1#32
  let v147 : BitVec 32 := Scalar.muli arg11 c1_i32_83
  let v148 : BitVec 32 := Scalar.addi c0_i32_84 v147
  let v149 : BitVec 32 := Scalar.muli c16_i32_85 v148
  let c1311_i32 : BitVec 32 := 1311#32
  let v150 : BitVec 32 := Scalar.muli v149 c1311_i32
  let c15_i32 : BitVec 32 := 15#32
  let v151 : BitVec 32 := Scalar.shrsi v150 c15_i32
  let v152 : BitVec 32 := Scalar.addi v151 c0_i32_86
  let v155 : Index := Scalar.indexCast v152
  let c0_92 : Index := 0#32
  ![2, v155.toNat, 0]
def k0_mult3 (k0_t3 : Fin k0_t3_loop.trips) : BitVec 32 :=
  let c8_i32_143 : BitVec 32 := 8#32
  let c0_i32_84 : BitVec 32 := 0#32
  let c0_i32_36 : BitVec 32 := 0#32
  let c1_i32_38 : BitVec 32 := 1#32
  let arg11 : BitVec 32 := Scf.iv c0_i32_36 c1_i32_38 k0_t3
  let c1_i32_83 : BitVec 32 := 1#32
  let v147 : BitVec 32 := Scalar.muli arg11 c1_i32_83
  let v148 : BitVec 32 := Scalar.addi c0_i32_84 v147
  let v267 : BitVec 32 := Scalar.muli c8_i32_143 v148
  v267
def k0_off6 (k0_t3 : Fin k0_t3_loop.trips) : Fin 3 → Nat :=
  let c2_144 : Index := 2#32
  let c8_i32_143 : BitVec 32 := 8#32
  let c0_i32_84 : BitVec 32 := 0#32
  let c0_i32_36 : BitVec 32 := 0#32
  let c1_i32_38 : BitVec 32 := 1#32
  let arg11 : BitVec 32 := Scf.iv c0_i32_36 c1_i32_38 k0_t3
  let c1_i32_83 : BitVec 32 := 1#32
  let v147 : BitVec 32 := Scalar.muli arg11 c1_i32_83
  let v148 : BitVec 32 := Scalar.addi c0_i32_84 v147
  let v267 : BitVec 32 := Scalar.muli c8_i32_143 v148
  let v268 : BitVec 32 := v267
  let v270 : Index := Scalar.indexCast v268
  let c0_145 : Index := 0#32
  ![2, v270.toNat, 0]
@[reducible] def k0_t4_loop : Scf.Loop 32 :=
  let c0_i32_51 : BitVec 32 := 0#32
  let c86_i32_52 : BitVec 32 := 86#32
  let v110 : BitVec 32 := Scalar.addi c0_i32_51 c86_i32_52
  let c1_i32_53 : BitVec 32 := 1#32
  ⟨c0_i32_51, v110, c1_i32_53⟩
def k0_off7 (k0_t4 : Fin k0_t4_loop.trips) (c0_i32_86 : BitVec 32) : Fin 3 → Nat :=
  let c3_91 : Index := 3#32
  let c16_i32_85 : BitVec 32 := 16#32
  let c0_i32_84 : BitVec 32 := 0#32
  let c0_i32_51 : BitVec 32 := 0#32
  let c1_i32_53 : BitVec 32 := 1#32
  let arg11 : BitVec 32 := Scf.iv c0_i32_51 c1_i32_53 k0_t4
  let c1_i32_83 : BitVec 32 := 1#32
  let v147 : BitVec 32 := Scalar.muli arg11 c1_i32_83
  let v148 : BitVec 32 := Scalar.addi c0_i32_84 v147
  let v149 : BitVec 32 := Scalar.muli c16_i32_85 v148
  let c1311_i32 : BitVec 32 := 1311#32
  let v150 : BitVec 32 := Scalar.muli v149 c1311_i32
  let c15_i32 : BitVec 32 := 15#32
  let v151 : BitVec 32 := Scalar.shrsi v150 c15_i32
  let v152 : BitVec 32 := Scalar.addi v151 c0_i32_86
  let v155 : Index := Scalar.indexCast v152
  let c0_92 : Index := 0#32
  ![3, v155.toNat, 0]
def k0_mult4 (k0_t4 : Fin k0_t4_loop.trips) : BitVec 32 :=
  let c8_i32_143 : BitVec 32 := 8#32
  let c0_i32_84 : BitVec 32 := 0#32
  let c0_i32_51 : BitVec 32 := 0#32
  let c1_i32_53 : BitVec 32 := 1#32
  let arg11 : BitVec 32 := Scf.iv c0_i32_51 c1_i32_53 k0_t4
  let c1_i32_83 : BitVec 32 := 1#32
  let v147 : BitVec 32 := Scalar.muli arg11 c1_i32_83
  let v148 : BitVec 32 := Scalar.addi c0_i32_84 v147
  let v267 : BitVec 32 := Scalar.muli c8_i32_143 v148
  v267
def k0_off8 (k0_t4 : Fin k0_t4_loop.trips) : Fin 3 → Nat :=
  let c3_144 : Index := 3#32
  let c8_i32_143 : BitVec 32 := 8#32
  let c0_i32_84 : BitVec 32 := 0#32
  let c0_i32_51 : BitVec 32 := 0#32
  let c1_i32_53 : BitVec 32 := 1#32
  let arg11 : BitVec 32 := Scf.iv c0_i32_51 c1_i32_53 k0_t4
  let c1_i32_83 : BitVec 32 := 1#32
  let v147 : BitVec 32 := Scalar.muli arg11 c1_i32_83
  let v148 : BitVec 32 := Scalar.addi c0_i32_84 v147
  let v267 : BitVec 32 := Scalar.muli c8_i32_143 v148
  let v268 : BitVec 32 := v267
  let v270 : Index := Scalar.indexCast v268
  let c0_145 : Index := 0#32
  ![3, v270.toNat, 0]
@[reducible] def k0_t5_loop : Scf.Loop 32 :=
  let c0_i32_56 : BitVec 32 := 0#32
  let c344_i32 : BitVec 32 := 344#32
  let v116 : BitVec 32 := Scalar.addi c0_i32_56 c344_i32
  let c1_i32_57 : BitVec 32 := 1#32
  ⟨c0_i32_56, v116, c1_i32_57⟩
def k0_off9 (k0_t5 : Fin k0_t5_loop.trips) : Fin 5 → Nat :=
  let c0_85 : Index := 0#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v149 : Index := Scalar.indexCast v148
  let c0_86 : Index := 0#32
  let c0_87 : Index := 0#32
  let c0_88 : Index := 0#32
  ![0, v149.toNat, 0, 0, 0]
def k0_off10 (k0_t5 : Fin k0_t5_loop.trips) : Fin 3 → Nat :=
  let c0_89 : Index := 0#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v156 : Index := Scalar.indexCast v148
  let c0_90 : Index := 0#32
  ![0, v156.toNat, 0]
def k0_off11 (k0_t5 : Fin k0_t5_loop.trips) (c0_i32_94 : BitVec 32) : Fin 3 → Nat :=
  let c0_95 : Index := 0#32
  let c2_i32_93 : BitVec 32 := 2#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v171 : BitVec 32 := Scalar.muli c2_i32_93 v148
  let v172 : BitVec 32 := Scalar.addi v171 c0_i32_94
  let v173 : Index := Scalar.indexCast v172
  let c0_96 : Index := 0#32
  ![0, v173.toNat, 0]
def k0_mult5 (k0_t5 : Fin k0_t5_loop.trips) : BitVec 32 :=
  let c32_i32 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v189 : BitVec 32 := Scalar.muli c32_i32 v148
  let c0_i32_101 : BitVec 32 := 0#32
  let v190 : BitVec 32 := Scalar.addi v189 c0_i32_101
  v190
def k0_off12 (k0_t5 : Fin k0_t5_loop.trips) (c0_i32_101 : BitVec 32) : Fin 3 → Nat :=
  let c0_102 : Index := 0#32
  let c32_i32 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v189 : BitVec 32 := Scalar.muli c32_i32 v148
  let v190 : BitVec 32 := Scalar.addi v189 c0_i32_101
  let v191 : BitVec 32 := v190
  let v192 : Index := Scalar.indexCast v191
  let c0_103 : Index := 0#32
  ![0, v192.toNat, 0]
def k0_mult6 (k0_t5 : Fin k0_t5_loop.trips) : BitVec 32 :=
  let c32_i32_112 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v217 : BitVec 32 := Scalar.muli c32_i32_112 v148
  let c16_i32_113 : BitVec 32 := 16#32
  let v218 : BitVec 32 := Scalar.addi v217 c16_i32_113
  v218
def k0_off13 (k0_t5 : Fin k0_t5_loop.trips) : Fin 3 → Nat :=
  let c2_118 : Index := 2#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v230 : Index := Scalar.indexCast v148
  let c0_119 : Index := 0#32
  ![2, v230.toNat, 0]
def k0_off14 (k0_t5 : Fin k0_t5_loop.trips) (c0_i32_123 : BitVec 32) : Fin 3 → Nat :=
  let c2_124 : Index := 2#32
  let c2_i32_122 : BitVec 32 := 2#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v245 : BitVec 32 := Scalar.muli c2_i32_122 v148
  let v246 : BitVec 32 := Scalar.addi v245 c0_i32_123
  let v247 : Index := Scalar.indexCast v246
  let c0_125 : Index := 0#32
  ![2, v247.toNat, 0]
def k0_mult7 (k0_t5 : Fin k0_t5_loop.trips) : BitVec 32 :=
  let c32_i32_130 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v263 : BitVec 32 := Scalar.muli c32_i32_130 v148
  let c0_i32_131 : BitVec 32 := 0#32
  let v264 : BitVec 32 := Scalar.addi v263 c0_i32_131
  v264
def k0_off15 (k0_t5 : Fin k0_t5_loop.trips) (c0_i32_131 : BitVec 32) : Fin 3 → Nat :=
  let c2_132 : Index := 2#32
  let c32_i32_130 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v263 : BitVec 32 := Scalar.muli c32_i32_130 v148
  let v264 : BitVec 32 := Scalar.addi v263 c0_i32_131
  let v265 : BitVec 32 := v264
  let v266 : Index := Scalar.indexCast v265
  let c0_133 : Index := 0#32
  ![2, v266.toNat, 0]
def k0_mult8 (k0_t5 : Fin k0_t5_loop.trips) : BitVec 32 :=
  let c32_i32_142 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v291 : BitVec 32 := Scalar.muli c32_i32_142 v148
  let c16_i32_143 : BitVec 32 := 16#32
  let v292 : BitVec 32 := Scalar.addi v291 c16_i32_143
  v292
def k0_off16 (k0_t5 : Fin k0_t5_loop.trips) : Fin 5 → Nat :=
  let c0_146 : Index := 0#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v298 : Index := Scalar.indexCast v148
  let c1_147 : Index := 1#32
  let c0_148 : Index := 0#32
  let c0_149 : Index := 0#32
  ![0, v298.toNat, 1, 0, 0]
def k0_off17 (k0_t5 : Fin k0_t5_loop.trips) : Fin 3 → Nat :=
  let c1_151 : Index := 1#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v305 : Index := Scalar.indexCast v148
  let c0_152 : Index := 0#32
  ![1, v305.toNat, 0]
def k0_off18 (k0_t5 : Fin k0_t5_loop.trips) (c0_i32_156 : BitVec 32) : Fin 3 → Nat :=
  let c1_157 : Index := 1#32
  let c2_i32_155 : BitVec 32 := 2#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v320 : BitVec 32 := Scalar.muli c2_i32_155 v148
  let v321 : BitVec 32 := Scalar.addi v320 c0_i32_156
  let v322 : Index := Scalar.indexCast v321
  let c0_158 : Index := 0#32
  ![1, v322.toNat, 0]
def k0_mult9 (k0_t5 : Fin k0_t5_loop.trips) : BitVec 32 :=
  let c32_i32_163 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v338 : BitVec 32 := Scalar.muli c32_i32_163 v148
  let c0_i32_164 : BitVec 32 := 0#32
  let v339 : BitVec 32 := Scalar.addi v338 c0_i32_164
  v339
def k0_off19 (k0_t5 : Fin k0_t5_loop.trips) (c0_i32_164 : BitVec 32) : Fin 3 → Nat :=
  let c1_165 : Index := 1#32
  let c32_i32_163 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v338 : BitVec 32 := Scalar.muli c32_i32_163 v148
  let v339 : BitVec 32 := Scalar.addi v338 c0_i32_164
  let v340 : BitVec 32 := v339
  let v341 : Index := Scalar.indexCast v340
  let c0_166 : Index := 0#32
  ![1, v341.toNat, 0]
def k0_mult10 (k0_t5 : Fin k0_t5_loop.trips) : BitVec 32 :=
  let c32_i32_175 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v366 : BitVec 32 := Scalar.muli c32_i32_175 v148
  let c16_i32_176 : BitVec 32 := 16#32
  let v367 : BitVec 32 := Scalar.addi v366 c16_i32_176
  v367
def k0_off20 (k0_t5 : Fin k0_t5_loop.trips) : Fin 3 → Nat :=
  let c3_181 : Index := 3#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v379 : Index := Scalar.indexCast v148
  let c0_182 : Index := 0#32
  ![3, v379.toNat, 0]
def k0_off21 (k0_t5 : Fin k0_t5_loop.trips) (c0_i32_186 : BitVec 32) : Fin 3 → Nat :=
  let c3_187 : Index := 3#32
  let c2_i32_185 : BitVec 32 := 2#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v394 : BitVec 32 := Scalar.muli c2_i32_185 v148
  let v395 : BitVec 32 := Scalar.addi v394 c0_i32_186
  let v396 : Index := Scalar.indexCast v395
  let c0_188 : Index := 0#32
  ![3, v396.toNat, 0]
def k0_mult11 (k0_t5 : Fin k0_t5_loop.trips) : BitVec 32 :=
  let c32_i32_193 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v412 : BitVec 32 := Scalar.muli c32_i32_193 v148
  let c0_i32_194 : BitVec 32 := 0#32
  let v413 : BitVec 32 := Scalar.addi v412 c0_i32_194
  v413
def k0_off22 (k0_t5 : Fin k0_t5_loop.trips) (c0_i32_194 : BitVec 32) : Fin 3 → Nat :=
  let c3_195 : Index := 3#32
  let c32_i32_193 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v412 : BitVec 32 := Scalar.muli c32_i32_193 v148
  let v413 : BitVec 32 := Scalar.addi v412 c0_i32_194
  let v414 : BitVec 32 := v413
  let v415 : Index := Scalar.indexCast v414
  let c0_196 : Index := 0#32
  ![3, v415.toNat, 0]
def k0_mult12 (k0_t5 : Fin k0_t5_loop.trips) : BitVec 32 :=
  let c32_i32_205 : BitVec 32 := 32#32
  let c0_i32_84 : BitVec 32 := 0#32
  let c0_i32_56 : BitVec 32 := 0#32
  let c1_i32_57 : BitVec 32 := 1#32
  let arg11 : BitVec 32 := Scf.iv c0_i32_56 c1_i32_57 k0_t5
  let c1_i32_83 : BitVec 32 := 1#32
  let v147 : BitVec 32 := Scalar.muli arg11 c1_i32_83
  let v148 : BitVec 32 := Scalar.addi c0_i32_84 v147
  let v440 : BitVec 32 := Scalar.muli c32_i32_205 v148
  let c16_i32_206 : BitVec 32 := 16#32
  let v441 : BitVec 32 := Scalar.addi v440 c16_i32_206
  v441
def k0_off23 (i : grid0.Coords) : Fin 4 → Nat :=
  let c0_66 : Index := 0#32
  let arg0 : BitVec 32 := BitVec.ofNat 32 (i 0).val
  let c1_i32_65 : BitVec 32 := 1#32
  let v125 : BitVec 32 := Scalar.andi arg0 c1_i32_65
  let v126 : Index := Scalar.indexCast v125
  let c0_67 : Index := 0#32
  let c0_68 : Index := 0#32
  ![0, v126.toNat, 0, 0]
def k0_off24 (i : grid0.Coords) : Fin 4 → Nat :=
  let c1_77 : Index := 1#32
  let arg0 : BitVec 32 := BitVec.ofNat 32 (i 0).val
  let c1_i32_76 : BitVec 32 := 1#32
  let v138 : BitVec 32 := Scalar.andi arg0 c1_i32_76
  let v139 : Index := Scalar.indexCast v138
  let c0_78 : Index := 0#32
  let c0_79 : Index := 0#32
  ![1, v139.toNat, 0, 0]
def k0_cond1 (i : grid0.Coords) : BitVec 1 :=
  let arg0 : BitVec 32 := BitVec.ofNat 32 (i 0).val
  let c1_i32_80 : BitVec 32 := 1#32
  let v143 : BitVec 32 := Scalar.andi arg0 c1_i32_80
  let c1_i32_81 : BitVec 32 := 1#32
  let v144 : BitVec 1 := Scalar.cmpi .eq v143 c1_i32_81
  let v145 : BitVec 32 := Scalar.extui v144
  let c0_i32_82 : BitVec 32 := 0#32
  let v146 : BitVec 1 := Scalar.cmpi .ne v145 c0_i32_82
  v146

def k0_mult13 (i : grid0.Coords) : BitVec 32 :=
  let arg0 : BitVec 32 := BitVec.ofNat 32 (i 0).val
  let c1_i32_93 : BitVec 32 := 1#32
  let v166 : BitVec 32 := Scalar.shrsi arg0 c1_i32_93
  let c0_i32_94 : BitVec 32 := 0#32
  let v167 : BitVec 32 := Scalar.addi v166 c0_i32_94
  let c512_i32_95 : BitVec 32 := 512#32
  let v168 : BitVec 32 := Scalar.muli v167 c512_i32_95
  v168
def k0_off25 (i : grid0.Coords) (c0_i32_94 : BitVec 32) : Fin 2 → Nat :=
  let c0_96 : Index := 0#32
  let arg0 : BitVec 32 := BitVec.ofNat 32 (i 0).val
  let c1_i32_93 : BitVec 32 := 1#32
  let v166 : BitVec 32 := Scalar.shrsi arg0 c1_i32_93
  let v167 : BitVec 32 := Scalar.addi v166 c0_i32_94
  let c512_i32_95 : BitVec 32 := 512#32
  let v168 : BitVec 32 := Scalar.muli v167 c512_i32_95
  let v169 : BitVec 32 := v168
  let v171 : Index := Scalar.indexCast v169
  ![0, v171.toNat]
def k0_mult14 (i : grid0.Coords) : BitVec 32 :=
  let arg0 : BitVec 32 := BitVec.ofNat 32 (i 0).val
  let c1_i32_106 : BitVec 32 := 1#32
  let v179 : BitVec 32 := Scalar.shrsi arg0 c1_i32_106
  let c4_i32_107 : BitVec 32 := 4#32
  let v180 : BitVec 32 := Scalar.addi v179 c4_i32_107
  let c512_i32_108 : BitVec 32 := 512#32
  let v181 : BitVec 32 := Scalar.muli v180 c512_i32_108
  v181
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x344x2x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x352x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x352x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4x64x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x11008 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x344x2x8x128 : Shape := ⟨5, ![8, 344, 2, 8, 128]⟩
abbrev S32x352x128 : Shape := ⟨3, ![32, 352, 128]⟩
abbrev S2x32x64x128 : Shape := ⟨4, ![2, 32, 64, 128]⟩
abbrev S256x11008 : Shape := ⟨2, ![256, 11008]⟩
abbrev S4096x11008 : Shape := ⟨2, ![4096, 11008]⟩
abbrev S_ : Shape := ⟨0, ![]⟩
abbrev S1x1x1x1x1x4x2 : Shape := ⟨7, ![1, 1, 1, 1, 1, 4, 2]⟩
abbrev S8x344x2x8x128x1x1 : Shape := ⟨7, ![8, 344, 2, 8, 128, 1, 1]⟩
abbrev S8x344x2x8x128x4x2 : Shape := ⟨7, ![8, 344, 2, 8, 128, 4, 2]⟩
abbrev S4x2x344x2x8x128x4x2 : Shape := ⟨8, ![4, 2, 344, 2, 8, 128, 4, 2]⟩
abbrev S2x4x128x2x2x344x8x4 : Shape := ⟨8, ![2, 4, 128, 2, 2, 344, 8, 4]⟩
abbrev S32x344x128 : Shape := ⟨3, ![32, 344, 128]⟩
abbrev S4x2x2x2x344x128 : Shape := ⟨6, ![4, 2, 2, 2, 344, 128]⟩
abbrev S2x4x128x2x2x344 : Shape := ⟨6, ![2, 4, 128, 2, 2, 344]⟩
abbrev S4096x344 : Shape := ⟨2, ![4096, 344]⟩
abbrev S4096x344x2 : Shape := ⟨3, ![4096, 344, 2]⟩
abbrev S4096x344x1x2 : Shape := ⟨4, ![4096, 344, 1, 2]⟩
abbrev S4096x344x16x2 : Shape := ⟨4, ![4096, 344, 16, 2]⟩
abbrev S1x32x64x128 : Shape := ⟨4, ![1, 32, 64, 128]⟩
abbrev S32x64x128 : Shape := ⟨3, ![32, 64, 128]⟩
abbrev S4x2x2x2x64x128 : Shape := ⟨6, ![4, 2, 2, 2, 64, 128]⟩
abbrev S2x4x128x2x2x64 : Shape := ⟨6, ![2, 4, 128, 2, 2, 64]⟩
abbrev S4096x64 : Shape := ⟨2, ![4096, 64]⟩
abbrev S4096x11008x1 : Shape := ⟨3, ![4096, 11008, 1]⟩
abbrev S256x4096 : Shape := ⟨2, ![256, 4096]⟩

abbrev nBuf : Space → Nat
  | .hbm => 107
  | .vmem => 0
  | .smem => 0
  | _ => 0

abbrev bufTy : (tb : Table) → Fin (tcTables nBuf tb) → BufTy
  | .hbm, ⟨0, _⟩ => ⟨S8x344x2x8x128, .i32⟩
  | .hbm, ⟨1, _⟩ => ⟨S32x352x128, .i32⟩
  | .hbm, ⟨2, _⟩ => ⟨S32x352x128, .i32⟩
  | .hbm, ⟨3, _⟩ => ⟨S2x32x64x128, .i32⟩
  | .hbm, ⟨4, _⟩ => ⟨S256x11008, .bf16⟩
  | .hbm, ⟨5, _⟩ => ⟨S4096x11008, .i32⟩
  | .hbm, ⟨6, _⟩ => ⟨S4096x11008, .i32⟩
  | .hbm, ⟨7, _⟩ => ⟨S_, .i32⟩
  | .hbm, ⟨8, _⟩ => ⟨S4096x11008, .i32⟩
  | .hbm, ⟨9, _⟩ => ⟨S4096x11008, .i32⟩
  | .hbm, ⟨10, _⟩ => ⟨S_, .i32⟩
  | .hbm, ⟨11, _⟩ => ⟨S4096x11008, .i32⟩
  | .hbm, ⟨12, _⟩ => ⟨S4096x11008, .i32⟩
  | .hbm, ⟨13, _⟩ => ⟨S_, .i32⟩
  | .hbm, ⟨14, _⟩ => ⟨S4096x11008, .i32⟩
  | .hbm, ⟨15, _⟩ => ⟨S4096x11008, .i32⟩
  | .hbm, ⟨16, _⟩ => ⟨S_, .i32⟩
  | .hbm, ⟨17, _⟩ => ⟨S4096x11008, .i32⟩
  | .hbm, ⟨18, _⟩ => ⟨S4096x11008, .i32⟩
  | .hbm, ⟨19, _⟩ => ⟨S4096x11008, .i32⟩
  | .hbm, ⟨20, _⟩ => ⟨S_, .i32⟩
  | .hbm, ⟨21, _⟩ => ⟨S4096x11008, .i32⟩
  | .hbm, ⟨22, _⟩ => ⟨S4096x11008, .i32⟩
  | .hbm, ⟨23, _⟩ => ⟨S_, .i32⟩
  | .hbm, ⟨24, _⟩ => ⟨S4096x11008, .i32⟩
  | .hbm, ⟨25, _⟩ => ⟨S4096x11008, .i32⟩
  | .hbm, ⟨26, _⟩ => ⟨S4096x11008, .i32⟩
  | .hbm, ⟨27, _⟩ => ⟨S1x1x1x1x1x4x2, .i32⟩
  | .hbm, ⟨28, _⟩ => ⟨S1x1x1x1x1x4x2, .i32⟩
  | .hbm, ⟨29, _⟩ => ⟨S8x344x2x8x128x1x1, .i32⟩
  | .hbm, ⟨30, _⟩ => ⟨S_, .i32⟩
  | .hbm, ⟨31, _⟩ => ⟨S1x1x1x1x1x4x2, .i32⟩
  | .hbm, ⟨32, _⟩ => ⟨S1x1x1x1x1x4x2, .i32⟩
  | .hbm, ⟨33, _⟩ => ⟨S_, .i32⟩
  | .hbm, ⟨34, _⟩ => ⟨S1x1x1x1x1x4x2, .i32⟩
  | .hbm, ⟨35, _⟩ => ⟨S1x1x1x1x1x4x2, .i32⟩
  | .hbm, ⟨36, _⟩ => ⟨S1x1x1x1x1x4x2, .i32⟩
  | .hbm, ⟨37, _⟩ => ⟨S8x344x2x8x128x4x2, .i32⟩
  | .hbm, ⟨38, _⟩ => ⟨S8x344x2x8x128x4x2, .i32⟩
  | .hbm, ⟨39, _⟩ => ⟨S8x344x2x8x128x4x2, .i32⟩
  | .hbm, ⟨40, _⟩ => ⟨S_, .i32⟩
  | .hbm, ⟨41, _⟩ => ⟨S8x344x2x8x128x4x2, .i32⟩
  | .hbm, ⟨42, _⟩ => ⟨S8x344x2x8x128x4x2, .i32⟩
  | .hbm, ⟨43, _⟩ => ⟨S4x2x344x2x8x128x4x2, .i32⟩
  | .hbm, ⟨44, _⟩ => ⟨S2x4x128x2x2x344x8x4, .i32⟩
  | .hbm, ⟨45, _⟩ => ⟨S4096x11008, .i32⟩
  | .hbm, ⟨46, _⟩ => ⟨S4096x11008, .bf16⟩
  | .hbm, ⟨47, _⟩ => ⟨S32x344x128, .i32⟩
  | .hbm, ⟨48, _⟩ => ⟨S4x2x2x2x344x128, .i32⟩
  | .hbm, ⟨49, _⟩ => ⟨S2x4x128x2x2x344, .i32⟩
  | .hbm, ⟨50, _⟩ => ⟨S4096x344, .i32⟩
  | .hbm, ⟨51, _⟩ => ⟨S4096x344x2, .bf16⟩
  | .hbm, ⟨52, _⟩ => ⟨S4096x344x1x2, .bf16⟩
  | .hbm, ⟨53, _⟩ => ⟨S4096x344x16x2, .bf16⟩
  | .hbm, ⟨54, _⟩ => ⟨S4096x11008, .bf16⟩
  | .hbm, ⟨55, _⟩ => ⟨S4096x11008, .bf16⟩
  | .hbm, ⟨56, _⟩ => ⟨S32x344x128, .i32⟩
  | .hbm, ⟨57, _⟩ => ⟨S4x2x2x2x344x128, .i32⟩
  | .hbm, ⟨58, _⟩ => ⟨S2x4x128x2x2x344, .i32⟩
  | .hbm, ⟨59, _⟩ => ⟨S4096x344, .i32⟩
  | .hbm, ⟨60, _⟩ => ⟨S4096x344x2, .bf16⟩
  | .hbm, ⟨61, _⟩ => ⟨S4096x344x1x2, .bf16⟩
  | .hbm, ⟨62, _⟩ => ⟨S4096x344x16x2, .bf16⟩
  | .hbm, ⟨63, _⟩ => ⟨S4096x11008, .bf16⟩
  | .hbm, ⟨64, _⟩ => ⟨S4096x11008, .bf16⟩
  | .hbm, ⟨65, _⟩ => ⟨S_, .i32⟩
  | .hbm, ⟨66, _⟩ => ⟨S4096x11008, .i32⟩
  | .hbm, ⟨67, _⟩ => ⟨S4096x11008, .i32⟩
  | .hbm, ⟨68, _⟩ => ⟨S_, .i32⟩
  | .hbm, ⟨69, _⟩ => ⟨S4096x11008, .i32⟩
  | .hbm, ⟨70, _⟩ => ⟨S4096x11008, .i32⟩
  | .hbm, ⟨71, _⟩ => ⟨S4096x11008, .i32⟩
  | .hbm, ⟨72, _⟩ => ⟨S_, .i32⟩
  | .hbm, ⟨73, _⟩ => ⟨S4096x11008, .i32⟩
  | .hbm, ⟨74, _⟩ => ⟨S4096x11008, .i32⟩
  | .hbm, ⟨75, _⟩ => ⟨S1x32x64x128, .i32⟩
  | .hbm, ⟨76, _⟩ => ⟨S32x64x128, .i32⟩
  | .hbm, ⟨77, _⟩ => ⟨S1x32x64x128, .i32⟩
  | .hbm, ⟨78, _⟩ => ⟨S32x64x128, .i32⟩
  | .hbm, ⟨79, _⟩ => ⟨S32x64x128, .i32⟩
  | .hbm, ⟨80, _⟩ => ⟨S4x2x2x2x64x128, .i32⟩
  | .hbm, ⟨81, _⟩ => ⟨S2x4x128x2x2x64, .i32⟩
  | .hbm, ⟨82, _⟩ => ⟨S4096x64, .i32⟩
  | .hbm, ⟨83, _⟩ => ⟨S_, .i32⟩
  | .hbm, ⟨84, _⟩ => ⟨S4096x11008, .i32⟩
  | .hbm, ⟨85, _⟩ => ⟨S4096x11008, .i1⟩
  | .hbm, ⟨86, _⟩ => ⟨S_, .i32⟩
  | .hbm, ⟨87, _⟩ => ⟨S4096x11008, .i32⟩
  | .hbm, ⟨88, _⟩ => ⟨S4096x11008, .i32⟩
  | .hbm, ⟨89, _⟩ => ⟨S4096x11008, .i32⟩
  | .hbm, ⟨90, _⟩ => ⟨S4096x11008x1, .i32⟩
  | .hbm, ⟨91, _⟩ => ⟨S4096x11008, .i32⟩
  | .hbm, ⟨92, _⟩ => ⟨S_, .i32⟩
  | .hbm, ⟨93, _⟩ => ⟨S4096x11008, .i32⟩
  | .hbm, ⟨94, _⟩ => ⟨S4096x11008, .i32⟩
  | .hbm, ⟨95, _⟩ => ⟨S4096x11008, .i16⟩
  | .hbm, ⟨96, _⟩ => ⟨S4096x11008, .bf16⟩
  | .hbm, ⟨97, _⟩ => ⟨S_, .i32⟩
  | .hbm, ⟨98, _⟩ => ⟨S4096x11008, .i32⟩
  | .hbm, ⟨99, _⟩ => ⟨S4096x11008, .i32⟩
  | .hbm, ⟨100, _⟩ => ⟨S_, .i32⟩
  | .hbm, ⟨101, _⟩ => ⟨S4096x11008, .i32⟩
  | .hbm, ⟨102, _⟩ => ⟨S4096x11008, .i32⟩
  | .hbm, ⟨103, _⟩ => ⟨S4096x11008, .i1⟩
  | .hbm, ⟨104, _⟩ => ⟨S4096x11008, .bf16⟩
  | .hbm, ⟨105, _⟩ => ⟨S256x4096, .f32⟩
  | .hbm, ⟨106, _⟩ => ⟨S256x4096, .bf16⟩
  | _, _ => ⟨S8x344x2x8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_c_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_call0_c : Ref sig .tc := ⟨.hbm, 83, rfl⟩
abbrev main_call0_v0 : Ref sig .tc := ⟨.hbm, 84, rfl⟩
abbrev main_call0_v1 : Ref sig .tc := ⟨.hbm, 85, rfl⟩
abbrev main_call0_c_0 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_v66 : Ref sig .tc := ⟨.hbm, 91, rfl⟩
abbrev main_c_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_12 : Ref sig .tc := ⟨.hbm, 97, rfl⟩
abbrev main_v71 : Ref sig .tc := ⟨.hbm, 98, rfl⟩
abbrev main_v72 : Ref sig .tc := ⟨.hbm, 99, rfl⟩
abbrev main_c_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Prep.lean ====
abbrev S3x512x11008 : Shape := ⟨3, ![3, 512, 11008]⟩
abbrev S256x11008 : Shape := ⟨2, ![256, 11008]⟩
abbrev S8x344x2x8x128 : Shape := ⟨5, ![8, 344, 2, 8, 128]⟩
abbrev S3x512x256 : Shape := ⟨3, ![3, 512, 256]⟩
abbrev S256x256 : Shape := ⟨2, ![256, 256]⟩
abbrev S8x8x2x8x128 : Shape := ⟨5, ![8, 8, 2, 8, 128]⟩
abbrev S3x256x128 : Shape := ⟨3, ![3, 256, 128]⟩
abbrev S1x512x128 : Shape := ⟨3, ![1, 512, 128]⟩
abbrev S512x128 : Shape := ⟨2, ![512, 128]⟩
abbrev S128x128 : Shape := ⟨2, ![128, 128]⟩
abbrev S1x128x128 : Shape := ⟨3, ![1, 128, 128]⟩
abbrev S1x8x128 : Shape := ⟨3, ![1, 8, 128]⟩
abbrev S8x128 : Shape := ⟨2, ![8, 128]⟩
abbrev S1x1x1x8x128 : Shape := ⟨5, ![1, 1, 1, 8, 128]⟩

abbrev nBuf : Space → Nat
  | .hbm => 4
  | .vmem => 9
  | .smem => 0
  | _ => 0

abbrev bufTy : (tb : Table) → Fin (tcTables nBuf tb) → BufTy
  | .hbm, ⟨0, _⟩ => ⟨S3x512x11008, .i8⟩
  | .hbm, ⟨1, _⟩ => ⟨S256x11008, .bf16⟩
  | .hbm, ⟨2, _⟩ => ⟨S8x344x2x8x128, .i32⟩
  | .hbm, ⟨3, _⟩ => ⟨S256x11008, .bf16⟩
  | .local _ .vmem, ⟨0, _⟩ => ⟨S3x512x256, .i8⟩
  | .local _ .vmem, ⟨1, _⟩ => ⟨S3x512x256, .i8⟩
  | .local _ .vmem, ⟨2, _⟩ => ⟨S256x256, .bf16⟩
  | .local _ .vmem, ⟨3, _⟩ => ⟨S256x256, .bf16⟩
  | .local _ .vmem, ⟨4, _⟩ => ⟨S8x8x2x8x128, .i32⟩
  | .local _ .vmem, ⟨5, _⟩ => ⟨S8x8x2x8x128, .i32⟩
  | .local _ .vmem, ⟨6, _⟩ => ⟨S256x256, .bf16⟩
  | .local _ .vmem, ⟨7, _⟩ => ⟨S256x256, .bf16⟩
  | .local _ .vmem, ⟨8, _⟩ => ⟨S3x256x128, .i32⟩
  | _, _ => ⟨S3x512x11008, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x512x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x2x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrepReferenceIdeal.lean ====
abbrev S3x512x11008 : Shape := ⟨3, ![3, 512, 11008]⟩
abbrev S256x11008 : Shape := ⟨2, ![256, 11008]⟩
abbrev S8x1x1 : Shape := ⟨3, ![8, 1, 1]⟩
abbrev S1x512x11008 : Shape := ⟨3, ![1, 512, 11008]⟩
abbrev S512x11008 : Shape := ⟨2, ![512, 11008]⟩
abbrev S8x512x11008 : Shape := ⟨3, ![8, 512, 11008]⟩
abbrev S_ : Shape := ⟨0, ![]⟩
abbrev S2x4x128x2x2x344x2x16 : Shape := ⟨8, ![2, 4, 128, 2, 2, 344, 2, 16]⟩
abbrev S2x4x128x2x2x344x16x2 : Shape := ⟨8, ![2, 4, 128, 2, 2, 344, 16, 2]⟩
abbrev S2x4x128x2x2x344x8x4 : Shape := ⟨8, ![2, 4, 128, 2, 2, 344, 8, 4]⟩
abbrev S2x4x4x2x344x2x8x128 : Shape := ⟨8, ![2, 4, 4, 2, 344, 2, 8, 128]⟩
abbrev S2x4x8x344x2x8x128 : Shape := ⟨7, ![2, 4, 8, 344, 2, 8, 128]⟩
abbrev S1x1x8x344x2x8x128 : Shape := ⟨7, ![1, 1, 8, 344, 2, 8, 128]⟩
abbrev S8x344x2x8x128 : Shape := ⟨5, ![8, 344, 2, 8, 128]⟩
abbrev S256x344x2x16 : Shape := ⟨4, ![256, 344, 2, 16]⟩
abbrev S256x344x16x2 : Shape := ⟨4, ![256, 344, 16, 2]⟩

abbrev nBuf : Space → Nat
  | .hbm => 97
  | .vmem => 0
  | .smem => 0
  | _ => 0

abbrev bufTy : (tb : Table) → Fin (tcTables nBuf tb) → BufTy
  | .hbm, ⟨0, _⟩ => ⟨S3x512x11008, .i8⟩
  | .hbm, ⟨1, _⟩ => ⟨S256x11008, .bf16⟩
  | .hbm, ⟨2, _⟩ => ⟨S3x512x11008, .i32⟩
  | .hbm, ⟨3, _⟩ => ⟨S8x1x1, .i32⟩
  | .hbm, ⟨4, _⟩ => ⟨S1x512x11008, .i32⟩
  | .hbm, ⟨5, _⟩ => ⟨S512x11008, .i32⟩
  | .hbm, ⟨6, _⟩ => ⟨S1x512x11008, .i32⟩
  | .hbm, ⟨7, _⟩ => ⟨S8x512x11008, .i32⟩
  | .hbm, ⟨8, _⟩ => ⟨S8x512x11008, .i32⟩
  | .hbm, ⟨9, _⟩ => ⟨S8x512x11008, .i32⟩
  | .hbm, ⟨10, _⟩ => ⟨S_, .i32⟩
  | .hbm, ⟨11, _⟩ => ⟨S8x512x11008, .i32⟩
  | .hbm, ⟨12, _⟩ => ⟨S8x512x11008, .i32⟩
  | .hbm, ⟨13, _⟩ => ⟨S_, .i32⟩
  | .hbm, ⟨14, _⟩ => ⟨S8x512x11008, .i32⟩
  | .hbm, ⟨15, _⟩ => ⟨S8x512x11008, .i32⟩
  | .hbm, ⟨16, _⟩ => ⟨S1x512x11008, .i32⟩
  | .hbm, ⟨17, _⟩ => ⟨S512x11008, .i32⟩
  | .hbm, ⟨18, _⟩ => ⟨S1x512x11008, .i32⟩
  | .hbm, ⟨19, _⟩ => ⟨S8x512x11008, .i32⟩
  | .hbm, ⟨20, _⟩ => ⟨S8x512x11008, .i32⟩
  | .hbm, ⟨21, _⟩ => ⟨S8x512x11008, .i32⟩
  | .hbm, ⟨22, _⟩ => ⟨S_, .i32⟩
  | .hbm, ⟨23, _⟩ => ⟨S8x512x11008, .i32⟩
  | .hbm, ⟨24, _⟩ => ⟨S8x512x11008, .i32⟩
  | .hbm, ⟨25, _⟩ => ⟨S_, .i32⟩
  | .hbm, ⟨26, _⟩ => ⟨S8x512x11008, .i32⟩
  | .hbm, ⟨27, _⟩ => ⟨S8x512x11008, .i32⟩
  | .hbm, ⟨28, _⟩ => ⟨S1x512x11008, .i32⟩
  | .hbm, ⟨29, _⟩ => ⟨S512x11008, .i32⟩
  | .hbm, ⟨30, _⟩ => ⟨S1x512x11008, .i32⟩
  | .hbm, ⟨31, _⟩ => ⟨S8x512x11008, .i32⟩
  | .hbm, ⟨32, _⟩ => ⟨S8x512x11008, .i32⟩
  | .hbm, ⟨33, _⟩ => ⟨S8x512x11008, .i32⟩
  | .hbm, ⟨34, _⟩ => ⟨S_, .i32⟩
  | .hbm, ⟨35, _⟩ => ⟨S8x512x11008, .i32⟩
  | .hbm, ⟨36, _⟩ => ⟨S8x512x11008, .i32⟩
  | .hbm, ⟨37, _⟩ => ⟨S_, .i32⟩
  | .hbm, ⟨38, _⟩ => ⟨S8x512x11008, .i32⟩
  | .hbm, ⟨39, _⟩ => ⟨S8x512x11008, .i32⟩
  | .hbm, ⟨40, _⟩ => ⟨S8x512x11008, .i32⟩
  | .hbm, ⟨41, _⟩ => ⟨S8x512x11008, .i32⟩
  | .hbm, ⟨42, _⟩ => ⟨S2x4x128x2x2x344x2x16, .i32⟩
  | .hbm, ⟨43, _⟩ => ⟨S2x4x128x2x2x344x16x2, .i32⟩
  | .hbm, ⟨44, _⟩ => ⟨S2x4x128x2x2x344x8x4, .i32⟩
  | .hbm, ⟨45, _⟩ => ⟨S2x4x4x2x344x2x8x128, .i32⟩
  | .hbm, ⟨46, _⟩ => ⟨S2x4x8x344x2x8x128, .i32⟩
  | .hbm, ⟨47, _⟩ => ⟨S1x1x8x344x2x8x128, .i32⟩
  | .hbm, ⟨48, _⟩ => ⟨S8x344x2x8x128, .i32⟩
  | .hbm, ⟨49, _⟩ => ⟨S_, .i32⟩
  | .hbm, ⟨50, _⟩ => ⟨S8x344x2x8x128, .i32⟩
  | .hbm, ⟨51, _⟩ => ⟨S8x344x2x8x128, .i32⟩
  | .hbm, ⟨52, _⟩ => ⟨S1x1x8x344x2x8x128, .i32⟩
  | .hbm, ⟨53, _⟩ => ⟨S8x344x2x8x128, .i32⟩
  | .hbm, ⟨54, _⟩ => ⟨S_, .i32⟩
  | .hbm, ⟨55, _⟩ => ⟨S8x344x2x8x128, .i32⟩
  | .hbm, ⟨56, _⟩ => ⟨S8x344x2x8x128, .i32⟩
  | .hbm, ⟨57, _⟩ => ⟨S1x1x8x344x2x8x128, .i32⟩
  | .hbm, ⟨58, _⟩ => ⟨S8x344x2x8x128, .i32⟩
  | .hbm, ⟨59, _⟩ => ⟨S_, .i32⟩
  | .hbm, ⟨60, _⟩ => ⟨S8x344x2x8x128, .i32⟩
  | .hbm, ⟨61, _⟩ => ⟨S8x344x2x8x128, .i32⟩
  | .hbm, ⟨62, _⟩ => ⟨S1x1x8x344x2x8x128, .i32⟩
  | .hbm, ⟨63, _⟩ => ⟨S8x344x2x8x128, .i32⟩
  | .hbm, ⟨64, _⟩ => ⟨S_, .i32⟩
  | .hbm, ⟨65, _⟩ => ⟨S8x344x2x8x128, .i32⟩
  | .hbm, ⟨66, _⟩ => ⟨S8x344x2x8x128, .i32⟩
  | .hbm, ⟨67, _⟩ => ⟨S1x1x8x344x2x8x128, .i32⟩
  | .hbm, ⟨68, _⟩ => ⟨S8x344x2x8x128, .i32⟩
  | .hbm, ⟨69, _⟩ => ⟨S_, .i32⟩
  | .hbm, ⟨70, _⟩ => ⟨S8x344x2x8x128, .i32⟩
  | .hbm, ⟨71, _⟩ => ⟨S8x344x2x8x128, .i32⟩
  | .hbm, ⟨72, _⟩ => ⟨S1x1x8x344x2x8x128, .i32⟩
  | .hbm, ⟨73, _⟩ => ⟨S8x344x2x8x128, .i32⟩
  | .hbm, ⟨74, _⟩ => ⟨S_, .i32⟩
  | .hbm, ⟨75, _⟩ => ⟨S8x344x2x8x128, .i32⟩
  | .hbm, ⟨76, _⟩ => ⟨S8x344x2x8x128, .i32⟩
  | .hbm, ⟨77, _⟩ => ⟨S1x1x8x344x2x8x128, .i32⟩
  | .hbm, ⟨78, _⟩ => ⟨S8x344x2x8x128, .i32⟩
  | .hbm, ⟨79, _⟩ => ⟨S_, .i32⟩
  | .hbm, ⟨80, _⟩ => ⟨S8x344x2x8x128, .i32⟩
  | .hbm, ⟨81, _⟩ => ⟨S8x344x2x8x128, .i32⟩
  | .hbm, ⟨82, _⟩ => ⟨S1x1x8x344x2x8x128, .i32⟩
  | .hbm, ⟨83, _⟩ => ⟨S8x344x2x8x128, .i32⟩
  | .hbm, ⟨84, _⟩ => ⟨S_, .i32⟩
  | .hbm, ⟨85, _⟩ => ⟨S8x344x2x8x128, .i32⟩
  | .hbm, ⟨86, _⟩ => ⟨S8x344x2x8x128, .i32⟩
  | .hbm, ⟨87, _⟩ => ⟨S8x344x2x8x128, .i32⟩
  | .hbm, ⟨88, _⟩ => ⟨S8x344x2x8x128, .i32⟩
  | .hbm, ⟨89, _⟩ => ⟨S8x344x2x8x128, .i32⟩
  | .hbm, ⟨90, _⟩ => ⟨S8x344x2x8x128, .i32⟩
  | .hbm, ⟨91, _⟩ => ⟨S8x344x2x8x128, .i32⟩
  | .hbm, ⟨92, _⟩ => ⟨S8x344x2x8x128, .i32⟩
  | .hbm, ⟨93, _⟩ => ⟨S8x344x2x8x128, .i32⟩
  | .hbm, ⟨94, _⟩ => ⟨S256x344x2x16, .bf16⟩
  | .hbm, ⟨95, _⟩ => ⟨S256x344x16x2, .bf16⟩
  | .hbm, ⟨96, _⟩ => ⟨S256x11008, .bf16⟩
  | _, _ => ⟨S3x512x11008, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_3 : Ref sig .tc := ⟨.hbm, 34, rfl⟩
abbrev main_v28 : Ref sig .tc := ⟨.hbm, 35, rfl⟩
abbrev main_v29 : Ref sig .tc := ⟨.hbm, 36, rfl⟩
abbrev main_c_4 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_5 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_6 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_7 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_8 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_9 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_c_10 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c_11 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_12 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩

abbrev nD : Nat := 1
abbrev τ : Topo := Topo.v7x

variable {F : FTy → Type} [FloatOps F]
-- ==== Scales.lean ====
abbrev S3x512x688 : Shape := ⟨3, ![3, 512, 688]⟩
abbrev S256x688 : Shape := ⟨2, ![256, 688]⟩
abbrev S32x704x128 : Shape := ⟨3, ![32, 704, 128]⟩
abbrev S3x704x128 : Shape := ⟨3, ![3, 704, 128]⟩
abbrev S2x704x1024 : Shape := ⟨3, ![2, 704, 1024]⟩
abbrev S256x1024 : Shape := ⟨2, ![256, 1024]⟩
abbrev S3x16x128 : Shape := ⟨3, ![3, 16, 128]⟩
abbrev S2x16x1024 : Shape := ⟨3, ![2, 16, 1024]⟩
abbrev S1x512x128 : Shape := ⟨3, ![1, 512, 128]⟩
abbrev S512x128 : Shape := ⟨2, ![512, 128]⟩
abbrev S128x128 : Shape := ⟨2, ![128, 128]⟩
abbrev S1x128x128 : Shape := ⟨3, ![1, 128, 128]⟩
abbrev S1x512x48 : Shape := ⟨3, ![1, 512, 48]⟩
abbrev S512x48 : Shape := ⟨2, ![512, 48]⟩
abbrev S128x48 : Shape := ⟨2, ![128, 48]⟩
abbrev S48x128 : Shape := ⟨2, ![48, 128]⟩
abbrev S1x48x128 : Shape := ⟨3, ![1, 48, 128]⟩
abbrev S688x1024 : Shape := ⟨2, ![688, 1024]⟩
abbrev S1x688x1024 : Shape := ⟨3, ![1, 688, 1024]⟩
abbrev S1x8x128 : Shape := ⟨3, ![1, 8, 128]⟩
abbrev S8x128 : Shape := ⟨2, ![8, 128]⟩
abbrev S32x128 : Shape := ⟨2, ![32, 128]⟩
abbrev S1x32x128 : Shape := ⟨3, ![1, 32, 128]⟩

abbrev nBuf : Space → Nat
  | .hbm => 8
  | .vmem => 10
  | .smem => 0
  | _ => 0

abbrev bufTy : (tb : Table) → Fin (tcTables nBuf tb) → BufTy
  | .hbm, ⟨0, _⟩ => ⟨S3x512x688, .i8⟩
  | .hbm, ⟨1, _⟩ => ⟨S3x512x688, .i8⟩
  | .hbm, ⟨2, _⟩ => ⟨S256x688, .bf16⟩
  | .hbm, ⟨3, _⟩ => ⟨S256x688, .bf16⟩
  | .hbm, ⟨4, _⟩ => ⟨S256x688, .bf16⟩
  | .hbm, ⟨5, _⟩ => ⟨S256x688, .bf16⟩
  | .hbm, ⟨6, _⟩ => ⟨S32x704x128, .bf16⟩
  | .hbm, ⟨7, _⟩ => ⟨S32x704x128, .bf16⟩
  | .local _ .vmem, ⟨0, _⟩ => ⟨S3x512x688, .i8⟩
  | .local _ .vmem, ⟨1, _⟩ => ⟨S3x512x688, .i8⟩
  | .local _ .vmem, ⟨2, _⟩ => ⟨S256x688, .bf16⟩
  | .local _ .vmem, ⟨3, _⟩ => ⟨S256x688, .bf16⟩
  | .local _ .vmem, ⟨4, _⟩ => ⟨S256x688, .bf16⟩
  | .local _ .vmem, ⟨5, _⟩ => ⟨S256x688, .bf16⟩
  | .local _ .vmem, ⟨6, _⟩ => ⟨S32x704x128, .bf16⟩
  | .local _ .vmem, ⟨7, _⟩ => ⟨S32x704x128, .bf16⟩
  | .local _ .vmem, ⟨8, _⟩ => ⟨S3x704x128, .i32⟩
  | .local _ .vmem, ⟨9, _⟩ => ⟨S2x704x1024, .bf16⟩
  | _, _ => ⟨S3x512x688, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_134 : BitVec 32 := 0#32
  let c22_i32 : BitVec 32 := 22#32
  let v219 : BitVec 32 := Scalar.addi c0_i32_134 c22_i32
  let c1_i32_135 : BitVec 32 := 1#32
  ⟨c0_i32_134, v219, c1_i32_135⟩
def k0_mult1 (k0_t1 : Fin k0_t1_loop.trips) : BitVec 32 :=
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  v361
def k0_off1 (k0_t1 : Fin k0_t1_loop.trips) (c0_i32_264 : BitVec 32) : Fin 3 → Nat :=
  let c0_265 : Index := 0#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v363 : BitVec 32 := Scalar.addi v362 c0_i32_264
  let v364 : Index := Scalar.indexCast v363
  let c0_266 : Index := 0#32
  ![0, v364.toNat, 0]
def k0_off2 (k0_t1 : Fin k0_t1_loop.trips) (c0_i32_293 : BitVec 32) : Fin 3 → Nat :=
  let c1_294 : Index := 1#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v431 : BitVec 32 := Scalar.addi v362 c0_i32_293
  let v432 : Index := Scalar.indexCast v431
  let c0_295 : Index := 0#32
  ![1, v432.toNat, 0]
def k0_off3 (k0_t1 : Fin k0_t1_loop.trips) (c0_i32_329 : BitVec 32) : Fin 3 → Nat :=
  let c2_330 : Index := 2#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v499 : BitVec 32 := Scalar.addi v362 c0_i32_329
  let v500 : Index := Scalar.indexCast v499
  let c0_331 : Index := 0#32
  ![2, v500.toNat, 0]
def k0_off4 (k0_t1 : Fin k0_t1_loop.trips) : Fin 3 → Nat :=
  let c1_380 : Index := 1#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v615 : Index := Scalar.indexCast v362
  let c0_381 : Index := 0#32
  ![1, v615.toNat, 0]
def k0_off5 (k0_t1 : Fin k0_t1_loop.trips) : Fin 3 → Nat :=
  let c0_382 : Index := 0#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v619 : Index := Scalar.indexCast v362
  let c0_383 : Index := 0#32
  ![0, v619.toNat, 0]
def k0_off6 (k0_t1 : Fin k0_t1_loop.trips) : Fin 3 → Nat :=
  let c0_384 : Index := 0#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v623 : Index := Scalar.indexCast v362
  let c0_385 : Index := 0#32
  ![0, v623.toNat, 0]
def k0_off7 (k0_t1 : Fin k0_t1_loop.trips) : Fin 3 → Nat :=
  let c1_387 : Index := 1#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v631 : Index := Scalar.indexCast v362
  let c128_388 : Index := 128#32
  ![1, v631.toNat, 128]
def k0_off8 (k0_t1 : Fin k0_t1_loop.trips) : Fin 3 → Nat :=
  let c0_389 : Index := 0#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v635 : Index := Scalar.indexCast v362
  let c128_390 : Index := 128#32
  ![0, v635.toNat, 128]
def k0_off9 (k0_t1 : Fin k0_t1_loop.trips) : Fin 3 → Nat :=
  let c8 : Index := 8#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v639 : Index := Scalar.indexCast v362
  let c0_391 : Index := 0#32
  ![8, v639.toNat, 0]
def k0_off10 (k0_t1 : Fin k0_t1_loop.trips) : Fin 3 → Nat :=
  let c1_393 : Index := 1#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v647 : Index := Scalar.indexCast v362
  let c256_394 : Index := 256#32
  ![1, v647.toNat, 256]
def k0_off11 (k0_t1 : Fin k0_t1_loop.trips) : Fin 3 → Nat :=
  let c0_395 : Index := 0#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v651 : Index := Scalar.indexCast v362
  let c256_396 : Index := 256#32
  ![0, v651.toNat, 256]
def k0_off12 (k0_t1 : Fin k0_t1_loop.trips) : Fin 3 → Nat :=
  let c16 : Index := 16#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v655 : Index := Scalar.indexCast v362
  let c0_397 : Index := 0#32
  ![16, v655.toNat, 0]
def k0_off13 (k0_t1 : Fin k0_t1_loop.trips) : Fin 3 → Nat :=
  let c1_399 : Index := 1#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v663 : Index := Scalar.indexCast v362
  let c384_400 : Index := 384#32
  ![1, v663.toNat, 384]
def k0_off14 (k0_t1 : Fin k0_t1_loop.trips) : Fin 3 → Nat :=
  let c0_401 : Index := 0#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v667 : Index := Scalar.indexCast v362
  let c384_402 : Index := 384#32
  ![0, v667.toNat, 384]
def k0_off15 (k0_t1 : Fin k0_t1_loop.trips) : Fin 3 → Nat :=
  let c24 : Index := 24#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v671 : Index := Scalar.indexCast v362
  let c0_403 : Index := 0#32
  ![24, v671.toNat, 0]
def k0_off16 (k0_t1 : Fin k0_t1_loop.trips) : Fin 3 → Nat :=
  let c1_406 : Index := 1#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v681 : Index := Scalar.indexCast v362
  let c512_407 : Index := 512#32
  ![1, v681.toNat, 512]
def k0_off17 (k0_t1 : Fin k0_t1_loop.trips) : Fin 3 → Nat :=
  let c0_408 : Index := 0#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v685 : Index := Scalar.indexCast v362
  let c512_409 : Index := 512#32
  ![0, v685.toNat, 512]
def k0_off18 (k0_t1 : Fin k0_t1_loop.trips) : Fin 3 → Nat :=
  let c2_410 : Index := 2#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v689 : Index := Scalar.indexCast v362
  let c0_411 : Index := 0#32
  ![2, v689.toNat, 0]
def k0_off19 (k0_t1 : Fin k0_t1_loop.trips) : Fin 3 → Nat :=
  let c1_414 : Index := 1#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v699 : Index := Scalar.indexCast v362
  let c640_415 : Index := 640#32
  ![1, v699.toNat, 640]
def k0_off20 (k0_t1 : Fin k0_t1_loop.trips) : Fin 3 → Nat :=
  let c0_416 : Index := 0#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v703 : Index := Scalar.indexCast v362
  let c640_417 : Index := 640#32
  ![0, v703.toNat, 640]
def k0_off21 (k0_t1 : Fin k0_t1_loop.trips) : Fin 3 → Nat :=
  let c10 : Index := 10#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v707 : Index := Scalar.indexCast v362
  let c0_418 : Index := 0#32
  ![10, v707.toNat, 0]
def k0_off22 (k0_t1 : Fin k0_t1_loop.trips) : Fin 3 → Nat :=
  let c1_421 : Index := 1#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v717 : Index := Scalar.indexCast v362
  let c768 : Index := 768#32
  ![1, v717.toNat, 768]
def k0_off23 (k0_t1 : Fin k0_t1_loop.trips) : Fin 3 → Nat :=
  let c0_422 : Index := 0#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v721 : Index := Scalar.indexCast v362
  let c768_423 : Index := 768#32
  ![0, v721.toNat, 768]
def k0_off24 (k0_t1 : Fin k0_t1_loop.trips) : Fin 3 → Nat :=
  let c18 : Index := 18#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v725 : Index := Scalar.indexCast v362
  let c0_424 : Index := 0#32
  ![18, v725.toNat, 0]
def k0_off25 (k0_t1 : Fin k0_t1_loop.trips) : Fin 3 → Nat :=
  let c1_427 : Index := 1#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v735 : Index := Scalar.indexCast v362
  let c896 : Index := 896#32
  ![1, v735.toNat, 896]
def k0_off26 (k0_t1 : Fin k0_t1_loop.trips) : Fin 3 → Nat :=
  let c0_428 : Index := 0#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v739 : Index := Scalar.indexCast v362
  let c896_429 : Index := 896#32
  ![0, v739.toNat, 896]
def k0_off27 (k0_t1 : Fin k0_t1_loop.trips) : Fin 3 → Nat :=
  let c26 : Index := 26#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v743 : Index := Scalar.indexCast v362
  let c0_430 : Index := 0#32
  ![26, v743.toNat, 0]
def k0_off28 (k0_t1 : Fin k0_t1_loop.trips) : Fin 3 → Nat :=
  let c1_455 : Index := 1#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v803 : Index := Scalar.indexCast v362
  let c0_456 : Index := 0#32
  ![1, v803.toNat, 0]
def k0_off29 (k0_t1 : Fin k0_t1_loop.trips) : Fin 3 → Nat :=
  let c9 : Index := 9#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v819 : Index := Scalar.indexCast v362
  let c0_462 : Index := 0#32
  ![9, v819.toNat, 0]
def k0_off30 (k0_t1 : Fin k0_t1_loop.trips) : Fin 3 → Nat :=
  let c17 : Index := 17#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v835 : Index := Scalar.indexCast v362
  let c0_468 : Index := 0#32
  ![17, v835.toNat, 0]
def k0_off31 (k0_t1 : Fin k0_t1_loop.trips) : Fin 3 → Nat :=
  let c25 : Index := 25#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v851 : Index := Scalar.indexCast v362
  let c0_474 : Index := 0#32
  ![25, v851.toNat, 0]
def k0_off32 (k0_t1 : Fin k0_t1_loop.trips) : Fin 3 → Nat :=
  let c3 : Index := 3#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v869 : Index := Scalar.indexCast v362
  let c0_481 : Index := 0#32
  ![3, v869.toNat, 0]
def k0_off33 (k0_t1 : Fin k0_t1_loop.trips) : Fin 3 → Nat :=
  let c11 : Index := 11#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v887 : Index := Scalar.indexCast v362
  let c0_488 : Index := 0#32
  ![11, v887.toNat, 0]
def k0_off34 (k0_t1 : Fin k0_t1_loop.trips) : Fin 3 → Nat :=
  let c19 : Index := 19#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v905 : Index := Scalar.indexCast v362
  let c0_495 : Index := 0#32
  ![19, v905.toNat, 0]
def k0_off35 (k0_t1 : Fin k0_t1_loop.trips) : Fin 3 → Nat :=
  let c27 : Index := 27#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v923 : Index := Scalar.indexCast v362
  let c0_502 : Index := 0#32
  ![27, v923.toNat, 0]
def k0_off36 (k0_t1 : Fin k0_t1_loop.trips) : Fin 3 → Nat :=
  let c4 : Index := 4#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v983 : Index := Scalar.indexCast v362
  let c0_527 : Index := 0#32
  ![4, v983.toNat, 0]
def k0_off37 (k0_t1 : Fin k0_t1_loop.trips) : Fin 3 → Nat :=
  let c12 : Index := 12#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v999 : Index := Scalar.indexCast v362
  let c0_533 : Index := 0#32
  ![12, v999.toNat, 0]
def k0_off38 (k0_t1 : Fin k0_t1_loop.trips) : Fin 3 → Nat :=
  let c20 : Index := 20#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1015 : Index := Scalar.indexCast v362
  let c0_539 : Index := 0#32
  ![20, v1015.toNat, 0]
def k0_off39 (k0_t1 : Fin k0_t1_loop.trips) : Fin 3 → Nat :=
  let c28 : Index := 28#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1031 : Index := Scalar.indexCast v362
  let c0_545 : Index := 0#32
  ![28, v1031.toNat, 0]
def k0_off40 (k0_t1 : Fin k0_t1_loop.trips) : Fin 3 → Nat :=
  let c6 : Index := 6#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1049 : Index := Scalar.indexCast v362
  let c0_552 : Index := 0#32
  ![6, v1049.toNat, 0]
def k0_off41 (k0_t1 : Fin k0_t1_loop.trips) : Fin 3 → Nat :=
  let c14 : Index := 14#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1067 : Index := Scalar.indexCast v362
  let c0_559 : Index := 0#32
  ![14, v1067.toNat, 0]
def k0_off42 (k0_t1 : Fin k0_t1_loop.trips) : Fin 3 → Nat :=
  let c22 : Index := 22#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1085 : Index := Scalar.indexCast v362
  let c0_566 : Index := 0#32
  ![22, v1085.toNat, 0]
def k0_off43 (k0_t1 : Fin k0_t1_loop.trips) : Fin 3 → Nat :=
  let c30 : Index := 30#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1103 : Index := Scalar.indexCast v362
  let c0_573 : Index := 0#32
  ![30, v1103.toNat, 0]
def k0_off44 (k0_t1 : Fin k0_t1_loop.trips) : Fin 3 → Nat :=
  let c5 : Index := 5#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1163 : Index := Scalar.indexCast v362
  let c0_598 : Index := 0#32
  ![5, v1163.toNat, 0]
def k0_off45 (k0_t1 : Fin k0_t1_loop.trips) : Fin 3 → Nat :=
  let c13 : Index := 13#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1179 : Index := Scalar.indexCast v362
  let c0_604 : Index := 0#32
  ![13, v1179.toNat, 0]
def k0_off46 (k0_t1 : Fin k0_t1_loop.trips) : Fin 3 → Nat :=
  let c21 : Index := 21#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1195 : Index := Scalar.indexCast v362
  let c0_610 : Index := 0#32
  ![21, v1195.toNat, 0]
def k0_off47 (k0_t1 : Fin k0_t1_loop.trips) : Fin 3 → Nat :=
  let c29 : Index := 29#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1211 : Index := Scalar.indexCast v362
  let c0_616 : Index := 0#32
  ![29, v1211.toNat, 0]
def k0_off48 (k0_t1 : Fin k0_t1_loop.trips) : Fin 3 → Nat :=
  let c7 : Index := 7#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1229 : Index := Scalar.indexCast v362
  let c0_623 : Index := 0#32
  ![7, v1229.toNat, 0]
def k0_off49 (k0_t1 : Fin k0_t1_loop.trips) : Fin 3 → Nat :=
  let c15 : Index := 15#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1247 : Index := Scalar.indexCast v362
  let c0_630 : Index := 0#32
  ![15, v1247.toNat, 0]
def k0_off50 (k0_t1 : Fin k0_t1_loop.trips) : Fin 3 → Nat :=
  let c23 : Index := 23#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1265 : Index := Scalar.indexCast v362
  let c0_637 : Index := 0#32
  ![23, v1265.toNat, 0]
def k0_off51 (k0_t1 : Fin k0_t1_loop.trips) : Fin 3 → Nat :=
  let c31 : Index := 31#32
  let c0_i32_262 : BitVec 32 := 0#32
  let c0_i32_134 : BitVec 32 := 0#32
  let c1_i32_135 : BitVec 32 := 1#32
  let arg10 : BitVec 32 := Scf.iv c0_i32_134 c1_i32_135 k0_t1
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1283 : Index := Scalar.indexCast v362
  let c0_644 : Index := 0#32
  ![31, v1283.toNat, 0]
@[reducible] def k0_t2_loop : Scf.Loop 32 :=
  let c0_i32_257 : BitVec 32 := 0#32
  let c22_i32_258 : BitVec 32 := 22#32
  let v358 : BitVec 32 := Scalar.addi c0_i32_257 c22_i32_258
  let c1_i32_259 : BitVec 32 := 1#32
  ⟨c0_i32_257, v358, c1_i32_259⟩
def k0_mult2 (k0_t2 : Fin k0_t2_loop.trips) : BitVec 32 :=
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  v361
def k0_off52 (k0_t2 : Fin k0_t2_loop.trips) (c0_i32_264 : BitVec 32) : Fin 3 → Nat :=
  let c0_265 : Index := 0#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v363 : BitVec 32 := Scalar.addi v362 c0_i32_264
  let v364 : Index := Scalar.indexCast v363
  let c0_266 : Index := 0#32
  ![0, v364.toNat, 0]
def k0_off53 (k0_t2 : Fin k0_t2_loop.trips) (c0_i32_293 : BitVec 32) : Fin 3 → Nat :=
  let c1_294 : Index := 1#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v431 : BitVec 32 := Scalar.addi v362 c0_i32_293
  let v432 : Index := Scalar.indexCast v431
  let c0_295 : Index := 0#32
  ![1, v432.toNat, 0]
def k0_off54 (k0_t2 : Fin k0_t2_loop.trips) (c0_i32_329 : BitVec 32) : Fin 3 → Nat :=
  let c2_330 : Index := 2#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v499 : BitVec 32 := Scalar.addi v362 c0_i32_329
  let v500 : Index := Scalar.indexCast v499
  let c0_331 : Index := 0#32
  ![2, v500.toNat, 0]
def k0_off55 (k0_t2 : Fin k0_t2_loop.trips) : Fin 3 → Nat :=
  let c1_380 : Index := 1#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v615 : Index := Scalar.indexCast v362
  let c0_381 : Index := 0#32
  ![1, v615.toNat, 0]
def k0_off56 (k0_t2 : Fin k0_t2_loop.trips) : Fin 3 → Nat :=
  let c0_382 : Index := 0#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v619 : Index := Scalar.indexCast v362
  let c0_383 : Index := 0#32
  ![0, v619.toNat, 0]
def k0_off57 (k0_t2 : Fin k0_t2_loop.trips) : Fin 3 → Nat :=
  let c0_384 : Index := 0#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v623 : Index := Scalar.indexCast v362
  let c0_385 : Index := 0#32
  ![0, v623.toNat, 0]
def k0_off58 (k0_t2 : Fin k0_t2_loop.trips) : Fin 3 → Nat :=
  let c1_387 : Index := 1#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v631 : Index := Scalar.indexCast v362
  let c128_388 : Index := 128#32
  ![1, v631.toNat, 128]
def k0_off59 (k0_t2 : Fin k0_t2_loop.trips) : Fin 3 → Nat :=
  let c0_389 : Index := 0#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v635 : Index := Scalar.indexCast v362
  let c128_390 : Index := 128#32
  ![0, v635.toNat, 128]
def k0_off60 (k0_t2 : Fin k0_t2_loop.trips) : Fin 3 → Nat :=
  let c8 : Index := 8#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v639 : Index := Scalar.indexCast v362
  let c0_391 : Index := 0#32
  ![8, v639.toNat, 0]
def k0_off61 (k0_t2 : Fin k0_t2_loop.trips) : Fin 3 → Nat :=
  let c1_393 : Index := 1#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v647 : Index := Scalar.indexCast v362
  let c256_394 : Index := 256#32
  ![1, v647.toNat, 256]
def k0_off62 (k0_t2 : Fin k0_t2_loop.trips) : Fin 3 → Nat :=
  let c0_395 : Index := 0#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v651 : Index := Scalar.indexCast v362
  let c256_396 : Index := 256#32
  ![0, v651.toNat, 256]
def k0_off63 (k0_t2 : Fin k0_t2_loop.trips) : Fin 3 → Nat :=
  let c16 : Index := 16#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v655 : Index := Scalar.indexCast v362
  let c0_397 : Index := 0#32
  ![16, v655.toNat, 0]
def k0_off64 (k0_t2 : Fin k0_t2_loop.trips) : Fin 3 → Nat :=
  let c1_399 : Index := 1#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v663 : Index := Scalar.indexCast v362
  let c384_400 : Index := 384#32
  ![1, v663.toNat, 384]
def k0_off65 (k0_t2 : Fin k0_t2_loop.trips) : Fin 3 → Nat :=
  let c0_401 : Index := 0#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v667 : Index := Scalar.indexCast v362
  let c384_402 : Index := 384#32
  ![0, v667.toNat, 384]
def k0_off66 (k0_t2 : Fin k0_t2_loop.trips) : Fin 3 → Nat :=
  let c24 : Index := 24#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v671 : Index := Scalar.indexCast v362
  let c0_403 : Index := 0#32
  ![24, v671.toNat, 0]
def k0_off67 (k0_t2 : Fin k0_t2_loop.trips) : Fin 3 → Nat :=
  let c1_406 : Index := 1#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v681 : Index := Scalar.indexCast v362
  let c512_407 : Index := 512#32
  ![1, v681.toNat, 512]
def k0_off68 (k0_t2 : Fin k0_t2_loop.trips) : Fin 3 → Nat :=
  let c0_408 : Index := 0#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v685 : Index := Scalar.indexCast v362
  let c512_409 : Index := 512#32
  ![0, v685.toNat, 512]
def k0_off69 (k0_t2 : Fin k0_t2_loop.trips) : Fin 3 → Nat :=
  let c2_410 : Index := 2#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v689 : Index := Scalar.indexCast v362
  let c0_411 : Index := 0#32
  ![2, v689.toNat, 0]
def k0_off70 (k0_t2 : Fin k0_t2_loop.trips) : Fin 3 → Nat :=
  let c1_414 : Index := 1#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v699 : Index := Scalar.indexCast v362
  let c640_415 : Index := 640#32
  ![1, v699.toNat, 640]
def k0_off71 (k0_t2 : Fin k0_t2_loop.trips) : Fin 3 → Nat :=
  let c0_416 : Index := 0#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v703 : Index := Scalar.indexCast v362
  let c640_417 : Index := 640#32
  ![0, v703.toNat, 640]
def k0_off72 (k0_t2 : Fin k0_t2_loop.trips) : Fin 3 → Nat :=
  let c10 : Index := 10#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v707 : Index := Scalar.indexCast v362
  let c0_418 : Index := 0#32
  ![10, v707.toNat, 0]
def k0_off73 (k0_t2 : Fin k0_t2_loop.trips) : Fin 3 → Nat :=
  let c1_421 : Index := 1#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v717 : Index := Scalar.indexCast v362
  let c768 : Index := 768#32
  ![1, v717.toNat, 768]
def k0_off74 (k0_t2 : Fin k0_t2_loop.trips) : Fin 3 → Nat :=
  let c0_422 : Index := 0#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v721 : Index := Scalar.indexCast v362
  let c768_423 : Index := 768#32
  ![0, v721.toNat, 768]
def k0_off75 (k0_t2 : Fin k0_t2_loop.trips) : Fin 3 → Nat :=
  let c18 : Index := 18#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v725 : Index := Scalar.indexCast v362
  let c0_424 : Index := 0#32
  ![18, v725.toNat, 0]
def k0_off76 (k0_t2 : Fin k0_t2_loop.trips) : Fin 3 → Nat :=
  let c1_427 : Index := 1#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v735 : Index := Scalar.indexCast v362
  let c896 : Index := 896#32
  ![1, v735.toNat, 896]
def k0_off77 (k0_t2 : Fin k0_t2_loop.trips) : Fin 3 → Nat :=
  let c0_428 : Index := 0#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v739 : Index := Scalar.indexCast v362
  let c896_429 : Index := 896#32
  ![0, v739.toNat, 896]
def k0_off78 (k0_t2 : Fin k0_t2_loop.trips) : Fin 3 → Nat :=
  let c26 : Index := 26#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v743 : Index := Scalar.indexCast v362
  let c0_430 : Index := 0#32
  ![26, v743.toNat, 0]
def k0_off79 (k0_t2 : Fin k0_t2_loop.trips) : Fin 3 → Nat :=
  let c1_455 : Index := 1#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v803 : Index := Scalar.indexCast v362
  let c0_456 : Index := 0#32
  ![1, v803.toNat, 0]
def k0_off80 (k0_t2 : Fin k0_t2_loop.trips) : Fin 3 → Nat :=
  let c9 : Index := 9#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v819 : Index := Scalar.indexCast v362
  let c0_462 : Index := 0#32
  ![9, v819.toNat, 0]
def k0_off81 (k0_t2 : Fin k0_t2_loop.trips) : Fin 3 → Nat :=
  let c17 : Index := 17#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v835 : Index := Scalar.indexCast v362
  let c0_468 : Index := 0#32
  ![17, v835.toNat, 0]
def k0_off82 (k0_t2 : Fin k0_t2_loop.trips) : Fin 3 → Nat :=
  let c25 : Index := 25#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v851 : Index := Scalar.indexCast v362
  let c0_474 : Index := 0#32
  ![25, v851.toNat, 0]
def k0_off83 (k0_t2 : Fin k0_t2_loop.trips) : Fin 3 → Nat :=
  let c3 : Index := 3#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v869 : Index := Scalar.indexCast v362
  let c0_481 : Index := 0#32
  ![3, v869.toNat, 0]
def k0_off84 (k0_t2 : Fin k0_t2_loop.trips) : Fin 3 → Nat :=
  let c11 : Index := 11#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v887 : Index := Scalar.indexCast v362
  let c0_488 : Index := 0#32
  ![11, v887.toNat, 0]
def k0_off85 (k0_t2 : Fin k0_t2_loop.trips) : Fin 3 → Nat :=
  let c19 : Index := 19#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v905 : Index := Scalar.indexCast v362
  let c0_495 : Index := 0#32
  ![19, v905.toNat, 0]
def k0_off86 (k0_t2 : Fin k0_t2_loop.trips) : Fin 3 → Nat :=
  let c27 : Index := 27#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v923 : Index := Scalar.indexCast v362
  let c0_502 : Index := 0#32
  ![27, v923.toNat, 0]
def k0_off87 (k0_t2 : Fin k0_t2_loop.trips) : Fin 3 → Nat :=
  let c4 : Index := 4#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v983 : Index := Scalar.indexCast v362
  let c0_527 : Index := 0#32
  ![4, v983.toNat, 0]
def k0_off88 (k0_t2 : Fin k0_t2_loop.trips) : Fin 3 → Nat :=
  let c12 : Index := 12#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v999 : Index := Scalar.indexCast v362
  let c0_533 : Index := 0#32
  ![12, v999.toNat, 0]
def k0_off89 (k0_t2 : Fin k0_t2_loop.trips) : Fin 3 → Nat :=
  let c20 : Index := 20#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1015 : Index := Scalar.indexCast v362
  let c0_539 : Index := 0#32
  ![20, v1015.toNat, 0]
def k0_off90 (k0_t2 : Fin k0_t2_loop.trips) : Fin 3 → Nat :=
  let c28 : Index := 28#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1031 : Index := Scalar.indexCast v362
  let c0_545 : Index := 0#32
  ![28, v1031.toNat, 0]
def k0_off91 (k0_t2 : Fin k0_t2_loop.trips) : Fin 3 → Nat :=
  let c6 : Index := 6#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1049 : Index := Scalar.indexCast v362
  let c0_552 : Index := 0#32
  ![6, v1049.toNat, 0]
def k0_off92 (k0_t2 : Fin k0_t2_loop.trips) : Fin 3 → Nat :=
  let c14 : Index := 14#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1067 : Index := Scalar.indexCast v362
  let c0_559 : Index := 0#32
  ![14, v1067.toNat, 0]
def k0_off93 (k0_t2 : Fin k0_t2_loop.trips) : Fin 3 → Nat :=
  let c22 : Index := 22#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1085 : Index := Scalar.indexCast v362
  let c0_566 : Index := 0#32
  ![22, v1085.toNat, 0]
def k0_off94 (k0_t2 : Fin k0_t2_loop.trips) : Fin 3 → Nat :=
  let c30 : Index := 30#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1103 : Index := Scalar.indexCast v362
  let c0_573 : Index := 0#32
  ![30, v1103.toNat, 0]
def k0_off95 (k0_t2 : Fin k0_t2_loop.trips) : Fin 3 → Nat :=
  let c5 : Index := 5#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1163 : Index := Scalar.indexCast v362
  let c0_598 : Index := 0#32
  ![5, v1163.toNat, 0]
def k0_off96 (k0_t2 : Fin k0_t2_loop.trips) : Fin 3 → Nat :=
  let c13 : Index := 13#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1179 : Index := Scalar.indexCast v362
  let c0_604 : Index := 0#32
  ![13, v1179.toNat, 0]
def k0_off97 (k0_t2 : Fin k0_t2_loop.trips) : Fin 3 → Nat :=
  let c21 : Index := 21#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1195 : Index := Scalar.indexCast v362
  let c0_610 : Index := 0#32
  ![21, v1195.toNat, 0]
def k0_off98 (k0_t2 : Fin k0_t2_loop.trips) : Fin 3 → Nat :=
  let c29 : Index := 29#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1211 : Index := Scalar.indexCast v362
  let c0_616 : Index := 0#32
  ![29, v1211.toNat, 0]
def k0_off99 (k0_t2 : Fin k0_t2_loop.trips) : Fin 3 → Nat :=
  let c7 : Index := 7#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1229 : Index := Scalar.indexCast v362
  let c0_623 : Index := 0#32
  ![7, v1229.toNat, 0]
def k0_off100 (k0_t2 : Fin k0_t2_loop.trips) : Fin 3 → Nat :=
  let c15 : Index := 15#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1247 : Index := Scalar.indexCast v362
  let c0_630 : Index := 0#32
  ![15, v1247.toNat, 0]
def k0_off101 (k0_t2 : Fin k0_t2_loop.trips) : Fin 3 → Nat :=
  let c23 : Index := 23#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1265 : Index := Scalar.indexCast v362
  let c0_637 : Index := 0#32
  ![23, v1265.toNat, 0]
def k0_off102 (k0_t2 : Fin k0_t2_loop.trips) : Fin 3 → Nat :=
  let c31 : Index := 31#32
  let c0_i32_262 : BitVec 32 := 0#32
  let c0_i32_257 : BitVec 32 := 0#32
  let c1_i32_259 : BitVec 32 := 1#32
  let arg10 : BitVec 32 := Scf.iv c0_i32_257 c1_i32_259 k0_t2
  let c1_i32_261 : BitVec 32 := 1#32
  let v359 : BitVec 32 := Scalar.muli arg10 c1_i32_261
  let v360 : BitVec 32 := Scalar.addi c0_i32_262 v359
  let c32_i32_263 : BitVec 32 := 32#32
  let v361 : BitVec 32 := Scalar.muli v360 c32_i32_263
  let v362 : BitVec 32 := v361
  let v1283 : Index := Scalar.indexCast v362
  let c0_644 : Index := 0#32
  ![31, v1283.toNat, 0]
abbrev stage0_0 : Fin 1 → Memref sig .tc .vmem S3x512x688 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x688 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x688 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x704x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x704x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ScalesReferenceIdeal.lean ====
abbrev S3x512x688 : Shape := ⟨3, ![3, 512, 688]⟩
abbrev S256x688 : Shape := ⟨2, ![256, 688]⟩
abbrev S8x1x1 : Shape := ⟨3, ![8, 1, 1]⟩
abbrev S1x512x688 : Shape := ⟨3, ![1, 512, 688]⟩
abbrev S512x688 : Shape := ⟨2, ![512, 688]⟩
abbrev S8x512x688 : Shape := ⟨3, ![8, 512, 688]⟩
abbrev S_ : Shape := ⟨0, ![]⟩
abbrev S256x16x688 : Shape := ⟨3, ![256, 16, 688]⟩
abbrev S256x1x688 : Shape := ⟨3, ![256, 1, 688]⟩
abbrev S4096x688 : Shape := ⟨2, ![4096, 688]⟩
abbrev S4096x16 : Shape := ⟨2, ![4096, 16]⟩
abbrev S4096x704 : Shape := ⟨2, ![4096, 704]⟩
abbrev S2x4x128x2x2x704 : Shape := ⟨6, ![2, 4, 128, 2, 2, 704]⟩
abbrev S4x2x2x2x704x128 : Shape := ⟨6, ![4, 2, 2, 2, 704, 128]⟩
abbrev S32x704x128 : Shape := ⟨3, ![32, 704, 128]⟩

abbrev nBuf : Space → Nat
  | .hbm => 116
  | .vmem => 0
  | .smem => 0
  | _ => 0

abbrev bufTy : (tb : Table) → Fin (tcTables nBuf tb) → BufTy
  | .hbm, ⟨0, _⟩ => ⟨S3x512x688, .i8⟩
  | .hbm, ⟨1, _⟩ => ⟨S3x512x688, .i8⟩
  | .hbm, ⟨2, _⟩ => ⟨S256x688, .bf16⟩
  | .hbm, ⟨3, _⟩ => ⟨S256x688, .bf16⟩
  | .hbm, ⟨4, _⟩ => ⟨S256x688, .bf16⟩
  | .hbm, ⟨5, _⟩ => ⟨S256x688, .bf16⟩
  | .hbm, ⟨6, _⟩ => ⟨S3x512x688, .i32⟩
  | .hbm, ⟨7, _⟩ => ⟨S8x1x1, .i32⟩
  | .hbm, ⟨8, _⟩ => ⟨S1x512x688, .i32⟩
  | .hbm, ⟨9, _⟩ => ⟨S512x688, .i32⟩
  | .hbm, ⟨10, _⟩ => ⟨S1x512x688, .i32⟩
  | .hbm, ⟨11, _⟩ => ⟨S8x512x688, .i32⟩
  | .hbm, ⟨12, _⟩ => ⟨S8x512x688, .i32⟩
  | .hbm, ⟨13, _⟩ => ⟨S8x512x688, .i32⟩
  | .hbm, ⟨14, _⟩ => ⟨S_, .i32⟩
  | .hbm, ⟨15, _⟩ => ⟨S8x512x688, .i32⟩
  | .hbm, ⟨16, _⟩ => ⟨S8x512x688, .i32⟩
  | .hbm, ⟨17, _⟩ => ⟨S_, .i32⟩
  | .hbm, ⟨18, _⟩ => ⟨S8x512x688, .i32⟩
  | .hbm, ⟨19, _⟩ => ⟨S8x512x688, .i32⟩
  | .hbm, ⟨20, _⟩ => ⟨S1x512x688, .i32⟩
  | .hbm, ⟨21, _⟩ => ⟨S512x688, .i32⟩
  | .hbm, ⟨22, _⟩ => ⟨S1x512x688, .i32⟩
  | .hbm, ⟨23, _⟩ => ⟨S8x512x688, .i32⟩
  | .hbm, ⟨24, _⟩ => ⟨S8x512x688, .i32⟩
  | .hbm, ⟨25, _⟩ => ⟨S8x512x688, .i32⟩
  | .hbm, ⟨26, _⟩ => ⟨S_, .i32⟩
  | .hbm, ⟨27, _⟩ => ⟨S8x512x688, .i32⟩
  | .hbm, ⟨28, _⟩ => ⟨S8x512x688, .i32⟩
  | .hbm, ⟨29, _⟩ => ⟨S_, .i32⟩
  | .hbm, ⟨30, _⟩ => ⟨S8x512x688, .i32⟩
  | .hbm, ⟨31, _⟩ => ⟨S8x512x688, .i32⟩
  | .hbm, ⟨32, _⟩ => ⟨S1x512x688, .i32⟩
  | .hbm, ⟨33, _⟩ => ⟨S512x688, .i32⟩
  | .hbm, ⟨34, _⟩ => ⟨S1x512x688, .i32⟩
  | .hbm, ⟨35, _⟩ => ⟨S8x512x688, .i32⟩
  | .hbm, ⟨36, _⟩ => ⟨S8x512x688, .i32⟩
  | .hbm, ⟨37, _⟩ => ⟨S8x512x688, .i32⟩
  | .hbm, ⟨38, _⟩ => ⟨S_, .i32⟩
  | .hbm, ⟨39, _⟩ => ⟨S8x512x688, .i32⟩
  | .hbm, ⟨40, _⟩ => ⟨S8x512x688, .i32⟩
  | .hbm, ⟨41, _⟩ => ⟨S_, .i32⟩
  | .hbm, ⟨42, _⟩ => ⟨S8x512x688, .i32⟩
  | .hbm, ⟨43, _⟩ => ⟨S8x512x688, .i32⟩
  | .hbm, ⟨44, _⟩ => ⟨S8x512x688, .i32⟩
  | .hbm, ⟨45, _⟩ => ⟨S8x512x688, .i32⟩
  | .hbm, ⟨46, _⟩ => ⟨S8x512x688, .bf16⟩
  | .hbm, ⟨47, _⟩ => ⟨S256x16x688, .bf16⟩
  | .hbm, ⟨48, _⟩ => ⟨S256x1x688, .bf16⟩
  | .hbm, ⟨49, _⟩ => ⟨S256x16x688, .bf16⟩
  | .hbm, ⟨50, _⟩ => ⟨S256x16x688, .bf16⟩
  | .hbm, ⟨51, _⟩ => ⟨S256x1x688, .bf16⟩
  | .hbm, ⟨52, _⟩ => ⟨S256x16x688, .bf16⟩
  | .hbm, ⟨53, _⟩ => ⟨S256x16x688, .bf16⟩
  | .hbm, ⟨54, _⟩ => ⟨S4096x688, .bf16⟩
  | .hbm, ⟨55, _⟩ => ⟨S_, .bf16⟩
  | .hbm, ⟨56, _⟩ => ⟨S4096x16, .bf16⟩
  | .hbm, ⟨57, _⟩ => ⟨S4096x704, .bf16⟩
  | .hbm, ⟨58, _⟩ => ⟨S2x4x128x2x2x704, .bf16⟩
  | .hbm, ⟨59, _⟩ => ⟨S4x2x2x2x704x128, .bf16⟩
  | .hbm, ⟨60, _⟩ => ⟨S32x704x128, .bf16⟩
  | .hbm, ⟨61, _⟩ => ⟨S3x512x688, .i32⟩
  | .hbm, ⟨62, _⟩ => ⟨S8x1x1, .i32⟩
  | .hbm, ⟨63, _⟩ => ⟨S1x512x688, .i32⟩
  | .hbm, ⟨64, _⟩ => ⟨S512x688, .i32⟩
  | .hbm, ⟨65, _⟩ => ⟨S1x512x688, .i32⟩
  | .hbm, ⟨66, _⟩ => ⟨S8x512x688, .i32⟩
  | .hbm, ⟨67, _⟩ => ⟨S8x512x688, .i32⟩
  | .hbm, ⟨68, _⟩ => ⟨S8x512x688, .i32⟩
  | .hbm, ⟨69, _⟩ => ⟨S_, .i32⟩
  | .hbm, ⟨70, _⟩ => ⟨S8x512x688, .i32⟩
  | .hbm, ⟨71, _⟩ => ⟨S8x512x688, .i32⟩
  | .hbm, ⟨72, _⟩ => ⟨S_, .i32⟩
  | .hbm, ⟨73, _⟩ => ⟨S8x512x688, .i32⟩
  | .hbm, ⟨74, _⟩ => ⟨S8x512x688, .i32⟩
  | .hbm, ⟨75, _⟩ => ⟨S1x512x688, .i32⟩
  | .hbm, ⟨76, _⟩ => ⟨S512x688, .i32⟩
  | .hbm, ⟨77, _⟩ => ⟨S1x512x688, .i32⟩
  | .hbm, ⟨78, _⟩ => ⟨S8x512x688, .i32⟩
  | .hbm, ⟨79, _⟩ => ⟨S8x512x688, .i32⟩
  | .hbm, ⟨80, _⟩ => ⟨S8x512x688, .i32⟩
  | .hbm, ⟨81, _⟩ => ⟨S_, .i32⟩
  | .hbm, ⟨82, _⟩ => ⟨S8x512x688, .i32⟩
  | .hbm, ⟨83, _⟩ => ⟨S8x512x688, .i32⟩
  | .hbm, ⟨84, _⟩ => ⟨S_, .i32⟩
  | .hbm, ⟨85, _⟩ => ⟨S8x512x688, .i32⟩
  | .hbm, ⟨86, _⟩ => ⟨S8x512x688, .i32⟩
  | .hbm, ⟨87, _⟩ => ⟨S1x512x688, .i32⟩
  | .hbm, ⟨88, _⟩ => ⟨S512x688, .i32⟩
  | .hbm, ⟨89, _⟩ => ⟨S1x512x688, .i32⟩
  | .hbm, ⟨90, _⟩ => ⟨S8x512x688, .i32⟩
  | .hbm, ⟨91, _⟩ => ⟨S8x512x688, .i32⟩
  | .hbm, ⟨92, _⟩ => ⟨S8x512x688, .i32⟩
  | .hbm, ⟨93, _⟩ => ⟨S_, .i32⟩
  | .hbm, ⟨94, _⟩ => ⟨S8x512x688, .i32⟩
  | .hbm, ⟨95, _⟩ => ⟨S8x512x688, .i32⟩
  | .hbm, ⟨96, _⟩ => ⟨S_, .i32⟩
  | .hbm, ⟨97, _⟩ => ⟨S8x512x688, .i32⟩
  | .hbm, ⟨98, _⟩ => ⟨S8x512x688, .i32⟩
  | .hbm, ⟨99, _⟩ => ⟨S8x512x688, .i32⟩
  | .hbm, ⟨100, _⟩ => ⟨S8x512x688, .i32⟩
  | .hbm, ⟨101, _⟩ => ⟨S8x512x688, .bf16⟩
  | .hbm, ⟨102, _⟩ => ⟨S256x16x688, .bf16⟩
  | .hbm, ⟨103, _⟩ => ⟨S256x1x688, .bf16⟩
  | .hbm, ⟨104, _⟩ => ⟨S256x16x688, .bf16⟩
  | .hbm, ⟨105, _⟩ => ⟨S256x16x688, .bf16⟩
  | .hbm, ⟨106, _⟩ => ⟨S256x1x688, .bf16⟩
  | .hbm, ⟨107, _⟩ => ⟨S256x16x688, .bf16⟩
  | .hbm, ⟨108, _⟩ => ⟨S256x16x688, .bf16⟩
  | .hbm, ⟨109, _⟩ => ⟨S4096x688, .bf16⟩
  | .hbm, ⟨110, _⟩ => ⟨S_, .bf16⟩
  | .hbm, ⟨111, _⟩ => ⟨S4096x16, .bf16⟩
  | .hbm, ⟨112, _⟩ => ⟨S4096x704, .bf16⟩
  | .hbm, ⟨113, _⟩ => ⟨S2x4x128x2x2x704, .bf16⟩
  | .hbm, ⟨114, _⟩ => ⟨S4x2x2x2x704x128, .bf16⟩
  | .hbm, ⟨115, _⟩ => ⟨S32x704x128, .bf16⟩
  | _, _ => ⟨S3x512x688, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_5 : Ref sig .tc := ⟨.hbm, 69, rfl⟩
abbrev main_v56 : Ref sig .tc := ⟨.hbm, 70, rfl⟩
abbrev main_v57 : Ref sig .tc := ⟨.hbm, 71, rfl⟩
abbrev main_c_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_7 : Ref sig .tc := ⟨.hbm, 81, rfl⟩
abbrev main_v66 : Ref sig .tc := ⟨.hbm, 82, rfl⟩
abbrev main_v67 : Ref sig .tc := ⟨.hbm, 83, rfl⟩
abbrev main_c_8 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c_9 : Ref sig .tc := ⟨.hbm, 93, rfl⟩
abbrev main_v76 : Ref sig .tc := ⟨.hbm, 94, rfl⟩
abbrev main_v77 : Ref sig .tc := ⟨.hbm, 95, rfl⟩
abbrev main_c_10 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_11 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩

abbrev nD : Nat := 1
abbrev τ : Topo := Topo.v7x

variable {F : FTy → Type} [FloatOps F]
-- ==== Proof.KernelLoops.lean ====
/-
  The five counted loops of the kernel's body, each from an invariant that says which buffers it reads (kept as they
  were) and which it writes (left at some contents).
-/
module

public import proofs.«01_k».proof.Proof.Gen.Kernel.Loops
public import proofs.«01_k».proof.Proof.Gen.Kernel.Frame

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (𝒱 : Variants) (c : Dev nD) (bd : Option 𝒱.V) (E : Set ℕ) (i : grid0.Coords) (arg1 : Memref sig .tc .vmem S1x344x2x8x128 .i32) (harg1 : arg1.IsWhole) (arg2 : Memref sig .tc .vmem S4x352x128 .i32) (harg2 : arg2.IsWhole) (arg3 : Memref sig .tc .vmem S4x352x128 .i32) (harg3 : arg3.IsWhole) (arg4 : Memref sig .tc .vmem S2x4x64x128 .i32) (harg4 : arg4.IsWhole) (arg5 : Memref sig .tc .vmem S256x11008 .bf16) (harg5 : arg5.IsWhole) (arg6 : Memref sig .tc .vmem S256x4096 .bf16) (harg6 : arg6.IsWhole) (arg7 : Memref sig .tc .vmem S4x688x128 .i32) (harg7 : arg7.IsWhole) (arg8 : Memref sig .tc .vmem S4x688x128 .i32) (harg8 : arg8.IsWhole) (arg9 : Memref sig .tc .vmem S4x11008x128 .bf16) (harg9 : arg9.IsWhole) (arg10 : Memref sig .tc .vmem S2x2x256x256 .bf16) (harg10 : arg10.IsWhole)

set_option sl_exec.squeezeSlice true in
set_option maxHeartbeats 2000000 in
/-- The outlier table's words unpacked for tile 0: the table is read, the two word buffers are written. -/
@[sl_loop, implicit_reducible] def loop1  (X4 : BufTy.Contents (Elt F) arg4.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10  where
  inv k _ := iprop((arg4.view.loc (c : Thread nD τ) ↦[arg4.view.set]{fullShare} X4) ∗ (∃ f7, (arg7.view.loc (c : Thread nD τ) ↦[arg7.view.set]{fullShare} f7)) ∗ (∃ f8, (arg8.view.loc (c : Thread nD τ) ↦[arg8.view.set]{fullShare} f8)))
  step k acc := by
    have hk : k.val < 86 := Nat.lt_of_lt_of_le k.isLt k0_t1_abs.2.1
    unfold k0_t1_body
    iintro ⟨H4, ⟨%f7, H7⟩, ⟨%f8, H8⟩⟩
    sl_exec
    sl_step
    isplitl [H4]; · iexact H4
    isplitl [H7]; · iexists _; iexact H7
    iexists _; iexact H8

set_option sl_exec.squeezeSlice true in
set_option maxHeartbeats 2000000 in
/-- The outlier table's words unpacked for tile 1: the table is read, the two word buffers are written. -/
@[sl_loop, implicit_reducible] def loop2 (arg0 : BitVec 32) (v0 : IVec S8x128 32) (v14 : IVec S16x128 16) (X4 : BufTy.Contents (Elt F) arg4.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg0 v0 v14 where
  inv k _ := iprop((arg4.view.loc (c : Thread nD τ) ↦[arg4.view.set]{fullShare} X4) ∗ (∃ f7, (arg7.view.loc (c : Thread nD τ) ↦[arg7.view.set]{fullShare} f7)) ∗ (∃ f8, (arg8.view.loc (c : Thread nD τ) ↦[arg8.view.set]{fullShare} f8)))
  step k acc := by
    have hk : k.val < 86 := Nat.lt_of_lt_of_le k.isLt k0_t2_abs.2.1
    unfold k0_t2_body
    iintro ⟨H4, ⟨%f7, H7⟩, ⟨%f8, H8⟩⟩
    sl_exec
    sl_step
    isplitl [H4]; · iexact H4
    isplitl [H7]; · iexists _; iexact H7
    iexists _; iexact H8

set_option sl_exec.squeezeSlice true in
set_option maxHeartbeats 2000000 in
/-- The outlier table's words unpacked for tile 2: the table is read, the two word buffers are written. -/
@[sl_loop, implicit_reducible] def loop3 (arg0 : BitVec 32) (v0 : IVec S8x128 32) (v14 : IVec S16x128 16) (v74 : IVec S8x128 32) (X4 : BufTy.Contents (Elt F) arg4.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg0 v0 v14 v74 where
  inv k _ := iprop((arg4.view.loc (c : Thread nD τ) ↦[arg4.view.set]{fullShare} X4) ∗ (∃ f7, (arg7.view.loc (c : Thread nD τ) ↦[arg7.view.set]{fullShare} f7)) ∗ (∃ f8, (arg8.view.loc (c : Thread nD τ) ↦[arg8.view.set]{fullShare} f8)))
  step k acc := by
    have hk : k.val < 86 := Nat.lt_of_lt_of_le k.isLt k0_t3_abs.2.1
    unfold k0_t3_body
    iintro ⟨H4, ⟨%f7, H7⟩, ⟨%f8, H8⟩⟩
    sl_exec
    sl_step
    isplitl [H4]; · iexact H4
    isplitl [H7]; · iexists _; iexact H7
    iexists _; iexact H8

set_option sl_exec.squeezeSlice true in
set_option maxHeartbeats 2000000 in
/-- The outlier table's words unpacked for tile 3: the table is read, the two word buffers are written. -/
@[sl_loop, implicit_reducible] def loop4 (arg0 : BitVec 32) (v0 : IVec S8x128 32) (v14 : IVec S16x128 16) (v74 : IVec S8x128 32) (X4 : BufTy.Contents (Elt F) arg4.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg0 v0 v14 v74 where
  inv k _ := iprop((arg4.view.loc (c : Thread nD τ) ↦[arg4.view.set]{fullShare} X4) ∗ (∃ f7, (arg7.view.loc (c : Thread nD τ) ↦[arg7.view.set]{fullShare} f7)) ∗ (∃ f8, (arg8.view.loc (c : Thread nD τ) ↦[arg8.view.set]{fullShare} f8)))
  step k acc := by
    have hk : k.val < 86 := Nat.lt_of_lt_of_le k.isLt k0_t4_abs.2.1
    unfold k0_t4_body
    iintro ⟨H4, ⟨%f7, H7⟩, ⟨%f8, H8⟩⟩
    sl_exec
    sl_step
    isplitl [H4]; · iexact H4
    isplitl [H7]; · iexists _; iexact H7
    iexists _; iexact H8

set_option maxHeartbeats 2000000 in
/-- The weights built: the packed codes, scales, zeros and the unpacked words are read, the weight buffer is written. -/
@[sl_loop, implicit_reducible] def loop5 (arg0 : BitVec 32) (f1 : BufTy.Contents (Elt F) arg1.view.ty) (f2 : BufTy.Contents (Elt F) arg2.view.ty) (f3 : BufTy.Contents (Elt F) arg3.view.ty) (f7 : BufTy.Contents (Elt F) arg7.view.ty) (f8 : BufTy.Contents (Elt F) arg8.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg0 where
  inv k _ := iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg7.view.loc (c : Thread nD τ) ↦[arg7.view.set]{fullShare} f7) ∗ (arg8.view.loc (c : Thread nD τ) ↦[arg8.view.set]{fullShare} f8) ∗ ∃ f9, (arg9.view.loc (c : Thread nD τ) ↦[arg9.view.set]{fullShare} f9))
  step k acc := by
    have hk : k.val < 344 := Nat.lt_of_lt_of_le k.isLt k0_t5_abs.2.1
    unfold k0_t5_body
    iintro ⟨H1, H2, H3, H7, H8, %f9, H9⟩
    sl_exec
    sl_step
    isplitl [H1]; · iexact H1
    isplitl [H2]; · iexact H2
    isplitl [H3]; · iexact H3
    isplitl [H7]; · iexact H7
    isplitl [H8]; · iexact H8
    iexists _; iexact H9

end

end Cert.Kernel.Body

end
-- ==== Proof.KernelGeometry.lean ====
/-
  The closed forms of the body's offsets that depend on the grid point, and the condition of its branch.
-/
module

public import proofs.«01_k».proof.Proof.Gen.Kernel.Loops

@[expose] public section

set_option maxRecDepth 16384

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The body's branch is taken at the odd points of the grid. -/
theorem cond_iff (i : grid0.Coords) : k0_cond1 i = 1#1 ↔ (i 0).val % 2 = 1 := by
  unfold k0_cond1; generalize i 0 = n; revert n; decide +kernel
/-- The first half's products go to the plane of the point's parity. -/
theorem off23_eq (i : grid0.Coords) : k0_off23 i = ![0, (i 0).val % 2, 0, 0] := by
  unfold k0_off23; generalize i 0 = n; revert n; decide +kernel
/-- The second half's products go to the plane of the point's parity. -/
theorem off24_eq (i : grid0.Coords) : k0_off24 i = ![1, (i 0).val % 2, 0, 0] := by
  unfold k0_off24; generalize i 0 = n; revert n; decide +kernel
/-- The columns of the result that a pair of points writes. -/
theorem off25_eq (i : grid0.Coords) (r : Fin 2) : k0_off25 i (BitVec.ofNat 32 (4 * r.val)) = ![0, 512 * ((i 0).val / 2 + 4 * r.val)] := by
  unfold k0_off25; generalize i 0 = n; revert n r; decide +kernel
/-- `off23_eq` as the executor reads it. -/
instance off23_form (i : grid0.Coords) : ClosedOff (k0_off23 i) := ⟨_, off23_eq i⟩
/-- `off24_eq` as the executor reads it. -/
instance off24_form (i : grid0.Coords) : ClosedOff (k0_off24 i) := ⟨_, off24_eq i⟩
/-- `off25_eq` as the executor reads it, first half. -/
instance off25_form0 (i : grid0.Coords) : ClosedOff (k0_off25 i 0#32) := ⟨![0, 512 * ((i 0).val / 2)], off25_eq i 0⟩
/-- `off25_eq` as the executor reads it, second half. -/
instance off25_form1 (i : grid0.Coords) : ClosedOff (k0_off25 i 4#32) := ⟨![0, 512 * ((i 0).val / 2 + 4)], off25_eq i 1⟩

end Cert.Kernel.Body

end
-- ==== Proof.KernelRun.lean ====
/-
  The kernel's body run once, at a symbolic grid point: it reads its five operands, leaves the result's window and its
  four scratch buffers at some contents.
-/
module

public import proofs.«01_k».proof.Proof.KernelLoops
public import proofs.«01_k».proof.Proof.KernelGeometry

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (𝒱 : Variants) (c : Dev nD) (bd : Option 𝒱.V) (E : Set ℕ) (i : grid0.Coords) (arg1 : Memref sig .tc .vmem S1x344x2x8x128 .i32) (harg1 : arg1.IsWhole) (arg2 : Memref sig .tc .vmem S4x352x128 .i32) (harg2 : arg2.IsWhole) (arg3 : Memref sig .tc .vmem S4x352x128 .i32) (harg3 : arg3.IsWhole) (arg4 : Memref sig .tc .vmem S2x4x64x128 .i32) (harg4 : arg4.IsWhole) (arg5 : Memref sig .tc .vmem S256x11008 .bf16) (harg5 : arg5.IsWhole) (arg6 : Memref sig .tc .vmem S256x4096 .bf16) (harg6 : arg6.IsWhole) (arg7 : Memref sig .tc .vmem S4x688x128 .i32) (harg7 : arg7.IsWhole) (arg8 : Memref sig .tc .vmem S4x688x128 .i32) (harg8 : arg8.IsWhole) (arg9 : Memref sig .tc .vmem S4x11008x128 .bf16) (harg9 : arg9.IsWhole) (arg10 : Memref sig .tc .vmem S2x2x256x256 .bf16) (harg10 : arg10.IsWhole)

set_option maxHeartbeats 2000000 in
/-- The body from ten whole buffers: the five operands come back as they were, the other five at some contents. -/
theorem run (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
    ⊢ wp frame (wpE (defs₀ (F := F)) 𝒱 (c : Thread nD τ) bd) E (cc0_spqr_main (F := F) i arg1 harg1 arg2 harg2 arg3 harg3 arg4 harg4 arg5 harg5 arg6 harg6 arg7 harg7 arg8 harg8 arg9 harg9 arg10 harg10)
      (fun _ => (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))) : sProp 𝕄)) := by
  rw [cc0_spqr_main_eq_skeleton]; unfold cc0_spqr_main_skel
  simp only [k0_part21_eq_skeleton, k0_part22_eq_skeleton, k0_part23_eq_skeleton, k0_part24_eq_skeleton, k0_part20_eq_skeleton]
  iintro ⟨H1, H2, H3, H4, H5, H6, H7, H8, H9, H10⟩
  by_cases h : k0_cond1 i = 1#1
  all_goals
    sl_exec
    sl_step
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iexists _; iexact H10

/-- `run` over buffers named by what they read. -/
theorem run_owns (B1 : _) (B2 : _) (B3 : _) (B4 : _) (B5 : _) :
    iprop(owns (c : Thread nD τ) arg1 fullShare B1 ∗ owns (c : Thread nD τ) arg2 fullShare B2 ∗ owns (c : Thread nD τ) arg3 fullShare B3 ∗ owns (c : Thread nD τ) arg4 fullShare B4 ∗ owns (c : Thread nD τ) arg5 fullShare B5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d))
    ⊢ wp frame (wpE (defs₀ (F := F)) 𝒱 (c : Thread nD τ) bd) E (cc0_spqr_main (F := F) i arg1 harg1 arg2 harg2 arg3 harg3 arg4 harg4 arg5 harg5 arg6 harg6 arg7 harg7 arg8 harg8 arg9 harg9 arg10 harg10)
      (fun _ => (iprop(owns (c : Thread nD τ) arg1 fullShare B1 ∗ owns (c : Thread nD τ) arg2 fullShare B2 ∗ owns (c : Thread nD τ) arg3 fullShare B3 ∗ owns (c : Thread nD τ) arg4 fullShare B4 ∗ owns (c : Thread nD τ) arg5 fullShare B5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) : sProp 𝕄)) := by
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩⟩
  iapply (wp_wand_r Idealize.ShloMosaic.frame (wpE (defs₀ (F := F)) 𝒱 (c : Thread nD τ) bd) E)
  isplitl [H1 H2 H3 H4 H5 H6 H7 H8 H9 H10]
  · iapply (run 𝒱 c bd E i arg1 harg1 arg2 harg2 arg3 harg3 arg4 harg4 arg5 harg5 arg6 harg6 arg7 harg7 arg8 harg8 arg9 harg9 arg10 harg10 f1 f2 f3 f4 f5 f6 f7 f8 f9 f10)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %_ ⟨H1, H2, H3, H4, H5, ⟨%g6, H6⟩, ⟨%g7, H7⟩, ⟨%g8, H8⟩, ⟨%g9, H9⟩, ⟨%g10, H10⟩⟩
    isplitl [H1]; · iexists f1; isplitr; · ipureintro; exact h1
                    iexact H1
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    isplitl [H9]; · iexists _, _; isplitr; swap; · iexact H9
                    ipureintro; rfl
    iexists _, _; isplitr; swap; · iexact H10
    ipureintro; rfl

end

end Cert.Kernel.Body

end
-- ==== Proof.KernelFrame.lean ====
/-
  The frame of the kernel: from any memory with zero counters it runs to its end, its five arguments end as they
  were and every counter reads zero.
-/
module

public import proofs.«01_k».proof.Proof.KernelRun
public import Idealize.ShloMosaic.Lib.Pipeline.Frame

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The invariant between points: the four scratch buffers at some contents and the generator's register. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ ∃ r, prngReg c r) := by
  unfold Pipeline.ΦA; rw [scopedRest0_eq]; simp only [owns_whole]; try rfl

/-- The window of the result is the one whose contents are not named. -/
def forgets0 : Fin 6 → Bool := fun w => w.val == 5

/-- The proof data: each argument's window is left as found, the result's window unnamed. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => Pipeline.Dat.unnamed (cfg := cfg0) 5 t
    | ⟨_ + 6, h⟩ => absurd h (Nat.not_lt.2 (Nat.le_add_left _ _))
  Φ _ := Pipeline.ΦA spec0 c
  q _ := fullShare
  owed _ := 0

/-- The arrays are the launch memory's. -/
theorem A_eq (c : Dev nD) (w : Fin cfg0.W) : (dats m 0 c).A w = V m c (Pipeline.arrRef spec0 w) := by dsimp only [dats]

/-- The staging memrefs of the windows at a point. -/
abbrev stg (w : Fin 6) (t : Fin cfg0.N) := (cfg0.win w).stage (cfg0.slots t w)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (stg 0 t) fullShare ((dats m 0 c).before 0 t d))
    ∗ (∃ d, owns (c : Thread nD τ) (stg 1 t) fullShare ((dats m 0 c).before 1 t d))
    ∗ (∃ d, owns (c : Thread nD τ) (stg 2 t) fullShare ((dats m 0 c).before 2 t d))
    ∗ (∃ d, owns (c : Thread nD τ) (stg 3 t) fullShare ((dats m 0 c).before 3 t d))
    ∗ (∃ d, owns (c : Thread nD τ) (stg 4 t) fullShare ((dats m 0 c).before 4 t d))
    ∗ (∃ d, owns (c : Thread nD τ) (stg 5 t) fullShare d))

/-- What the body returns at a point. -/
def bodyPost (c : Dev nD) (t : Fin cfg0.N) : sProp 𝕄 :=
  iprop((dats m 0 c).Φ t.succ ∗ (dats m 0 c).owesAt () t.succ
    ∗ owns (c : Thread nD τ) (stg 0 t) fullShare ((dats m 0 c).after 0 t)
    ∗ owns (c : Thread nD τ) (stg 1 t) fullShare ((dats m 0 c).after 1 t)
    ∗ owns (c : Thread nD τ) (stg 2 t) fullShare ((dats m 0 c).after 2 t)
    ∗ owns (c : Thread nD τ) (stg 3 t) fullShare ((dats m 0 c).after 3 t)
    ∗ owns (c : Thread nD τ) (stg 4 t) fullShare ((dats m 0 c).after 4 t)
    ∗ (∃ d, owns (c : Thread nD τ) (stg 5 t) fullShare d))

/-- The body at a point: the invariant opened, `run_owns`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl)]
  iintro ⟨⟨⟨HS0, HS1, HS2, HS3⟩, Hg⟩, HO, ⟨%d0, H0⟩, ⟨%d1, H1⟩, ⟨%d2, H2⟩, ⟨%d3, H3⟩, ⟨%d4, H4⟩, H5⟩
  iapply (wp_wand_r Idealize.ShloMosaic.frame (wpE (defs₀ (F := F)) Variants.none (c : Thread nD τ) none) Set.univ)
  isplitl [HS0 HS1 HS2 HS3 H0 H1 H2 H3 H4 H5]
  · iapply (run_owns Variants.none c none Set.univ (grid0.coords t) _ _ _ _ _ _ _ _ _ _ _ _ _ _ _ _ _ _ _ _ (iblk m c 0 t) (iblk m c 1 t) (iblk m c 2 t) (iblk m c 3 t) (iblk m c 4 t))
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iexact HS3
  · iintro %_ ⟨H0, H1, H2, H3, H4, H5, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [HO]; · iexact HO
    isplitl [H0]; · iexact H0
    isplitl [H1]; · iexact H1
    isplitl [H2]; · iexact H2
    isplitl [H3]; · iexact H3
    isplitl [H4]; · iexact H4
    iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation with the result's window unnamed. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole program's run: the arrays as the relational data say, every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl) (hQ' := fun _ h => h)

/-- An argument's array ends as it was at launch. -/
theorem final_in {r : PUnit × MemSt nD τ sig (Elt F)}
    (h : Pipeline.RDat.FramePost (cfgs 0) (fun c => (dats (F := F) m 0 c).toRForget forgets0) (V m) r) (c : Dev nD)
    (w : Fin cfg0.W) (hw : (cfg0.win w).isOut = false) :
    r.2.mem ((c : Thread nD τ).loc (Pipeline.arrRef spec0 w)) = V m c (Pipeline.arrRef spec0 w) :=
  (Pipeline.RDat.FramePost.arr_in h c w hw).trans (A_eq m c w)

/-- The frame claim of the kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨final_in m h.1 c 0 rfl, final_in m h.1 c 1 rfl, final_in m h.1 c 2 rfl,
    final_in m h.1 c 3 rfl, final_in m h.1 c 4 rfl⟩, h.2⟩) (run_main m ρ)

end Cert.Kernel.Body

end
-- ==== Proof.IdealGeometry.lean ====
/-
  The closed forms of the body's offsets that depend on the grid point, and the condition of its branch.
-/
module

public import proofs.«01_k».proof.Proof.Gen.KernelIdeal.Loops

@[expose] public section

set_option maxRecDepth 16384

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The body's branch is taken at the odd points of the grid. -/
theorem cond_iff (i : grid0.Coords) : k0_cond1 i = 1#1 ↔ (i 0).val % 2 = 1 := by
  unfold k0_cond1; generalize i 0 = n; revert n; decide +kernel
/-- The first half's products go to the plane of the point's parity. -/
theorem off23_eq (i : grid0.Coords) : k0_off23 i = ![0, (i 0).val % 2, 0, 0] := by
  unfold k0_off23; generalize i 0 = n; revert n; decide +kernel
/-- The second half's products go to the plane of the point's parity. -/
theorem off24_eq (i : grid0.Coords) : k0_off24 i = ![1, (i 0).val % 2, 0, 0] := by
  unfold k0_off24; generalize i 0 = n; revert n; decide +kernel
/-- The columns of the result that a pair of points writes. -/
theorem off25_eq (i : grid0.Coords) (r : Fin 2) : k0_off25 i (BitVec.ofNat 32 (4 * r.val)) = ![0, 512 * ((i 0).val / 2 + 4 * r.val)] := by
  unfold k0_off25; generalize i 0 = n; revert n r; decide +kernel
/-- `off23_eq` as the executor reads it. -/
instance off23_form (i : grid0.Coords) : ClosedOff (k0_off23 i) := ⟨_, off23_eq i⟩
/-- `off24_eq` as the executor reads it. -/
instance off24_form (i : grid0.Coords) : ClosedOff (k0_off24 i) := ⟨_, off24_eq i⟩
/-- `off25_eq` as the executor reads it, first half. -/
instance off25_form0 (i : grid0.Coords) : ClosedOff (k0_off25 i 0#32) := ⟨![0, 512 * ((i 0).val / 2)], off25_eq i 0⟩
/-- `off25_eq` as the executor reads it, second half. -/
instance off25_form1 (i : grid0.Coords) : ClosedOff (k0_off25 i 4#32) := ⟨![0, 512 * ((i 0).val / 2 + 4)], off25_eq i 1⟩

end Cert.KernelIdeal.Body

end
-- ==== Proof.IdealWords.lean ====
/-
  The kernel's integer words, element by element: how a 32-bit word splits into 16-bit and 8-bit rows and back, the phase
  of a column, and the two word buffers that the unpacking loops fill from the outlier table.
-/
module

public import proofs.«01_k».proof.Proof.Gen.KernelIdeal.Skeleton
public import Idealize.ShloMosaic.Lib.Pointwise
public import Idealize.ShloMosaic.Lib.BitcastPair

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

/-- Row `p` of the 16-bit reading of a word is half `p % 2` of word row `p / 2`. -/
theorem narrow16 (x : S8x128.Idx → BitVec 32) (h : S8x128.Bitcasts 32 S16x128 16) (p : Fin 16) (l : Fin 128) :
    bitcast S16x128 16 x h (ix2 p l) = (x (ix2 ⟨p.val / 2, by omega⟩ l)).extractLsb' (16 * (p.val % 2)) 16 := by
  rw [bitcast_32_16]
  congr 2
  funext a
  match a with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by decide))

/-- A word of the 32-bit reading joins 16-bit rows `2r + 1` (high) and `2r` (low). -/
theorem widen32 (x : S16x128.Idx → BitVec 16) (h : S16x128.Bitcasts 16 S8x128 32) (r : Fin 8) (l : Fin 128) :
    bitcast S8x128 32 x h (ix2 r l) = x (ix2 ⟨2 * r.val + 1, by omega⟩ l) ++ x (ix2 ⟨2 * r.val, by omega⟩ l) := by
  rw [bitcast_16_32]
  congr 2
  · funext a
    match a with
    | ⟨0, _⟩ => exact Fin.ext (h.srcIdx_row _ _ _ ⟨0, Nat.zero_lt_two⟩ rfl)
    | ⟨1, _⟩ => exact Fin.ext (h.srcIdx_other _ _ _ ⟨1, Nat.one_lt_two⟩ (by decide))
  · funext a
    match a with
    | ⟨0, _⟩ => exact Fin.ext (h.srcIdx_row _ _ _ ⟨0, Nat.zero_lt_two⟩ rfl)
    | ⟨1, _⟩ => exact Fin.ext (h.srcIdx_other _ _ _ ⟨1, Nat.one_lt_two⟩ (by decide))

/-- Row `p` of the 8-bit reading of a word is byte `p % 4` of word row `p / 4`. -/
theorem narrow8 (x : S8x128.Idx → BitVec 32) (h : S8x128.Bitcasts 32 S32x128 8) (p : Fin 32) (l : Fin 128) :
    bitcast S32x128 8 x h (ix2 p l) = (x (ix2 ⟨p.val / 4, by omega⟩ l)).extractLsb' (8 * (p.val % 4)) 8 := by
  apply BitVec.eq_of_getLsbD_eq
  intro i hi
  rw [bitcast_getLsbD x h _ i hi (by decide), BitVec.getLsbD_extractLsb']
  have hr : Shape.row S32x128 (ix2 p l) = p.val := rfl
  have e1 : (Shape.row S32x128 (ix2 p l) * 8 + i) / 32 = p.val / 4 := by rw [hr]; omega
  have e2 : (Shape.row S32x128 (ix2 p l) * 8 + i) % 32 = 8 * (p.val % 4) + i := by rw [hr]; omega
  rw [e2, decide_eq_true hi, Bool.true_and]
  congr 2
  funext a
  match a with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by decide))

/-- The column of the result that lane `l` of a point's tile `a` holds. -/
def col (p a l : ℕ) : ℕ := 512 * (p / 2 + 4 * (a / 2)) + 4 * l + (2 * (p % 2) + a % 2)

/-- The segment within a block of sixteen that row `q` of the two word buffers' halves belongs to. -/
def sg (q : ℕ) : ℕ := 4 * (q / 4) + q / 2 % 2 + 2 * (q % 2)

/-- The printed pattern of the segments. -/
theorem pay94_at (q : Fin 16) (l : Fin 128) : k0_pay94 (ix2 q l) = BitVec.ofNat 16 (sg q.val) := by
  unfold k0_pay94
  dsimp only
  rw [narrow16]
  pointwise
  revert q
  decide +kernel

/-- The printed phase of tile 0. -/
theorem pay95_at (i : grid0.Coords) (q : Fin 16) (l : Fin 128) :
    k0_pay95 i (ix2 q l) = BitVec.ofNat 16 (col (i 0).val 0 l.val % 25) := by
  unfold k0_pay95
  dsimp only
  rw [narrow16]
  pointwise
  have hq : q.val % 2 = 0 ∨ q.val % 2 = 1 := by omega
  rcases hq with hq | hq <;> rw [hq] <;> generalize i 0 = n <;> revert n l <;> decide +kernel

/-- The printed phase of tile 1. -/
theorem pay98_at (i : grid0.Coords) (q : Fin 16) (l : Fin 128) :
    k0_pay98 (BitVec.ofNat 32 (i 0).val) (iota .tc S8x128 32 [1] iota_S8x128_d1_w32) (ix2 q l) = BitVec.ofNat 16 (col (i 0).val 1 l.val % 25) := by
  unfold k0_pay98
  dsimp only
  rw [narrow16]
  pointwise
  have hq : q.val % 2 = 0 ∨ q.val % 2 = 1 := by omega
  rcases hq with hq | hq <;> rw [hq] <;> generalize i 0 = n <;> revert n l <;> decide +kernel

/-- The printed phase of tile 2. -/
theorem pay102_at (i : grid0.Coords) (q : Fin 16) (l : Fin 128) :
    k0_pay102 (k0_pay101 (BitVec.ofNat 32 (i 0).val) (iota .tc S8x128 32 [1] iota_S8x128_d1_w32)) (ix2 q l) = BitVec.ofNat 16 (col (i 0).val 2 l.val % 25) := by
  unfold k0_pay102 k0_pay101
  dsimp only
  rw [narrow16]
  pointwise
  have hq : q.val % 2 = 0 ∨ q.val % 2 = 1 := by omega
  rcases hq with hq | hq <;> rw [hq] <;> generalize i 0 = n <;> revert n l <;> decide +kernel

/-- The printed phase of tile 3. -/
theorem pay105_at (i : grid0.Coords) (q : Fin 16) (l : Fin 128) :
    k0_pay105 (BitVec.ofNat 32 (i 0).val) (iota .tc S8x128 32 [1] iota_S8x128_d1_w32) (ix2 q l) = BitVec.ofNat 16 (col (i 0).val 3 l.val % 25) := by
  unfold k0_pay105
  dsimp only
  rw [narrow16]
  pointwise
  have hq : q.val % 2 = 0 ∨ q.val % 2 = 1 := by omega
  rcases hq with hq | hq <;> rw [hq] <;> generalize i 0 = n <;> revert n l <;> decide +kernel

/-- The low half of a word, written into both halves of a word, read at either half. -/
theorem dupLo (x : BitVec 32) (h : ℕ) (hh : h < 2) :
    BitVec.extractLsb' (16 * h) 16 (IntOp.ori (IntOp.andi x 65535#32) (IntOp.shli .vector (IntOp.andi x 65535#32) 16#32))
      = x.extractLsb' 0 16 := by
  have e : IntOp.shli .vector (IntOp.andi x 65535#32) 16#32 = (x &&& 65535#32) <<< 16 := rfl
  rw [e]
  apply BitVec.eq_of_getLsbD_eq
  intro i hi
  have hm : ∀ j : ℕ, (65535#32).getLsbD j = decide (j < 16) := fun j => by
    by_cases hj : j < 32
    · interval_cases j <;> rfl
    · rw [BitVec.getLsbD_of_ge _ _ (by omega)]; symm; exact decide_eq_false (by omega)
  simp only [IntOp.ori, IntOp.andi, BitVec.getLsbD_extractLsb', BitVec.getLsbD_or, BitVec.getLsbD_and, BitVec.getLsbD_shiftLeft, hm]
  have h2 : h = 0 ∨ h = 1 := by omega
  rcases h2 with rfl | rfl
  · simp [hi, show i < 32 by omega]
  · simp [hi, show 16 + i < 32 by omega, show ¬ 16 + i < 16 by omega]

/-- The high half of a word, written into both halves of a word, read at either half. -/
theorem dupHi (x : BitVec 32) (h : ℕ) (hh : h < 2) :
    BitVec.extractLsb' (16 * h) 16 (IntOp.ori (IntOp.andi x 4294901760#32) (IntOp.shrui .vector (IntOp.andi x 4294901760#32) 16#32))
      = x.extractLsb' 16 16 := by
  have e : IntOp.shrui .vector (IntOp.andi x 4294901760#32) 16#32 = (x &&& 4294901760#32) >>> 16 := rfl
  rw [e]
  apply BitVec.eq_of_getLsbD_eq
  intro i hi
  have hm : ∀ j : ℕ, (4294901760#32).getLsbD j = decide (16 ≤ j ∧ j < 32) := fun j => by
    by_cases hj : j < 32
    · interval_cases j <;> rfl
    · rw [BitVec.getLsbD_of_ge _ _ (by omega)]; symm; exact decide_eq_false (by omega)
  simp only [IntOp.ori, IntOp.andi, BitVec.getLsbD_extractLsb', BitVec.getLsbD_or, BitVec.getLsbD_and, BitVec.getLsbD_ushiftRight, hm]
  have h2 : h = 0 ∨ h = 1 := by omega
  rcases h2 with rfl | rfl
  · simp [hi, show ¬ 16 ≤ i by omega, show 16 + i < 32 by omega]
  · simp [hi, show 16 + i < 32 by omega, show ¬ 16 + (16 + i) < 32 by omega]

/-- A window boundary relative to a block of sixteen segments, at either half of its word. -/
theorem thr_half (b : Fin 86) (c : Fin 2) (h : Fin 2) :
    BitVec.extractLsb' (16 * h.val) 16
        (Scalar.ori (Scalar.subi (Scalar.muli (25#32) (Scalar.addi (BitVec.ofNat 32 (16 * b.val / 25)) (BitVec.ofNat 32 (c.val + 1)))) (BitVec.ofNat 32 (16 * b.val)))
          (Scalar.shli (Scalar.subi (Scalar.muli (25#32) (Scalar.addi (BitVec.ofNat 32 (16 * b.val / 25)) (BitVec.ofNat 32 (c.val + 1)))) (BitVec.ofNat 32 (16 * b.val))) 16#32))
      = BitVec.ofNat 16 (25 * (16 * b.val / 25 + (c.val + 1)) - 16 * b.val) := by
  revert b c h; decide +kernel

/-- The signed comparison of small 16-bit numbers. -/
theorem sge_small (P : Fin 64) (T : Fin 64) :
    IntOp.cmpi .sge (BitVec.ofNat 16 P.val) (BitVec.ofNat 16 T.val) = if T.val ≤ P.val then 1#1 else 0#1 := by
  revert P T; decide +kernel

theorem sg_lt (q : Fin 16) : sg q.val < 16 := by revert q; decide

section Pick

variable (ph : IVec S16x128 16) (φ : Fin 128 → ℕ) (hφ : ∀ l, φ l < 25)
  (hph : ∀ (q : Fin 16) (l : Fin 128), ph (ix2 q l) = BitVec.ofNat 16 (φ l))
  (b : Fin 86) (w0 w0' w1 w1' w2 w2' : S1x1x128.Idx → BitVec 32)

include hφ hph

/-- Whether a segment lies in the second window of its block or a later one. -/
theorem pick1_at (q : Fin 16) (l : Fin 128) :
    k0_pay12 k0_pay94 ph (BitVec.ofNat 32 (16 * b.val)) (BitVec.ofNat 32 (16 * b.val / 25)) (ix2 q l)
      = if 25 * (16 * b.val / 25 + 1) - 16 * b.val ≤ sg q.val + φ l then 1#1 else 0#1 := by
  unfold k0_pay12 k0_pay11
  dsimp only
  pointwise [narrow16, pay94_at, hph]
  have h1 := hφ l
  have h2 := sg_lt q
  rw [show (1#32 : BitVec 32) = BitVec.ofNat 32 ((0 : Fin 2).val + 1) from rfl, thr_half b 0 ⟨q.val % 2, by omega⟩]
  show IntOp.cmpi .sge (BitVec.ofNat 16 (sg q.val) + BitVec.ofNat 16 (φ l)) _ = _
  rw [← BitVec.ofNat_add]
  exact sge_small ⟨sg q.val + φ l, by omega⟩ ⟨25 * (16 * b.val / 25 + 1) - 16 * b.val, by omega⟩

/-- Whether a segment lies in the third window of its block. -/
theorem pick2_at (q : Fin 16) (l : Fin 128) :
    k0_pay13 k0_pay94 ph (BitVec.ofNat 32 (16 * b.val)) (BitVec.ofNat 32 (16 * b.val / 25)) (ix2 q l)
      = if 25 * (16 * b.val / 25 + 2) - 16 * b.val ≤ sg q.val + φ l then 1#1 else 0#1 := by
  unfold k0_pay13 k0_pay11
  dsimp only
  pointwise [narrow16, pay94_at, hph]
  have h1 := hφ l
  have h2 := sg_lt q
  rw [show (2#32 : BitVec 32) = BitVec.ofNat 32 ((1 : Fin 2).val + 1) from rfl, thr_half b 1 ⟨q.val % 2, by omega⟩]
  show IntOp.cmpi .sge (BitVec.ofNat 16 (sg q.val) + BitVec.ofNat 16 (φ l)) _ = _
  rw [← BitVec.ofNat_add]
  exact sge_small ⟨sg q.val + φ l, by omega⟩ ⟨25 * (16 * b.val / 25 + 2) - 16 * b.val, by omega⟩

variable (e : ℕ → Fin 128 → BitVec 32)
  (h0 : ∀ l, IntOp.ori (w0 (ix3 0 0 l)) (w0' (ix3 0 0 l)) = e (16 * b.val / 25) l)
  (h1 : ∀ l, IntOp.ori (w1 (ix3 0 0 l)) (w1' (ix3 0 0 l)) = e (16 * b.val / 25 + 1) l)
  (h2 : ∀ l, IntOp.ori (w2 (ix3 0 0 l)) (w2' (ix3 0 0 l)) = e (16 * b.val / 25 + 2) l)

include h0 h1 h2

/-- The chosen entry's low half: that of the window the segment lies in. -/
theorem offSel_at (q : Fin 16) (l : Fin 128) :
    k0_pay14 (F := F) k0_pay94 ph (BitVec.ofNat 32 (16 * b.val)) (BitVec.ofNat 32 (16 * b.val / 25)) (k0_pay4 (F := F) w0 w0') (k0_pay7 (F := F) w1 w1')
      (k0_pay9 (F := F) w2) w2' (ix2 q l) = (e ((16 * b.val + sg q.val + φ l) / 25) l).extractLsb' 0 16 := by
  unfold k0_pay14 k0_pay4 k0_pay7 k0_pay9 k0_pay10 k0_pay3 k0_pay6
  dsimp only
  pointwise [narrow16]
  have a1 := hφ l
  have a2 := sg_lt q
  simp only [dupLo _ (q.val % 2) (by omega)]
  rw [pick1_at ph φ hφ hph b q l, pick2_at ph φ hφ hph b q l, h0, h1, h2]
  unfold Scalar.select
  by_cases c2 : 25 * (16 * b.val / 25 + 2) - 16 * b.val ≤ sg q.val + φ l
  · rw [if_pos c2, if_pos (show (1#1 : BitVec 1) = 1 from rfl)]; congr 2; omega
  · rw [if_neg c2, if_neg (by decide)]
    by_cases c1 : 25 * (16 * b.val / 25 + 1) - 16 * b.val ≤ sg q.val + φ l
    · rw [if_pos c1, if_pos (show (1#1 : BitVec 1) = 1 from rfl)]; congr 2; omega
    · rw [if_neg c1, if_neg (by decide)]; congr 2; omega

/-- The chosen entry's high half. -/
theorem valSel_at (q : Fin 16) (l : Fin 128) :
    k0_pay15 (F := F) k0_pay94 ph (BitVec.ofNat 32 (16 * b.val)) (BitVec.ofNat 32 (16 * b.val / 25)) (k0_pay5 (F := F) w0 w0') (k0_pay8 (F := F) w1 w1')
      (k0_pay9 (F := F) w2) w2' (ix2 q l) = (e ((16 * b.val + sg q.val + φ l) / 25) l).extractLsb' 16 16 := by
  unfold k0_pay15 k0_pay5 k0_pay8 k0_pay9 k0_pay10 k0_pay3 k0_pay6
  dsimp only
  pointwise [narrow16]
  have a1 := hφ l
  have a2 := sg_lt q
  simp only [dupHi _ (q.val % 2) (by omega)]
  rw [pick1_at ph φ hφ hph b q l, pick2_at ph φ hφ hph b q l, h0, h1, h2]
  unfold Scalar.select
  by_cases c2 : 25 * (16 * b.val / 25 + 2) - 16 * b.val ≤ sg q.val + φ l
  · rw [if_pos c2, if_pos (show (1#1 : BitVec 1) = 1 from rfl)]; congr 2; omega
  · rw [if_neg c2, if_neg (by decide)]
    by_cases c1 : 25 * (16 * b.val / 25 + 1) - 16 * b.val ≤ sg q.val + φ l
    · rw [if_pos c1, if_pos (show (1#1 : BitVec 1) = 1 from rfl)]; congr 2; omega
    · rw [if_neg c1, if_neg (by decide)]; congr 2; omega

end Pick

/-- The segment that the low half of row `r` of the word buffers belongs to; the high half's is two more. -/
def segLo (r : ℕ) : ℕ := 4 * (r / 2) + r % 2

/-- The low half-word of a segment's entry, less the column number of the segment's first column. -/
def offHalf (e : ℕ → BitVec 32) (φ seg : ℕ) : BitVec 16 := (e ((seg + φ) / 25)).extractLsb' 0 16 - BitVec.ofNat 16 (8 * seg + 1)
/-- The high half-word of a segment's entry. -/
def valHalf (e : ℕ → BitVec 32) (φ seg : ℕ) : BitVec 16 := (e ((seg + φ) / 25)).extractLsb' 16 16
/-- Row `r` of the buffer of column numbers. -/
def offWord (e : ℕ → BitVec 32) (φ r : ℕ) : BitVec 32 := offHalf e φ (segLo r + 2) ++ offHalf e φ (segLo r)
/-- Row `r` of the buffer of values. -/
def valWord (e : ℕ → BitVec 32) (φ r : ℕ) : BitVec 32 := valHalf e φ (segLo r + 2) ++ valHalf e φ (segLo r)

/-- The first column number of a block of sixteen segments, at either half of its word. -/
theorem base_half (b : Fin 86) (h : Fin 2) :
    BitVec.extractLsb' (16 * h.val) 16 (Scalar.ori (BitVec.ofNat 32 (128 * b.val + 1)) (Scalar.shli (BitVec.ofNat 32 (128 * b.val + 1)) 16#32))
      = BitVec.ofNat 16 (128 * b.val + 1) := by
  revert b h; decide +kernel

/-- What a trip stores in the buffer of column numbers. -/
theorem offPay_at (b : Fin 86) (v254 : IVec S16x128 16) (e : ℕ → BitVec 32) (φ : ℕ) (s : Fin 8) (l : Fin 128)
    (hv : ∀ q : Fin 16, v254 (ix2 q l) = (e ((16 * b.val + sg q.val + φ) / 25)).extractLsb' 0 16) :
    k0_pay96 v254 (k0_pay16 k0_pay94) (BitVec.ofNat 32 (128 * b.val + 1)) (ix3 0 s l) = offWord e φ (8 * b.val + s.val) := by
  have hal : ∀ q : Fin 16, v254 (ix2 q l) - (BitVec.ofNat 16 (sg q.val) * 8#16 + BitVec.ofNat 16 (128 * b.val + 1)) = offHalf e φ (16 * b.val + sg q.val) := fun q => by
    rw [hv, offHalf]
    congr 1
    rw [show (8#16 : BitVec 16) = BitVec.ofNat 16 8 from rfl, ← BitVec.ofNat_mul, ← BitVec.ofNat_add]
    congr 1; omega
  unfold k0_pay96 k0_pay16
  dsimp only
  pointwise [narrow16, widen32, pay94_at]
  rw [base_half b ⟨(2 * s.val + 1) % 2, by omega⟩, base_half b ⟨(2 * s.val) % 2, by omega⟩]
  refine (congrArg₂ (· ++ ·) (hal ⟨2 * s.val + 1, by omega⟩) (hal ⟨2 * s.val, by omega⟩)).trans ?_
  unfold offWord segLo sg
  dsimp only
  congr 2 <;> omega

/-- What a trip stores in the buffer of values. -/
theorem valPay_at (b : Fin 86) (v256 : IVec S16x128 16) (e : ℕ → BitVec 32) (φ : ℕ) (s : Fin 8) (l : Fin 128)
    (hv : ∀ q : Fin 16, v256 (ix2 q l) = (e ((16 * b.val + sg q.val + φ) / 25)).extractLsb' 16 16) :
    k0_pay97 v256 (ix3 0 s l) = valWord e φ (8 * b.val + s.val) := by
  have hal : ∀ q : Fin 16, v256 (ix2 q l) = valHalf e φ (16 * b.val + sg q.val) := fun q => by
    rw [hv, valHalf]
  unfold k0_pay97
  pointwise [widen32]
  refine (congrArg₂ (· ++ ·) (hal ⟨2 * s.val + 1, by omega⟩) (hal ⟨2 * s.val, by omega⟩)).trans ?_
  unfold valWord segLo sg
  dsimp only
  congr 2 <;> omega

end Cert.KernelIdeal.Body

end
-- ==== Proof.IdealWeights.lean ====
/-
  The weights a trip of the last loop stores, read entry by entry: a decoded code less its zero and times its scale,
  or an outlier's value where the outlier's column number is this one.
-/
module

public import proofs.«01_k».proof.Proof.IdealWords

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

/-- The half of a word that row `r` reads: the low half at an even row, the high half at an odd one. -/
def half (w : BitVec 32) (r : ℕ) : BitVec 16 := w.extractLsb' (16 * (r % 2)) 16

/-- A 3-bit code: the low (`f = 0`) or the high (`f = 1`) half of byte `r % 4` of a word. -/
def code (w : BitVec 32) (f r : ℕ) : BitVec 8 := ((w >>> (4 * f)) &&& 117901063#32).extractLsb' (8 * (r % 4)) 8

/-- One weight, from the word of its code, and the words of its scale, zero, outlier column and outlier value: row `p`
    of half `h` of a trip's 32 rows, for tile half `f`. -/
def wt (tw sw zw ow vw : BitVec 32) (f h p : ℕ) : F .bf16 :=
  if half ow p = BitVec.ofNat 16 (p / 2) then FloatOps.ofBits .bf16 (half vw p)
  else FloatOps.mulf (FloatOps.subf (FloatOps.sitofp .bf16 (code tw f (16 * h + p))) (FloatOps.ofBits .bf16 (half zw p))) (FloatOps.ofBits .bf16 (half sw p))

/-- The selection between an outlier's value and a decoded weight. -/
theorem wt_of {cd : BitVec 8} (tw sw zw ow vw : BitVec 32) (f h p : ℕ) (hc : cd = code tw f (16 * h + p)) :
    (Scalar.select (IntOp.cmpi .eq (BitVec.extractLsb' (16 * (p % 2)) 16 ow) (BitVec.ofNat 16 (p / 2))) (FloatOps.ofBits .bf16 (BitVec.extractLsb' (16 * (p % 2)) 16 vw))
      (FloatOps.mulf (FloatOps.subf (FloatOps.sitofp .bf16 cd) (FloatOps.ofBits .bf16 (BitVec.extractLsb' (16 * (p % 2)) 16 zw)))
        (FloatOps.ofBits .bf16 (BitVec.extractLsb' (16 * (p % 2)) 16 sw))) : F .bf16) = wt tw sw zw ow vw f h p := by
  subst hc
  unfold wt half Scalar.select
  show (if BitVec.ofBool (BitVec.extractLsb' (16 * (p % 2)) 16 ow == BitVec.ofNat 16 (p / 2)) = 1 then _ else _) = _
  by_cases hq : BitVec.extractLsb' (16 * (p % 2)) 16 ow = BitVec.ofNat 16 (p / 2)
  · rw [if_pos hq, beq_iff_eq.mpr hq]; rfl
  · rw [if_neg hq, beq_eq_false_iff_ne.mpr hq]; rfl

/-- The number of the column within its segment, in both halves of a row's word. -/
theorem pay108_at (p : Fin 16) (l : Fin 128) : k0_pay108 (ix2 p l) = BitVec.ofNat 16 (p.val / 2) := by
  unfold k0_pay108
  dsimp only
  pointwise [narrow16]
  revert p; decide +kernel

/-- A shift by four places. -/
theorem shrui4 (x : BitVec 32) : IntOp.shrui .vector x 4#32 = x >>> 4 := rfl

section
variable (t : Vec F S1x1x1x8x128 .i32) (s z o v : Vec F S1x1x128 .i32) (p : Fin 16) (l : Fin 128)

/-- The stored weight at row `p` of the first half, tile 0. -/
theorem w0lo : k0_pay66 (F := F) k0_pay108 (k0_pay63 t s z) (k0_pay64 (F := F) o) (k0_pay65 v) (ix3 0 p l)
    = wt (t (ix5 0 0 0 ⟨(0 + p.val) / 4, by omega⟩ l)) (s (ix3 0 0 l)) (z (ix3 0 0 l)) (o (ix3 0 0 l)) (v (ix3 0 0 l)) 0 0 p.val := by
  unfold k0_pay66 k0_pay63 k0_pay64 k0_pay65 k0_pay62 k0_pay61 k0_pay60 k0_pay59
  dsimp only
  pointwise [narrow16, narrow8, pay108_at]
  refine wt_of _ _ _ _ _ 0 0 _ ?_
  simp [code, IntOp.andi, shrui4]

/-- The stored weight at row `p` of the second half, tile 0. -/
theorem w0hi : k0_pay67 (F := F) k0_pay108 (k0_pay60 t) (k0_pay61 s) (k0_pay62 z) o v (ix3 0 p l)
    = wt (t (ix5 0 0 0 ⟨(16 + p.val) / 4, by omega⟩ l)) (s (ix3 0 0 l)) (z (ix3 0 0 l)) (o (ix3 0 0 l)) (v (ix3 0 0 l)) 0 1 p.val := by
  unfold k0_pay67 k0_pay62 k0_pay61 k0_pay60 k0_pay59
  dsimp only
  pointwise [narrow16, narrow8, pay108_at]
  refine wt_of _ _ _ _ _ 0 1 _ ?_
  simp [code, IntOp.andi, shrui4]

/-- The stored weight at row `p` of the first half, tile 2. -/
theorem w2lo : k0_pay73 (F := F) k0_pay108 (k0_pay68 (k0_pay59 (F := F) t)) k0_pay69 s z o v (ix3 0 p l)
    = wt (t (ix5 0 0 0 ⟨(0 + p.val) / 4, by omega⟩ l)) (s (ix3 0 0 l)) (z (ix3 0 0 l)) (o (ix3 0 0 l)) (v (ix3 0 0 l)) 1 0 p.val := by
  unfold k0_pay73 k0_pay72 k0_pay71 k0_pay70 k0_pay69 k0_pay68 k0_pay59
  dsimp only
  pointwise [narrow16, narrow8, pay108_at]
  refine wt_of _ _ _ _ _ 1 0 _ ?_
  simp [code, IntOp.andi, shrui4]

/-- The stored weight at row `p` of the second half, tile 2. -/
theorem w2hi : k0_pay74 (F := F) k0_pay108 (k0_pay70 (F := F) (k0_pay68 (k0_pay59 (F := F) t)) k0_pay69) (k0_pay71 (F := F) s) (k0_pay72 z) o v (ix3 0 p l)
    = wt (t (ix5 0 0 0 ⟨(16 + p.val) / 4, by omega⟩ l)) (s (ix3 0 0 l)) (z (ix3 0 0 l)) (o (ix3 0 0 l)) (v (ix3 0 0 l)) 1 1 p.val := by
  unfold k0_pay74 k0_pay70 k0_pay68 k0_pay69 k0_pay71 k0_pay72 k0_pay59
  dsimp only
  pointwise [narrow16, narrow8, pay108_at]
  refine wt_of _ _ _ _ _ 1 1 _ ?_
  simp [code, IntOp.andi, shrui4]

/-- The stored weight at row `p` of the first half, tile 1. -/
theorem w1lo : k0_pay80 (F := F) k0_pay108 (k0_pay76 t) (k0_pay77 (F := F) s) z o v (ix3 0 p l)
    = wt (t (ix5 0 0 0 ⟨(0 + p.val) / 4, by omega⟩ l)) (s (ix3 0 0 l)) (z (ix3 0 0 l)) (o (ix3 0 0 l)) (v (ix3 0 0 l)) 0 0 p.val := by
  unfold k0_pay80 k0_pay79 k0_pay78 k0_pay77 k0_pay76 k0_pay75
  dsimp only
  pointwise [narrow16, narrow8, pay108_at]
  refine wt_of _ _ _ _ _ 0 0 _ ?_
  simp [code, IntOp.andi, shrui4]

/-- The stored weight at row `p` of the second half, tile 1. -/
theorem w1hi : k0_pay82 (F := F) k0_pay108 (k0_pay81 (k0_pay76 t) (k0_pay77 (F := F) s) z) o v (ix3 0 p l)
    = wt (t (ix5 0 0 0 ⟨(16 + p.val) / 4, by omega⟩ l)) (s (ix3 0 0 l)) (z (ix3 0 0 l)) (o (ix3 0 0 l)) (v (ix3 0 0 l)) 0 1 p.val := by
  unfold k0_pay82 k0_pay81 k0_pay79 k0_pay78 k0_pay77 k0_pay76 k0_pay75
  dsimp only
  pointwise [narrow16, narrow8, pay108_at]
  refine wt_of _ _ _ _ _ 0 1 _ ?_
  simp [code, IntOp.andi, shrui4]

/-- The stored weight at row `p` of the first half, tile 3. -/
theorem w3lo : k0_pay87 (F := F) k0_pay108 (k0_pay86 (k0_pay75 (F := F) t) s z) o v (ix3 0 p l)
    = wt (t (ix5 0 0 0 ⟨(0 + p.val) / 4, by omega⟩ l)) (s (ix3 0 0 l)) (z (ix3 0 0 l)) (o (ix3 0 0 l)) (v (ix3 0 0 l)) 1 0 p.val := by
  unfold k0_pay87 k0_pay86 k0_pay85 k0_pay84 k0_pay83 k0_pay75
  dsimp only
  pointwise [narrow16, narrow8, pay108_at]
  refine wt_of _ _ _ _ _ 1 0 _ ?_
  simp [code, IntOp.andi, shrui4]

/-- The stored weight at row `p` of the second half, tile 3. -/
theorem w3hi : k0_pay109 (F := F) (k0_pay88 (k0_pay83 (k0_pay75 (F := F) t)) (k0_pay84 s) (k0_pay85 z)) (k0_pay89 (F := F) o) (k0_pay90 (F := F) v) (ix3 0 p l)
    = wt (t (ix5 0 0 0 ⟨(16 + p.val) / 4, by omega⟩ l)) (s (ix3 0 0 l)) (z (ix3 0 0 l)) (o (ix3 0 0 l)) (v (ix3 0 0 l)) 1 1 p.val := by
  unfold k0_pay109 k0_pay90 k0_pay89 k0_pay88 k0_pay85 k0_pay84 k0_pay83 k0_pay75
  dsimp only
  pointwise [narrow16, narrow8, pay108_at]
  refine wt_of _ _ _ _ _ 1 1 _ ?_
  simp [code, IntOp.andi, shrui4]

end

end Cert.KernelIdeal.Body

end
-- ==== Proof.IdealTable.lean ====
/-
  The four unpacking loops: from the outlier table, the buffer of column numbers and the buffer of values are filled, tile
  by tile and sixteen segments at a time. The invariants say which rows hold what.
-/
module

public import proofs.«01_k».proof.Proof.Gen.KernelIdeal.Loops
public import proofs.«01_k».proof.Proof.Gen.KernelIdeal.Frame
public import proofs.«01_k».proof.Proof.IdealWords
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The outlier entry of a window for a column of tile `a`: the union of the table's two planes. -/
def ent (X : S2x4x64x128.Idx → BitVec 32) (a : Fin 4) (l : Fin 128) (w : ℕ) : BitVec 32 :=
  IntOp.ori (X (ix4 0 a ⟨w % 64, Nat.mod_lt _ (by decide)⟩ l)) (X (ix4 1 a ⟨w % 64, Nat.mod_lt _ (by decide)⟩ l))

/-- A row of the table read through one of its planes. -/
def tabRow (arg4 : Memref sig .tc .vmem S2x4x64x128 .i32) (X4 : BufTy.Contents (Elt F) arg4.view.ty) (o4 : Fin 4 → ℕ) (off : Fin 3 → ℕ)
    (inb1 : ∀ a, o4 a + S1x4x64x128.size a ≤ S2x4x64x128.size a) (inb2 : ∀ a, off a + S1x1x128.size a ≤ S4x64x128.size a) : S1x1x128.Idx → BitVec 32 :=
  LoadRect.valAlong (lr := (Rect.unit (s := S4x64x128) off S1x1x128.size inb2).toLoadRect)
    (LR := (Rect.unit (s := S2x4x64x128) o4 S1x4x64x128.size inb1).withinL ((Rect.unit (s := S4x64x128) off S1x1x128.size inb2).toLoadRect.consLift ![1, 4, 64, 128] rfl (fun _ => rfl)) (fun _ => rfl))
    (LoadRect.numel_consLift (Rect.unit (s := S4x64x128) off S1x1x128.size inb2).toLoadRect ![1, 4, 64, 128] rfl (fun _ => rfl))
    (View.readAt (Elt F) arg4.view ((Rect.unit (s := S2x4x64x128) o4 S1x4x64x128.size inb1).withinL ((Rect.unit (s := S4x64x128) off S1x1x128.size inb2).toLoadRect.consLift ![1, 4, 64, 128] rfl (fun _ => rfl)) (fun _ => rfl)) X4)

/-- Its words are the table's. -/
theorem tab_word (arg4 : Memref sig .tc .vmem S2x4x64x128 .i32) (X4 : BufTy.Contents (Elt F) arg4.view.ty) (pl : Fin 2) (a : Fin 4) (w : ℕ) (hw : w < 64) (l : Fin 128)
    (o4 : Fin 4 → ℕ) (off : Fin 3 → ℕ) (inb1 : ∀ a, o4 a + S1x4x64x128.size a ≤ S2x4x64x128.size a) (inb2 : ∀ a, off a + S1x1x128.size a ≤ S4x64x128.size a)
    (e4 : o4 = ![pl.val, 0, 0, 0]) (eo : off = ![a.val, w, 0]) :
    tabRow arg4 X4 o4 off inb1 inb2 (ix3 0 0 l) = arg4.view.read (Elt F) X4 (ix4 pl a ⟨w % 64, Nat.mod_lt _ (by decide)⟩ l) := by
  subst e4 eo
  unfold tabRow LoadRect.valAlong
  show arg4.view.read (Elt F) X4 _ = _
  refine congrArg _ (funext fun x => Fin.ext ?_)
  have e : ∀ hR, Shape.reshapeEquiv (s := (⟨4, ![1, 1, 1, 128]⟩ : Shape)) (s' := S1x1x128) hR (ix3 0 0 l) = Fin.cons ⟨0, Nat.one_pos⟩ (ix3 0 0 l) :=
    fun hR => Shape.reshapeEquiv_cons_one (d := ![1, 1, 128]) hR (ix3 0 0 l)
  have key : ∀ y : (⟨4, ![1, 1, 1, 128]⟩ : Shape).Idx, y = Fin.cons ⟨0, Nat.one_pos⟩ (ix3 0 0 l : S1x1x128.Idx) → ∀ x : Fin 4,
      (((Rect.unit (s := S2x4x64x128) ![pl.val, 0, 0, 0] S1x4x64x128.size inb1).withinL
        ((Rect.unit (s := S4x64x128) ![a.val, w, 0] S1x1x128.size inb2).toLoadRect.consLift ![1, 4, 64, 128] rfl (fun _ => rfl)) (fun _ => rfl)).idx y x).val
      = ((ix4 pl a ⟨w % 64, Nat.mod_lt _ (by decide)⟩ l : S2x4x64x128.Idx) x).val := by
    intro y hy x
    subst hy
    match x with
    | ⟨0, _⟩ => rfl
    | ⟨1, _⟩ => show 0 + a.val + 1 * 0 = a.val; omega
    | ⟨2, _⟩ => show 0 + w + 1 * 0 = w % 64; omega
    | ⟨3, _⟩ => show 0 + 0 + 1 * l.val = l.val; omega
  exact key _ (e _) x

section Tile

variable (ph : IVec S16x128 16) (φ : Fin 128 → ℕ) (hφ : ∀ l, φ l < 25)
  (hph : ∀ (q : Fin 16) (l : Fin 128), ph (ix2 q l) = BitVec.ofNat 16 (φ l))
  (b : Fin 86) (w0 w0' w1 w1' w2 w2' : S1x1x128.Idx → BitVec 32) (e : Fin 128 → ℕ → BitVec 32)
  (h0 : ∀ l, IntOp.ori (w0 (ix3 0 0 l)) (w0' (ix3 0 0 l)) = e l (16 * b.val / 25))
  (h1 : ∀ l, IntOp.ori (w1 (ix3 0 0 l)) (w1' (ix3 0 0 l)) = e l (16 * b.val / 25 + 1))
  (h2 : ∀ l, IntOp.ori (w2 (ix3 0 0 l)) (w2' (ix3 0 0 l)) = e l (16 * b.val / 25 + 2))
  (v149 v151 v260 : BitVec 32) (h149 : v149 = BitVec.ofNat 32 (16 * b.val)) (h151 : v151 = BitVec.ofNat 32 (16 * b.val / 25))
  (h260 : v260 = BitVec.ofNat 32 (128 * b.val + 1))

include hφ hph h0 h1 h2 h149 h151

include h260 in
/-- A trip's words of column numbers. -/
theorem offTile_at (s : Fin 8) (l : Fin 128) :
    k0_pay96 (k0_pay14 (F := F) k0_pay94 ph v149 v151 (k0_pay4 (F := F) w0 w0') (k0_pay7 (F := F) w1 w1') (k0_pay9 (F := F) w2) w2') (k0_pay16 k0_pay94) v260 (ix3 0 s l)
      = offWord (e l) (φ l) (8 * b.val + s.val) := by
  subst h149 h151 h260
  exact offPay_at b _ (e l) (φ l) s l fun q => offSel_at ph φ hφ hph b w0 w0' w1 w1' w2 w2' (fun w l => e l w) h0 h1 h2 q l

/-- A trip's words of values. -/
theorem valTile_at (s : Fin 8) (l : Fin 128) :
    k0_pay97 (k0_pay15 (F := F) k0_pay94 ph v149 v151 (k0_pay5 (F := F) w0 w0') (k0_pay8 (F := F) w1 w1') (k0_pay9 (F := F) w2) w2') (ix3 0 s l)
      = valWord (e l) (φ l) (8 * b.val + s.val) := by
  subst h149 h151
  exact valPay_at b _ (e l) (φ l) s l fun q => valSel_at ph φ hφ hph b w0 w0' w1 w1' w2 w2' (fun w l => e l w) h0 h1 h2 q l

end Tile

section
variable (𝒱 : Variants) (c : Dev nD) (bd : Option 𝒱.V) (E : Set ℕ) (i : grid0.Coords) (arg1 : Memref sig .tc .vmem S1x344x2x8x128 .i32) (harg1 : arg1.IsWhole) (arg2 : Memref sig .tc .vmem S4x352x128 .i32) (harg2 : arg2.IsWhole) (arg3 : Memref sig .tc .vmem S4x352x128 .i32) (harg3 : arg3.IsWhole) (arg4 : Memref sig .tc .vmem S2x4x64x128 .i32) (harg4 : arg4.IsWhole) (arg5 : Memref sig .tc .vmem S256x11008 .bf16) (harg5 : arg5.IsWhole) (arg6 : Memref sig .tc .vmem S256x4096 .bf16) (harg6 : arg6.IsWhole) (arg7 : Memref sig .tc .vmem S4x688x128 .i32) (harg7 : arg7.IsWhole) (arg8 : Memref sig .tc .vmem S4x688x128 .i32) (harg8 : arg8.IsWhole) (arg9 : Memref sig .tc .vmem S4x11008x128 .bf16) (harg9 : arg9.IsWhole) (arg10 : Memref sig .tc .vmem S2x2x256x256 .bf16) (harg10 : arg10.IsWhole)

/-- The first `n` blocks of sixteen segments, counted through the tiles, are unpacked. -/
@[irreducible] def Filled (X4 : BufTy.Contents (Elt F) arg4.view.ty) (f7 : BufTy.Contents (Elt F) arg7.view.ty) (f8 : BufTy.Contents (Elt F) arg8.view.ty) (n : ℕ) : Prop :=
  ∀ (a : Fin 4) (r : Fin 688) (l : Fin 128), 86 * a.val + r.val / 8 < n →
    arg7.view.read (Elt F) f7 (ix3 a r l) = offWord (ent (arg4.view.read (Elt F) X4) a l) (col (i 0).val a.val l.val % 25) r.val
    ∧ arg8.view.read (Elt F) f8 (ix3 a r l) = valWord (ent (arg4.view.read (Elt F) X4) a l) (col (i 0).val a.val l.val % 25) r.val

/-- At the start nothing is. -/
theorem filled0 (X4 : BufTy.Contents (Elt F) arg4.view.ty) (f7 : BufTy.Contents (Elt F) arg7.view.ty) (f8 : BufTy.Contents (Elt F) arg8.view.ty) :
    Filled i arg4 arg7 arg8 X4 f7 f8 (86 * 0 + 0) := by
  unfold Filled
  intro a r l h
  omega

/-- One more block, of tile `a`. -/
theorem filledStep (X4 : BufTy.Contents (Elt F) arg4.view.ty) (f7 : BufTy.Contents (Elt F) arg7.view.ty) (f8 : BufTy.Contents (Elt F) arg8.view.ty)
    (a : Fin 4) (k : Fin 86) (off : Fin 3 → ℕ) (inb7 : ∀ a, off a + S1x8x128.size a ≤ S4x688x128.size a) (inb8 : ∀ a, off a + S1x8x128.size a ≤ S4x688x128.size a) (eo : off = ![a.val, 8 * k.val, 0])
    (w7 w8 : S1x8x128.Idx → BitVec 32)
    (h7 : ∀ (s : Fin 8) (l : Fin 128), w7 (ix3 0 s l) = offWord (ent (arg4.view.read (Elt F) X4) a l) (col (i 0).val a.val l.val % 25) (8 * k.val + s.val))
    (h8 : ∀ (s : Fin 8) (l : Fin 128), w8 (ix3 0 s l) = valWord (ent (arg4.view.read (Elt F) X4) a l) (col (i 0).val a.val l.val % 25) (8 * k.val + s.val))
    (h : Filled i arg4 arg7 arg8 X4 f7 f8 (86 * a.val + k.val)) :
    Filled i arg4 arg7 arg8 X4 (arg7.view.writes (Elt F) f7 [⟨Rect.unit (s := S4x688x128) off S1x8x128.size inb7, w7⟩])
      (arg8.view.writes (Elt F) f8 [⟨Rect.unit (s := S4x688x128) off S1x8x128.size inb8, w8⟩]) (86 * a.val + (k.val + 1)) := by
  unfold Filled at h ⊢
  intro a' r l hlt
  by_cases ha : a' = a
  · subst ha
    by_cases hr : r.val / 8 = k.val
    · have hx : ∀ x : Fin 3, ((ix3 a' r l : S4x688x128.Idx) x).val = (![a'.val, 8 * k.val, 0] : Fin 3 → ℕ) x + ((ix3 0 (⟨r.val % 8, by omega⟩ : Fin 8) l : S1x8x128.Idx) x).val := fun x => by
        match x with
        | ⟨0, _⟩ => rfl
        | ⟨1, _⟩ => show r.val = 8 * k.val + r.val % 8; omega
        | ⟨2, _⟩ => show l.val = 0 + l.val; omega
      have hr2 : 8 * k.val + r.val % 8 = r.val := by omega
      constructor
      · rw [View.read_writes_cons_unit_of_mem arg7.view f7 inb7 w7 [] _ _ eo hx, h7]; simp only [hr2]
      · rw [View.read_writes_cons_unit_of_mem arg8.view f8 inb8 w8 [] _ _ eo hx, h8]; simp only [hr2]
    · have hn : r.val < 8 * k.val ∨ 8 * k.val + 8 ≤ r.val := by omega
      rw [View.read_writes_cons_unit_of_not_mem arg7.view f7 inb7 w7 [] _ eo 1 hn, View.read_writes_cons_unit_of_not_mem arg8.view f8 inb8 w8 [] _ eo 1 hn]
      exact h a' r l (by omega)
  · have hn : a'.val < a.val ∨ a.val + 1 ≤ a'.val := by
      have := fun e => ha (Fin.ext e)
      omega
    rw [View.read_writes_cons_unit_of_not_mem arg7.view f7 inb7 w7 [] _ eo 0 hn, View.read_writes_cons_unit_of_not_mem arg8.view f8 inb8 w8 [] _ eo 0 hn]
    exact h a' r l (by omega)

/-- The table rows a trip for tile 0 reads. -/
theorem off1_eq : ∀ (k : Fin k0_t1_loop.trips) (r : Fin 3), k0_off1 k (BitVec.ofNat 32 r.val) = ![0, 16 * k.val / 25 + r.val, 0] := by decide +kernel

set_option sl_exec.squeezeSlice true in
set_option maxHeartbeats 200000 in
/-- One trip of the unpacking loop of tile 0 fills one more block. -/
theorem trip1 (X4 : BufTy.Contents (Elt F) arg4.view.ty) (f7 : BufTy.Contents (Elt F) arg7.view.ty) (f8 : BufTy.Contents (Elt F) arg8.view.ty) (k : Fin k0_t1_loop.trips)
    (h : Filled i arg4 arg7 arg8 X4 f7 f8 (86 * 0 + k.val)) :
    iprop((arg4.view.loc (c : Thread nD τ) ↦[arg4.view.set]{fullShare} X4) ∗ (arg7.view.loc (c : Thread nD τ) ↦[arg7.view.set]{fullShare} f7) ∗ (arg8.view.loc (c : Thread nD τ) ↦[arg8.view.set]{fullShare} f8))
    ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10  k PUnit.unit)
      (fun _ => (iprop((arg4.view.loc (c : Thread nD τ) ↦[arg4.view.set]{fullShare} X4) ∗ ∃ f7', (arg7.view.loc (c : Thread nD τ) ↦[arg7.view.set]{fullShare} f7') ∗ ∃ f8', (arg8.view.loc (c : Thread nD τ) ↦[arg8.view.set]{fullShare} f8') ∗ ⌜Filled i arg4 arg7 arg8 X4 f7' f8' (86 * 0 + (k.val + 1))⌝) : sProp 𝕄)) := by
  have hk : k.val < 86 := Nat.lt_of_lt_of_le k.isLt k0_t1_abs.2.1
  unfold k0_t1_body
  iintro ⟨H4, H7, H8⟩
  sl_exec
  sl_step
  isplitl [H4]; · iexact H4
  iexists _; isplitl [H7]; · iexact H7
  iexists _; isplitl [H8]; · iexact H8
  ipureintro
  refine filledStep i arg4 arg7 arg8 X4 f7 f8 0 ⟨k.val, hk⟩ _ _ _ (k0_off2_eq k) _ _ ?_ ?_ h
  · have e149 : ∀ k : Fin k0_t1_loop.trips, trip1.sl.v149 k = BitVec.ofNat 32 (16 * k.val) := by decide +kernel
    have e151 : ∀ k : Fin k0_t1_loop.trips, trip1.sl.v151 k = BitVec.ofNat 32 (16 * k.val / 25) := by decide +kernel
    have e260 : ∀ k : Fin k0_t1_loop.trips, trip1.sl.v260 k = BitVec.ofNat 32 (128 * k.val + 1) := by decide +kernel
    exact offTile_at (F := F) (k0_pay95 i) (fun l => col (i 0).val 0 l.val % 25) (fun l => Nat.mod_lt _ (by decide)) (pay95_at i) ⟨k.val, hk⟩ (tabRow arg4 X4 ![0, 0, 0, 0] (k0_off1 k 0#32) inb_S2x4x64x128_S1x4x64x128_0_0_0_0 (k0_off1_inb k 0)) (tabRow arg4 X4 ![1, 0, 0, 0] (k0_off1 k 0#32) inb_S2x4x64x128_S1x4x64x128_1_0_0_0 (k0_off1_inb k 0)) (tabRow arg4 X4 ![0, 0, 0, 0] (k0_off1 k 1#32) inb_S2x4x64x128_S1x4x64x128_0_0_0_0 (k0_off1_inb k 1)) (tabRow arg4 X4 ![1, 0, 0, 0] (k0_off1 k 1#32) inb_S2x4x64x128_S1x4x64x128_1_0_0_0 (k0_off1_inb k 1)) (tabRow arg4 X4 ![0, 0, 0, 0] (k0_off1 k 2#32) inb_S2x4x64x128_S1x4x64x128_0_0_0_0 (k0_off1_inb k 2)) (tabRow arg4 X4 ![1, 0, 0, 0] (k0_off1 k 2#32) inb_S2x4x64x128_S1x4x64x128_1_0_0_0 (k0_off1_inb k 2))
        (ent (arg4.view.read (Elt F) X4) 0) (fun l => congrArg₂ IntOp.ori (tab_word arg4 X4 0 0 (16 * k.val / 25 + 0) (by omega) l _ _ _ _ rfl (off1_eq k 0)) (tab_word arg4 X4 1 0 (16 * k.val / 25 + 0) (by omega) l _ _ _ _ rfl (off1_eq k 0))) (fun l => congrArg₂ IntOp.ori (tab_word arg4 X4 0 0 (16 * k.val / 25 + 1) (by omega) l _ _ _ _ rfl (off1_eq k 1)) (tab_word arg4 X4 1 0 (16 * k.val / 25 + 1) (by omega) l _ _ _ _ rfl (off1_eq k 1))) (fun l => congrArg₂ IntOp.ori (tab_word arg4 X4 0 0 (16 * k.val / 25 + 2) (by omega) l _ _ _ _ rfl (off1_eq k 2)) (tab_word arg4 X4 1 0 (16 * k.val / 25 + 2) (by omega) l _ _ _ _ rfl (off1_eq k 2)))
        _ _ _ (e149 k) (e151 k) (e260 k)
  · have e149 : ∀ k : Fin k0_t1_loop.trips, trip1.sl.v149 k = BitVec.ofNat 32 (16 * k.val) := by decide +kernel
    have e151 : ∀ k : Fin k0_t1_loop.trips, trip1.sl.v151 k = BitVec.ofNat 32 (16 * k.val / 25) := by decide +kernel
    exact valTile_at (F := F) (k0_pay95 i) (fun l => col (i 0).val 0 l.val % 25) (fun l => Nat.mod_lt _ (by decide)) (pay95_at i) ⟨k.val, hk⟩ (tabRow arg4 X4 ![0, 0, 0, 0] (k0_off1 k 0#32) inb_S2x4x64x128_S1x4x64x128_0_0_0_0 (k0_off1_inb k 0)) (tabRow arg4 X4 ![1, 0, 0, 0] (k0_off1 k 0#32) inb_S2x4x64x128_S1x4x64x128_1_0_0_0 (k0_off1_inb k 0)) (tabRow arg4 X4 ![0, 0, 0, 0] (k0_off1 k 1#32) inb_S2x4x64x128_S1x4x64x128_0_0_0_0 (k0_off1_inb k 1)) (tabRow arg4 X4 ![1, 0, 0, 0] (k0_off1 k 1#32) inb_S2x4x64x128_S1x4x64x128_1_0_0_0 (k0_off1_inb k 1)) (tabRow arg4 X4 ![0, 0, 0, 0] (k0_off1 k 2#32) inb_S2x4x64x128_S1x4x64x128_0_0_0_0 (k0_off1_inb k 2)) (tabRow arg4 X4 ![1, 0, 0, 0] (k0_off1 k 2#32) inb_S2x4x64x128_S1x4x64x128_1_0_0_0 (k0_off1_inb k 2))
        (ent (arg4.view.read (Elt F) X4) 0) (fun l => congrArg₂ IntOp.ori (tab_word arg4 X4 0 0 (16 * k.val / 25 + 0) (by omega) l _ _ _ _ rfl (off1_eq k 0)) (tab_word arg4 X4 1 0 (16 * k.val / 25 + 0) (by omega) l _ _ _ _ rfl (off1_eq k 0))) (fun l => congrArg₂ IntOp.ori (tab_word arg4 X4 0 0 (16 * k.val / 25 + 1) (by omega) l _ _ _ _ rfl (off1_eq k 1)) (tab_word arg4 X4 1 0 (16 * k.val / 25 + 1) (by omega) l _ _ _ _ rfl (off1_eq k 1))) (fun l => congrArg₂ IntOp.ori (tab_word arg4 X4 0 0 (16 * k.val / 25 + 2) (by omega) l _ _ _ _ rfl (off1_eq k 2)) (tab_word arg4 X4 1 0 (16 * k.val / 25 + 2) (by omega) l _ _ _ _ rfl (off1_eq k 2)))
        _ _ (e149 k) (e151 k)

/-- The table rows a trip for tile 1 reads. -/
theorem off3_eq : ∀ (k : Fin k0_t2_loop.trips) (r : Fin 3), k0_off3 k (BitVec.ofNat 32 r.val) = ![1, 16 * k.val / 25 + r.val, 0] := by decide +kernel

set_option sl_exec.squeezeSlice true in
set_option maxHeartbeats 200000 in
/-- One trip of the unpacking loop of tile 1 fills one more block. -/
theorem trip2 (X4 : BufTy.Contents (Elt F) arg4.view.ty) (f7 : BufTy.Contents (Elt F) arg7.view.ty) (f8 : BufTy.Contents (Elt F) arg8.view.ty) (k : Fin k0_t2_loop.trips)
    (h : Filled i arg4 arg7 arg8 X4 f7 f8 (86 * 1 + k.val)) :
    iprop((arg4.view.loc (c : Thread nD τ) ↦[arg4.view.set]{fullShare} X4) ∗ (arg7.view.loc (c : Thread nD τ) ↦[arg7.view.set]{fullShare} f7) ∗ (arg8.view.loc (c : Thread nD τ) ↦[arg8.view.set]{fullShare} f8))
    ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 (BitVec.ofNat 32 (i 0).val) (iota .tc S8x128 32 [1] iota_S8x128_d1_w32) k0_pay94 k PUnit.unit)
      (fun _ => (iprop((arg4.view.loc (c : Thread nD τ) ↦[arg4.view.set]{fullShare} X4) ∗ ∃ f7', (arg7.view.loc (c : Thread nD τ) ↦[arg7.view.set]{fullShare} f7') ∗ ∃ f8', (arg8.view.loc (c : Thread nD τ) ↦[arg8.view.set]{fullShare} f8') ∗ ⌜Filled i arg4 arg7 arg8 X4 f7' f8' (86 * 1 + (k.val + 1))⌝) : sProp 𝕄)) := by
  have hk : k.val < 86 := Nat.lt_of_lt_of_le k.isLt k0_t2_abs.2.1
  unfold k0_t2_body
  iintro ⟨H4, H7, H8⟩
  sl_exec
  sl_step
  isplitl [H4]; · iexact H4
  iexists _; isplitl [H7]; · iexact H7
  iexists _; isplitl [H8]; · iexact H8
  ipureintro
  refine filledStep i arg4 arg7 arg8 X4 f7 f8 1 ⟨k.val, hk⟩ _ _ _ (k0_off4_eq k) _ _ ?_ ?_ h
  · have e149 : ∀ k : Fin k0_t2_loop.trips, trip2.sl.v149 k = BitVec.ofNat 32 (16 * k.val) := by decide +kernel
    have e151 : ∀ k : Fin k0_t2_loop.trips, trip2.sl.v151 k = BitVec.ofNat 32 (16 * k.val / 25) := by decide +kernel
    have e260 : ∀ k : Fin k0_t2_loop.trips, trip2.sl.v260 k = BitVec.ofNat 32 (128 * k.val + 1) := by decide +kernel
    exact offTile_at (F := F) (k0_pay98 (BitVec.ofNat 32 (i 0).val) (iota .tc S8x128 32 [1] iota_S8x128_d1_w32)) (fun l => col (i 0).val 1 l.val % 25) (fun l => Nat.mod_lt _ (by decide)) (pay98_at i) ⟨k.val, hk⟩ (tabRow arg4 X4 ![0, 0, 0, 0] (k0_off3 k 0#32) inb_S2x4x64x128_S1x4x64x128_0_0_0_0 (k0_off3_inb k 0)) (tabRow arg4 X4 ![1, 0, 0, 0] (k0_off3 k 0#32) inb_S2x4x64x128_S1x4x64x128_1_0_0_0 (k0_off3_inb k 0)) (tabRow arg4 X4 ![0, 0, 0, 0] (k0_off3 k 1#32) inb_S2x4x64x128_S1x4x64x128_0_0_0_0 (k0_off3_inb k 1)) (tabRow arg4 X4 ![1, 0, 0, 0] (k0_off3 k 1#32) inb_S2x4x64x128_S1x4x64x128_1_0_0_0 (k0_off3_inb k 1)) (tabRow arg4 X4 ![0, 0, 0, 0] (k0_off3 k 2#32) inb_S2x4x64x128_S1x4x64x128_0_0_0_0 (k0_off3_inb k 2)) (tabRow arg4 X4 ![1, 0, 0, 0] (k0_off3 k 2#32) inb_S2x4x64x128_S1x4x64x128_1_0_0_0 (k0_off3_inb k 2))
        (ent (arg4.view.read (Elt F) X4) 1) (fun l => congrArg₂ IntOp.ori (tab_word arg4 X4 0 1 (16 * k.val / 25 + 0) (by omega) l _ _ _ _ rfl (off3_eq k 0)) (tab_word arg4 X4 1 1 (16 * k.val / 25 + 0) (by omega) l _ _ _ _ rfl (off3_eq k 0))) (fun l => congrArg₂ IntOp.ori (tab_word arg4 X4 0 1 (16 * k.val / 25 + 1) (by omega) l _ _ _ _ rfl (off3_eq k 1)) (tab_word arg4 X4 1 1 (16 * k.val / 25 + 1) (by omega) l _ _ _ _ rfl (off3_eq k 1))) (fun l => congrArg₂ IntOp.ori (tab_word arg4 X4 0 1 (16 * k.val / 25 + 2) (by omega) l _ _ _ _ rfl (off3_eq k 2)) (tab_word arg4 X4 1 1 (16 * k.val / 25 + 2) (by omega) l _ _ _ _ rfl (off3_eq k 2)))
        _ _ _ (e149 k) (e151 k) (e260 k)
  · have e149 : ∀ k : Fin k0_t2_loop.trips, trip2.sl.v149 k = BitVec.ofNat 32 (16 * k.val) := by decide +kernel
    have e151 : ∀ k : Fin k0_t2_loop.trips, trip2.sl.v151 k = BitVec.ofNat 32 (16 * k.val / 25) := by decide +kernel
    exact valTile_at (F := F) (k0_pay98 (BitVec.ofNat 32 (i 0).val) (iota .tc S8x128 32 [1] iota_S8x128_d1_w32)) (fun l => col (i 0).val 1 l.val % 25) (fun l => Nat.mod_lt _ (by decide)) (pay98_at i) ⟨k.val, hk⟩ (tabRow arg4 X4 ![0, 0, 0, 0] (k0_off3 k 0#32) inb_S2x4x64x128_S1x4x64x128_0_0_0_0 (k0_off3_inb k 0)) (tabRow arg4 X4 ![1, 0, 0, 0] (k0_off3 k 0#32) inb_S2x4x64x128_S1x4x64x128_1_0_0_0 (k0_off3_inb k 0)) (tabRow arg4 X4 ![0, 0, 0, 0] (k0_off3 k 1#32) inb_S2x4x64x128_S1x4x64x128_0_0_0_0 (k0_off3_inb k 1)) (tabRow arg4 X4 ![1, 0, 0, 0] (k0_off3 k 1#32) inb_S2x4x64x128_S1x4x64x128_1_0_0_0 (k0_off3_inb k 1)) (tabRow arg4 X4 ![0, 0, 0, 0] (k0_off3 k 2#32) inb_S2x4x64x128_S1x4x64x128_0_0_0_0 (k0_off3_inb k 2)) (tabRow arg4 X4 ![1, 0, 0, 0] (k0_off3 k 2#32) inb_S2x4x64x128_S1x4x64x128_1_0_0_0 (k0_off3_inb k 2))
        (ent (arg4.view.read (Elt F) X4) 1) (fun l => congrArg₂ IntOp.ori (tab_word arg4 X4 0 1 (16 * k.val / 25 + 0) (by omega) l _ _ _ _ rfl (off3_eq k 0)) (tab_word arg4 X4 1 1 (16 * k.val / 25 + 0) (by omega) l _ _ _ _ rfl (off3_eq k 0))) (fun l => congrArg₂ IntOp.ori (tab_word arg4 X4 0 1 (16 * k.val / 25 + 1) (by omega) l _ _ _ _ rfl (off3_eq k 1)) (tab_word arg4 X4 1 1 (16 * k.val / 25 + 1) (by omega) l _ _ _ _ rfl (off3_eq k 1))) (fun l => congrArg₂ IntOp.ori (tab_word arg4 X4 0 1 (16 * k.val / 25 + 2) (by omega) l _ _ _ _ rfl (off3_eq k 2)) (tab_word arg4 X4 1 1 (16 * k.val / 25 + 2) (by omega) l _ _ _ _ rfl (off3_eq k 2)))
        _ _ (e149 k) (e151 k)

/-- The table rows a trip for tile 2 reads. -/
theorem off5_eq : ∀ (k : Fin k0_t3_loop.trips) (r : Fin 3), k0_off5 k (BitVec.ofNat 32 r.val) = ![2, 16 * k.val / 25 + r.val, 0] := by decide +kernel

set_option sl_exec.squeezeSlice true in
set_option maxHeartbeats 200000 in
/-- One trip of the unpacking loop of tile 2 fills one more block. -/
theorem trip3 (X4 : BufTy.Contents (Elt F) arg4.view.ty) (f7 : BufTy.Contents (Elt F) arg7.view.ty) (f8 : BufTy.Contents (Elt F) arg8.view.ty) (k : Fin k0_t3_loop.trips)
    (h : Filled i arg4 arg7 arg8 X4 f7 f8 (86 * 2 + k.val)) :
    iprop((arg4.view.loc (c : Thread nD τ) ↦[arg4.view.set]{fullShare} X4) ∗ (arg7.view.loc (c : Thread nD τ) ↦[arg7.view.set]{fullShare} f7) ∗ (arg8.view.loc (c : Thread nD τ) ↦[arg8.view.set]{fullShare} f8))
    ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 (BitVec.ofNat 32 (i 0).val) (iota .tc S8x128 32 [1] iota_S8x128_d1_w32) k0_pay94 (k0_pay101 (BitVec.ofNat 32 (i 0).val) (iota .tc S8x128 32 [1] iota_S8x128_d1_w32)) k PUnit.unit)
      (fun _ => (iprop((arg4.view.loc (c : Thread nD τ) ↦[arg4.view.set]{fullShare} X4) ∗ ∃ f7', (arg7.view.loc (c : Thread nD τ) ↦[arg7.view.set]{fullShare} f7') ∗ ∃ f8', (arg8.view.loc (c : Thread nD τ) ↦[arg8.view.set]{fullShare} f8') ∗ ⌜Filled i arg4 arg7 arg8 X4 f7' f8' (86 * 2 + (k.val + 1))⌝) : sProp 𝕄)) := by
  have hk : k.val < 86 := Nat.lt_of_lt_of_le k.isLt k0_t3_abs.2.1
  unfold k0_t3_body
  iintro ⟨H4, H7, H8⟩
  sl_exec
  sl_step
  isplitl [H4]; · iexact H4
  iexists _; isplitl [H7]; · iexact H7
  iexists _; isplitl [H8]; · iexact H8
  ipureintro
  refine filledStep i arg4 arg7 arg8 X4 f7 f8 2 ⟨k.val, hk⟩ _ _ _ (k0_off6_eq k) _ _ ?_ ?_ h
  · have e149 : ∀ k : Fin k0_t3_loop.trips, trip3.sl.v149 k = BitVec.ofNat 32 (16 * k.val) := by decide +kernel
    have e151 : ∀ k : Fin k0_t3_loop.trips, trip3.sl.v151 k = BitVec.ofNat 32 (16 * k.val / 25) := by decide +kernel
    have e260 : ∀ k : Fin k0_t3_loop.trips, trip3.sl.v260 k = BitVec.ofNat 32 (128 * k.val + 1) := by decide +kernel
    exact offTile_at (F := F) (k0_pay102 (k0_pay101 (BitVec.ofNat 32 (i 0).val) (iota .tc S8x128 32 [1] iota_S8x128_d1_w32))) (fun l => col (i 0).val 2 l.val % 25) (fun l => Nat.mod_lt _ (by decide)) (pay102_at i) ⟨k.val, hk⟩ (tabRow arg4 X4 ![0, 0, 0, 0] (k0_off5 k 0#32) inb_S2x4x64x128_S1x4x64x128_0_0_0_0 (k0_off5_inb k 0)) (tabRow arg4 X4 ![1, 0, 0, 0] (k0_off5 k 0#32) inb_S2x4x64x128_S1x4x64x128_1_0_0_0 (k0_off5_inb k 0)) (tabRow arg4 X4 ![0, 0, 0, 0] (k0_off5 k 1#32) inb_S2x4x64x128_S1x4x64x128_0_0_0_0 (k0_off5_inb k 1)) (tabRow arg4 X4 ![1, 0, 0, 0] (k0_off5 k 1#32) inb_S2x4x64x128_S1x4x64x128_1_0_0_0 (k0_off5_inb k 1)) (tabRow arg4 X4 ![0, 0, 0, 0] (k0_off5 k 2#32) inb_S2x4x64x128_S1x4x64x128_0_0_0_0 (k0_off5_inb k 2)) (tabRow arg4 X4 ![1, 0, 0, 0] (k0_off5 k 2#32) inb_S2x4x64x128_S1x4x64x128_1_0_0_0 (k0_off5_inb k 2))
        (ent (arg4.view.read (Elt F) X4) 2) (fun l => congrArg₂ IntOp.ori (tab_word arg4 X4 0 2 (16 * k.val / 25 + 0) (by omega) l _ _ _ _ rfl (off5_eq k 0)) (tab_word arg4 X4 1 2 (16 * k.val / 25 + 0) (by omega) l _ _ _ _ rfl (off5_eq k 0))) (fun l => congrArg₂ IntOp.ori (tab_word arg4 X4 0 2 (16 * k.val / 25 + 1) (by omega) l _ _ _ _ rfl (off5_eq k 1)) (tab_word arg4 X4 1 2 (16 * k.val / 25 + 1) (by omega) l _ _ _ _ rfl (off5_eq k 1))) (fun l => congrArg₂ IntOp.ori (tab_word arg4 X4 0 2 (16 * k.val / 25 + 2) (by omega) l _ _ _ _ rfl (off5_eq k 2)) (tab_word arg4 X4 1 2 (16 * k.val / 25 + 2) (by omega) l _ _ _ _ rfl (off5_eq k 2)))
        _ _ _ (e149 k) (e151 k) (e260 k)
  · have e149 : ∀ k : Fin k0_t3_loop.trips, trip3.sl.v149 k = BitVec.ofNat 32 (16 * k.val) := by decide +kernel
    have e151 : ∀ k : Fin k0_t3_loop.trips, trip3.sl.v151 k = BitVec.ofNat 32 (16 * k.val / 25) := by decide +kernel
    exact valTile_at (F := F) (k0_pay102 (k0_pay101 (BitVec.ofNat 32 (i 0).val) (iota .tc S8x128 32 [1] iota_S8x128_d1_w32))) (fun l => col (i 0).val 2 l.val % 25) (fun l => Nat.mod_lt _ (by decide)) (pay102_at i) ⟨k.val, hk⟩ (tabRow arg4 X4 ![0, 0, 0, 0] (k0_off5 k 0#32) inb_S2x4x64x128_S1x4x64x128_0_0_0_0 (k0_off5_inb k 0)) (tabRow arg4 X4 ![1, 0, 0, 0] (k0_off5 k 0#32) inb_S2x4x64x128_S1x4x64x128_1_0_0_0 (k0_off5_inb k 0)) (tabRow arg4 X4 ![0, 0, 0, 0] (k0_off5 k 1#32) inb_S2x4x64x128_S1x4x64x128_0_0_0_0 (k0_off5_inb k 1)) (tabRow arg4 X4 ![1, 0, 0, 0] (k0_off5 k 1#32) inb_S2x4x64x128_S1x4x64x128_1_0_0_0 (k0_off5_inb k 1)) (tabRow arg4 X4 ![0, 0, 0, 0] (k0_off5 k 2#32) inb_S2x4x64x128_S1x4x64x128_0_0_0_0 (k0_off5_inb k 2)) (tabRow arg4 X4 ![1, 0, 0, 0] (k0_off5 k 2#32) inb_S2x4x64x128_S1x4x64x128_1_0_0_0 (k0_off5_inb k 2))
        (ent (arg4.view.read (Elt F) X4) 2) (fun l => congrArg₂ IntOp.ori (tab_word arg4 X4 0 2 (16 * k.val / 25 + 0) (by omega) l _ _ _ _ rfl (off5_eq k 0)) (tab_word arg4 X4 1 2 (16 * k.val / 25 + 0) (by omega) l _ _ _ _ rfl (off5_eq k 0))) (fun l => congrArg₂ IntOp.ori (tab_word arg4 X4 0 2 (16 * k.val / 25 + 1) (by omega) l _ _ _ _ rfl (off5_eq k 1)) (tab_word arg4 X4 1 2 (16 * k.val / 25 + 1) (by omega) l _ _ _ _ rfl (off5_eq k 1))) (fun l => congrArg₂ IntOp.ori (tab_word arg4 X4 0 2 (16 * k.val / 25 + 2) (by omega) l _ _ _ _ rfl (off5_eq k 2)) (tab_word arg4 X4 1 2 (16 * k.val / 25 + 2) (by omega) l _ _ _ _ rfl (off5_eq k 2)))
        _ _ (e149 k) (e151 k)

/-- The table rows a trip for tile 3 reads. -/
theorem off7_eq : ∀ (k : Fin k0_t4_loop.trips) (r : Fin 3), k0_off7 k (BitVec.ofNat 32 r.val) = ![3, 16 * k.val / 25 + r.val, 0] := by decide +kernel

set_option sl_exec.squeezeSlice true in
set_option maxHeartbeats 200000 in
/-- One trip of the unpacking loop of tile 3 fills one more block. -/
theorem trip4 (X4 : BufTy.Contents (Elt F) arg4.view.ty) (f7 : BufTy.Contents (Elt F) arg7.view.ty) (f8 : BufTy.Contents (Elt F) arg8.view.ty) (k : Fin k0_t4_loop.trips)
    (h : Filled i arg4 arg7 arg8 X4 f7 f8 (86 * 3 + k.val)) :
    iprop((arg4.view.loc (c : Thread nD τ) ↦[arg4.view.set]{fullShare} X4) ∗ (arg7.view.loc (c : Thread nD τ) ↦[arg7.view.set]{fullShare} f7) ∗ (arg8.view.loc (c : Thread nD τ) ↦[arg8.view.set]{fullShare} f8))
    ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 (BitVec.ofNat 32 (i 0).val) (iota .tc S8x128 32 [1] iota_S8x128_d1_w32) k0_pay94 (k0_pay101 (BitVec.ofNat 32 (i 0).val) (iota .tc S8x128 32 [1] iota_S8x128_d1_w32)) k PUnit.unit)
      (fun _ => (iprop((arg4.view.loc (c : Thread nD τ) ↦[arg4.view.set]{fullShare} X4) ∗ ∃ f7', (arg7.view.loc (c : Thread nD τ) ↦[arg7.view.set]{fullShare} f7') ∗ ∃ f8', (arg8.view.loc (c : Thread nD τ) ↦[arg8.view.set]{fullShare} f8') ∗ ⌜Filled i arg4 arg7 arg8 X4 f7' f8' (86 * 3 + (k.val + 1))⌝) : sProp 𝕄)) := by
  have hk : k.val < 86 := Nat.lt_of_lt_of_le k.isLt k0_t4_abs.2.1
  unfold k0_t4_body
  iintro ⟨H4, H7, H8⟩
  sl_exec
  sl_step
  isplitl [H4]; · iexact H4
  iexists _; isplitl [H7]; · iexact H7
  iexists _; isplitl [H8]; · iexact H8
  ipureintro
  refine filledStep i arg4 arg7 arg8 X4 f7 f8 3 ⟨k.val, hk⟩ _ _ _ (k0_off8_eq k) _ _ ?_ ?_ h
  · have e149 : ∀ k : Fin k0_t4_loop.trips, trip4.sl.v149 k = BitVec.ofNat 32 (16 * k.val) := by decide +kernel
    have e151 : ∀ k : Fin k0_t4_loop.trips, trip4.sl.v151 k = BitVec.ofNat 32 (16 * k.val / 25) := by decide +kernel
    have e260 : ∀ k : Fin k0_t4_loop.trips, trip4.sl.v260 k = BitVec.ofNat 32 (128 * k.val + 1) := by decide +kernel
    exact offTile_at (F := F) (k0_pay105 (BitVec.ofNat 32 (i 0).val) (iota .tc S8x128 32 [1] iota_S8x128_d1_w32)) (fun l => col (i 0).val 3 l.val % 25) (fun l => Nat.mod_lt _ (by decide)) (pay105_at i) ⟨k.val, hk⟩ (tabRow arg4 X4 ![0, 0, 0, 0] (k0_off7 k 0#32) inb_S2x4x64x128_S1x4x64x128_0_0_0_0 (k0_off7_inb k 0)) (tabRow arg4 X4 ![1, 0, 0, 0] (k0_off7 k 0#32) inb_S2x4x64x128_S1x4x64x128_1_0_0_0 (k0_off7_inb k 0)) (tabRow arg4 X4 ![0, 0, 0, 0] (k0_off7 k 1#32) inb_S2x4x64x128_S1x4x64x128_0_0_0_0 (k0_off7_inb k 1)) (tabRow arg4 X4 ![1, 0, 0, 0] (k0_off7 k 1#32) inb_S2x4x64x128_S1x4x64x128_1_0_0_0 (k0_off7_inb k 1)) (tabRow arg4 X4 ![0, 0, 0, 0] (k0_off7 k 2#32) inb_S2x4x64x128_S1x4x64x128_0_0_0_0 (k0_off7_inb k 2)) (tabRow arg4 X4 ![1, 0, 0, 0] (k0_off7 k 2#32) inb_S2x4x64x128_S1x4x64x128_1_0_0_0 (k0_off7_inb k 2))
        (ent (arg4.view.read (Elt F) X4) 3) (fun l => congrArg₂ IntOp.ori (tab_word arg4 X4 0 3 (16 * k.val / 25 + 0) (by omega) l _ _ _ _ rfl (off7_eq k 0)) (tab_word arg4 X4 1 3 (16 * k.val / 25 + 0) (by omega) l _ _ _ _ rfl (off7_eq k 0))) (fun l => congrArg₂ IntOp.ori (tab_word arg4 X4 0 3 (16 * k.val / 25 + 1) (by omega) l _ _ _ _ rfl (off7_eq k 1)) (tab_word arg4 X4 1 3 (16 * k.val / 25 + 1) (by omega) l _ _ _ _ rfl (off7_eq k 1))) (fun l => congrArg₂ IntOp.ori (tab_word arg4 X4 0 3 (16 * k.val / 25 + 2) (by omega) l _ _ _ _ rfl (off7_eq k 2)) (tab_word arg4 X4 1 3 (16 * k.val / 25 + 2) (by omega) l _ _ _ _ rfl (off7_eq k 2)))
        _ _ _ (e149 k) (e151 k) (e260 k)
  · have e149 : ∀ k : Fin k0_t4_loop.trips, trip4.sl.v149 k = BitVec.ofNat 32 (16 * k.val) := by decide +kernel
    have e151 : ∀ k : Fin k0_t4_loop.trips, trip4.sl.v151 k = BitVec.ofNat 32 (16 * k.val / 25) := by decide +kernel
    exact valTile_at (F := F) (k0_pay105 (BitVec.ofNat 32 (i 0).val) (iota .tc S8x128 32 [1] iota_S8x128_d1_w32)) (fun l => col (i 0).val 3 l.val % 25) (fun l => Nat.mod_lt _ (by decide)) (pay105_at i) ⟨k.val, hk⟩ (tabRow arg4 X4 ![0, 0, 0, 0] (k0_off7 k 0#32) inb_S2x4x64x128_S1x4x64x128_0_0_0_0 (k0_off7_inb k 0)) (tabRow arg4 X4 ![1, 0, 0, 0] (k0_off7 k 0#32) inb_S2x4x64x128_S1x4x64x128_1_0_0_0 (k0_off7_inb k 0)) (tabRow arg4 X4 ![0, 0, 0, 0] (k0_off7 k 1#32) inb_S2x4x64x128_S1x4x64x128_0_0_0_0 (k0_off7_inb k 1)) (tabRow arg4 X4 ![1, 0, 0, 0] (k0_off7 k 1#32) inb_S2x4x64x128_S1x4x64x128_1_0_0_0 (k0_off7_inb k 1)) (tabRow arg4 X4 ![0, 0, 0, 0] (k0_off7 k 2#32) inb_S2x4x64x128_S1x4x64x128_0_0_0_0 (k0_off7_inb k 2)) (tabRow arg4 X4 ![1, 0, 0, 0] (k0_off7 k 2#32) inb_S2x4x64x128_S1x4x64x128_1_0_0_0 (k0_off7_inb k 2))
        (ent (arg4.view.read (Elt F) X4) 3) (fun l => congrArg₂ IntOp.ori (tab_word arg4 X4 0 3 (16 * k.val / 25 + 0) (by omega) l _ _ _ _ rfl (off7_eq k 0)) (tab_word arg4 X4 1 3 (16 * k.val / 25 + 0) (by omega) l _ _ _ _ rfl (off7_eq k 0))) (fun l => congrArg₂ IntOp.ori (tab_word arg4 X4 0 3 (16 * k.val / 25 + 1) (by omega) l _ _ _ _ rfl (off7_eq k 1)) (tab_word arg4 X4 1 3 (16 * k.val / 25 + 1) (by omega) l _ _ _ _ rfl (off7_eq k 1))) (fun l => congrArg₂ IntOp.ori (tab_word arg4 X4 0 3 (16 * k.val / 25 + 2) (by omega) l _ _ _ _ rfl (off7_eq k 2)) (tab_word arg4 X4 1 3 (16 * k.val / 25 + 2) (by omega) l _ _ _ _ rfl (off7_eq k 2)))
        _ _ (e149 k) (e151 k)

/-- The unpacking loop of tile 0: the table is kept, the blocks before the trip are unpacked. -/
@[sl_loop, implicit_reducible] def loop1 (X4 : BufTy.Contents (Elt F) arg4.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10  where
  inv k _ := iprop((arg4.view.loc (c : Thread nD τ) ↦[arg4.view.set]{fullShare} X4) ∗ ∃ f7, (arg7.view.loc (c : Thread nD τ) ↦[arg7.view.set]{fullShare} f7) ∗ ∃ f8, (arg8.view.loc (c : Thread nD τ) ↦[arg8.view.set]{fullShare} f8) ∗ ⌜Filled i arg4 arg7 arg8 X4 f7 f8 (86 * 0 + k)⌝)
  step k acc := by
    iintro ⟨H4, %f7, H7, %f8, H8, %h⟩
    iapply (trip1 𝒱 c bd E i arg1 harg1 arg2 harg2 arg3 harg3 arg4 harg4 arg5 harg5 arg6 harg6 arg7 harg7 arg8 harg8 arg9 harg9 arg10 harg10 X4 f7 f8 k h)
    isplitl [H4]; · iexact H4
    isplitl [H7]; · iexact H7
    iexact H8

/-- The unpacking loop of tile 1: the table is kept, the blocks before the trip are unpacked. -/
@[sl_loop, implicit_reducible] def loop2 (X4 : BufTy.Contents (Elt F) arg4.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 (BitVec.ofNat 32 (i 0).val) (iota .tc S8x128 32 [1] iota_S8x128_d1_w32) k0_pay94 where
  inv k _ := iprop((arg4.view.loc (c : Thread nD τ) ↦[arg4.view.set]{fullShare} X4) ∗ ∃ f7, (arg7.view.loc (c : Thread nD τ) ↦[arg7.view.set]{fullShare} f7) ∗ ∃ f8, (arg8.view.loc (c : Thread nD τ) ↦[arg8.view.set]{fullShare} f8) ∗ ⌜Filled i arg4 arg7 arg8 X4 f7 f8 (86 * 1 + k)⌝)
  step k acc := by
    iintro ⟨H4, %f7, H7, %f8, H8, %h⟩
    iapply (trip2 𝒱 c bd E i arg1 harg1 arg2 harg2 arg3 harg3 arg4 harg4 arg5 harg5 arg6 harg6 arg7 harg7 arg8 harg8 arg9 harg9 arg10 harg10 X4 f7 f8 k h)
    isplitl [H4]; · iexact H4
    isplitl [H7]; · iexact H7
    iexact H8

/-- The unpacking loop of tile 2: the table is kept, the blocks before the trip are unpacked. -/
@[sl_loop, implicit_reducible] def loop3 (X4 : BufTy.Contents (Elt F) arg4.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 (BitVec.ofNat 32 (i 0).val) (iota .tc S8x128 32 [1] iota_S8x128_d1_w32) k0_pay94 (k0_pay101 (BitVec.ofNat 32 (i 0).val) (iota .tc S8x128 32 [1] iota_S8x128_d1_w32)) where
  inv k _ := iprop((arg4.view.loc (c : Thread nD τ) ↦[arg4.view.set]{fullShare} X4) ∗ ∃ f7, (arg7.view.loc (c : Thread nD τ) ↦[arg7.view.set]{fullShare} f7) ∗ ∃ f8, (arg8.view.loc (c : Thread nD τ) ↦[arg8.view.set]{fullShare} f8) ∗ ⌜Filled i arg4 arg7 arg8 X4 f7 f8 (86 * 2 + k)⌝)
  step k acc := by
    iintro ⟨H4, %f7, H7, %f8, H8, %h⟩
    iapply (trip3 𝒱 c bd E i arg1 harg1 arg2 harg2 arg3 harg3 arg4 harg4 arg5 harg5 arg6 harg6 arg7 harg7 arg8 harg8 arg9 harg9 arg10 harg10 X4 f7 f8 k h)
    isplitl [H4]; · iexact H4
    isplitl [H7]; · iexact H7
    iexact H8

/-- The unpacking loop of tile 3: the table is kept, the blocks before the trip are unpacked. -/
@[sl_loop, implicit_reducible] def loop4 (X4 : BufTy.Contents (Elt F) arg4.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 (BitVec.ofNat 32 (i 0).val) (iota .tc S8x128 32 [1] iota_S8x128_d1_w32) k0_pay94 (k0_pay101 (BitVec.ofNat 32 (i 0).val) (iota .tc S8x128 32 [1] iota_S8x128_d1_w32)) where
  inv k _ := iprop((arg4.view.loc (c : Thread nD τ) ↦[arg4.view.set]{fullShare} X4) ∗ ∃ f7, (arg7.view.loc (c : Thread nD τ) ↦[arg7.view.set]{fullShare} f7) ∗ ∃ f8, (arg8.view.loc (c : Thread nD τ) ↦[arg8.view.set]{fullShare} f8) ∗ ⌜Filled i arg4 arg7 arg8 X4 f7 f8 (86 * 3 + k)⌝)
  step k acc := by
    iintro ⟨H4, %f7, H7, %f8, H8, %h⟩
    iapply (trip4 𝒱 c bd E i arg1 harg1 arg2 harg2 arg3 harg3 arg4 harg4 arg5 harg5 arg6 harg6 arg7 harg7 arg8 harg8 arg9 harg9 arg10 harg10 X4 f7 f8 k h)
    isplitl [H4]; · iexact H4
    isplitl [H7]; · iexact H7
    iexact H8

end

end Cert.KernelIdeal.Body

end
-- ==== Proof.IdealFill.lean ====
/-
  The loop that builds the weights: a trip stores 32 rows of each of the four tiles. The invariant says which rows of the
  weight buffer hold the weights.
-/
module

public import proofs.«01_k».proof.Proof.Gen.KernelIdeal.Loops
public import proofs.«01_k».proof.Proof.Gen.KernelIdeal.Frame
public import proofs.«01_k».proof.Proof.IdealWeights
public import proofs.«01_k».proof.Proof.IdealTable

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- An element read through a unit-stride box is the element at the box's offsets plus its position. -/
theorem readAt_unit {κ : Kind} {sp : Space} {s : Shape} {e : EltTy} (v : View sig κ sp s e) (f : v.ty.Contents (Elt F)) {off off' size : Fin s.rank → ℕ}
    (inb : ∀ a, off a + size a ≤ s.size a) (x : (Rect.unit off size inb).shape.Idx) (y : s.Idx) (eo : off = off') (h : ∀ a, (y a).val = off' a + (x a).val) :
    View.readAt (Elt F) v (Rect.unit off size inb).toLoadRect f x = v.read (Elt F) f y := by
  subst eo
  show v.read (Elt F) f _ = _
  refine congrArg _ (funext fun a => Fin.ext ?_)
  rw [h a]
  show off a + 1 * (x a).val = _
  omega

/-- The weight in row `r`, lane `l` of tile `a` at grid point `p`, from the packed codes, scales, zeros and the table. -/
def wSpec (T : S1x344x2x8x128.Idx → BitVec 32) (S Z : S4x352x128.Idx → BitVec 32) (X : S2x4x64x128.Idx → BitVec 32) (p : ℕ) (a : Fin 4) (r : Fin 11008) (l : Fin 128) : F .bf16 :=
  wt (T (ix5 0 ⟨r.val / 32, by omega⟩ ⟨a.val % 2, by omega⟩ ⟨r.val % 32 / 4, by omega⟩ l)) (S (ix3 a ⟨r.val / 32, by omega⟩ l)) (Z (ix3 a ⟨r.val / 32, by omega⟩ l))
    (offWord (ent X a l) (col p a.val l.val % 25) (2 * (r.val / 32) + r.val % 32 / 16)) (valWord (ent X a l) (col p a.val l.val % 25) (2 * (r.val / 32) + r.val % 32 / 16))
    (a.val / 2) (r.val % 32 / 16) (r.val % 16)

/-- The same at row `32 k + 16 h + p`. -/
theorem wSpec_at (T : S1x344x2x8x128.Idx → BitVec 32) (S Z : S4x352x128.Idx → BitVec 32) (X : S2x4x64x128.Idx → BitVec 32) (st : ℕ) (a : Fin 4) (k : Fin 344) (h : Fin 2) (p : Fin 16) (l : Fin 128)
    (r : Fin 11008) (hr : r.val = 32 * k.val + 16 * h.val + p.val) :
    (wSpec T S Z X st a r l : F .bf16) = wt (T (ix5 0 k ⟨a.val % 2, by omega⟩ ⟨(16 * h.val + p.val) / 4, by omega⟩ l)) (S (ix3 a ⟨k.val, by omega⟩ l)) (Z (ix3 a ⟨k.val, by omega⟩ l))
      (offWord (ent X a l) (col st a.val l.val % 25) (2 * k.val + h.val)) (valWord (ent X a l) (col st a.val l.val % 25) (2 * k.val + h.val)) (a.val / 2) h.val p.val := by
  have e1 : r.val / 32 = k.val := by omega
  have e2 : r.val % 32 = 16 * h.val + p.val := by omega
  have e3 : (16 * h.val + p.val) / 16 = h.val := by omega
  have e4 : r.val % 16 = p.val := by omega
  unfold wSpec
  simp only [e1, e2, e3, e4]

section
variable (𝒱 : Variants) (c : Dev nD) (bd : Option 𝒱.V) (E : Set ℕ) (i : grid0.Coords) (arg1 : Memref sig .tc .vmem S1x344x2x8x128 .i32) (harg1 : arg1.IsWhole) (arg2 : Memref sig .tc .vmem S4x352x128 .i32) (harg2 : arg2.IsWhole) (arg3 : Memref sig .tc .vmem S4x352x128 .i32) (harg3 : arg3.IsWhole) (arg4 : Memref sig .tc .vmem S2x4x64x128 .i32) (harg4 : arg4.IsWhole) (arg5 : Memref sig .tc .vmem S256x11008 .bf16) (harg5 : arg5.IsWhole) (arg6 : Memref sig .tc .vmem S256x4096 .bf16) (harg6 : arg6.IsWhole) (arg7 : Memref sig .tc .vmem S4x688x128 .i32) (harg7 : arg7.IsWhole) (arg8 : Memref sig .tc .vmem S4x688x128 .i32) (harg8 : arg8.IsWhole) (arg9 : Memref sig .tc .vmem S4x11008x128 .bf16) (harg9 : arg9.IsWhole) (arg10 : Memref sig .tc .vmem S2x2x256x256 .bf16) (harg10 : arg10.IsWhole)

section Agree

variable (T : S1x344x2x8x128.Idx → BitVec 32) (S Z : S4x352x128.Idx → BitVec 32) (X : S2x4x64x128.Idx → BitVec 32) (st : ℕ)

/-- The rows of the weight buffer that `P` names hold the weights. -/
def Agree (f9 : BufTy.Contents (Elt F) arg9.view.ty) (P : ℕ → ℕ → Prop) : Prop :=
  ∀ (a : Fin 4) (r : Fin 11008) (l : Fin 128), P a.val r.val → arg9.view.read (Elt F) f9 (ix3 a r l) = wSpec T S Z X st a r l

/-- The rows of the first `n` trips hold the weights. -/
@[irreducible] def FilledW (f9 : BufTy.Contents (Elt F) arg9.view.ty) (n : ℕ) : Prop := Agree arg9 T S Z X st f9 (fun _ r => r / 32 < n)

/-- At the start there are none. -/
theorem filledW0 (f9 : BufTy.Contents (Elt F) arg9.view.ty) : FilledW arg9 T S Z X st f9 0 := by
  unfold FilledW
  intro a r l h
  exact absurd h (Nat.not_lt_zero _)

/-- One more store of sixteen rows. -/
theorem agreeStep (f9 : BufTy.Contents (Elt F) arg9.view.ty) (L : List (View.Piece (Elt F) S4x11008x128 .bf16)) (P : ℕ → ℕ → Prop)
    (a0 : Fin 4) (k : Fin 344) (h : Fin 2) (off : Fin 3 → ℕ) (inb : ∀ a, off a + S1x16x128.size a ≤ S4x11008x128.size a) (eo : off = ![a0.val, 32 * k.val + 16 * h.val, 0])
    (w : S1x16x128.Idx → F .bf16) (hw : ∀ (p : Fin 16) (l : Fin 128) (r : Fin 11008), r.val = 32 * k.val + 16 * h.val + p.val → w (ix3 0 p l) = wSpec T S Z X st a0 r l)
    (hL : Agree arg9 T S Z X st (arg9.view.writes (Elt F) f9 L) P) :
    Agree arg9 T S Z X st (arg9.view.writes (Elt F) f9 (⟨Rect.unit (s := S4x11008x128) off S1x16x128.size inb, w⟩ :: L))
      (fun a r => P a r ∨ (a = a0.val ∧ 32 * k.val + 16 * h.val ≤ r ∧ r < 32 * k.val + 16 * h.val + 16)) := by
  intro a r l hP
  by_cases hc : a.val = a0.val ∧ 32 * k.val + 16 * h.val ≤ r.val ∧ r.val < 32 * k.val + 16 * h.val + 16
  · obtain ⟨ha, hlo, hhi⟩ := hc
    obtain rfl : a = a0 := Fin.ext ha
    have hx : ∀ x : Fin 3, ((ix3 a r l : S4x11008x128.Idx) x).val = (![a.val, 32 * k.val + 16 * h.val, 0] : Fin 3 → ℕ) x
        + ((ix3 0 (⟨r.val - (32 * k.val + 16 * h.val), by omega⟩ : Fin 16) l : S1x16x128.Idx) x).val := fun x => by
      match x with
      | ⟨0, _⟩ => rfl
      | ⟨1, _⟩ => show r.val = 32 * k.val + 16 * h.val + (r.val - (32 * k.val + 16 * h.val)); omega
      | ⟨2, _⟩ => show l.val = 0 + l.val; omega
    exact (View.read_writes_cons_unit_of_mem arg9.view f9 inb w L _ _ eo hx).trans (hw ⟨r.val - (32 * k.val + 16 * h.val), by omega⟩ l r (by show _ = _ + (r.val - _); omega))
  · have hP' : P a.val r.val := hP.resolve_right hc
    by_cases ha : a.val = a0.val
    · have hn : r.val < 32 * k.val + 16 * h.val ∨ 32 * k.val + 16 * h.val + 16 ≤ r.val := by omega
      exact (View.read_writes_cons_unit_of_not_mem arg9.view f9 inb w L _ eo 1 hn).trans (hL a r l hP')
    · have hn : a.val < a0.val ∨ a0.val + 1 ≤ a.val := by omega
      exact (View.read_writes_cons_unit_of_not_mem arg9.view f9 inb w L _ eo 0 hn).trans (hL a r l hP')

/-- Fewer rows. -/
theorem agree_mono (f9 : BufTy.Contents (Elt F) arg9.view.ty) (P Q : ℕ → ℕ → Prop) (h : ∀ a r, a < 4 → Q a r → P a r) (hP : Agree arg9 T S Z X st f9 P) :
    Agree arg9 T S Z X st f9 Q := fun a r l hq => hP a r l (h _ _ a.isLt hq)

/-- A stored row of weights, from what the trip read. -/
theorem row_ok (a0 : Fin 4) (k : Fin 344) (h : Fin 2) (f : ℕ) (hf : a0.val / 2 = f) (w : S1x16x128.Idx → F .bf16)
    (t : S1x1x1x8x128.Idx → BitVec 32) (s z o v : S1x1x128.Idx → BitVec 32)
    (hw : ∀ (p : Fin 16) (l : Fin 128), w (ix3 0 p l) = wt (t (ix5 0 0 0 ⟨(16 * h.val + p.val) / 4, by omega⟩ l)) (s (ix3 0 0 l)) (z (ix3 0 0 l)) (o (ix3 0 0 l)) (v (ix3 0 0 l)) f h.val p.val)
    (ht : ∀ (q : Fin 8) (l : Fin 128), t (ix5 0 0 0 q l) = T (ix5 0 k ⟨a0.val % 2, by omega⟩ q l))
    (hs : ∀ l : Fin 128, s (ix3 0 0 l) = S (ix3 a0 ⟨k.val, by omega⟩ l)) (hz : ∀ l : Fin 128, z (ix3 0 0 l) = Z (ix3 a0 ⟨k.val, by omega⟩ l))
    (ho : ∀ l : Fin 128, o (ix3 0 0 l) = offWord (ent X a0 l) (col st a0.val l.val % 25) (2 * k.val + h.val))
    (hv : ∀ l : Fin 128, v (ix3 0 0 l) = valWord (ent X a0 l) (col st a0.val l.val % 25) (2 * k.val + h.val)) :
    ∀ (p : Fin 16) (l : Fin 128) (r : Fin 11008), r.val = 32 * k.val + 16 * h.val + p.val → w (ix3 0 p l) = wSpec T S Z X st a0 r l := by
  intro p l r hr
  rw [wSpec_at T S Z X st a0 k h p l r hr, hw, ht, hs, hz, ho, hv, hf]

end Agree

/-- The words a trip reads from the two word buffers. -/
theorem words_at (X4 : BufTy.Contents (Elt F) arg4.view.ty) (f7 : BufTy.Contents (Elt F) arg7.view.ty) (f8 : BufTy.Contents (Elt F) arg8.view.ty)
    (hF : Filled i arg4 arg7 arg8 X4 f7 f8 (86 * 3 + 86)) (a0 : Fin 4) (k : Fin 344) (h : Fin 2) (off : Fin 3 → ℕ)
    (inb : ∀ a, off a + S1x1x128.size a ≤ S4x688x128.size a) (eo : off = ![a0.val, 2 * k.val + h.val, 0]) (l : Fin 128) :
    View.readAt (Elt F) arg7.view (Rect.unit (s := S4x688x128) off S1x1x128.size inb).toLoadRect f7 (ix3 0 0 l) = offWord (ent (arg4.view.read (Elt F) X4) a0 l) (col (i 0).val a0.val l.val % 25) (2 * k.val + h.val)
    ∧ View.readAt (Elt F) arg8.view (Rect.unit (s := S4x688x128) off S1x1x128.size inb).toLoadRect f8 (ix3 0 0 l) = valWord (ent (arg4.view.read (Elt F) X4) a0 l) (col (i 0).val a0.val l.val % 25) (2 * k.val + h.val) := by
  unfold Filled at hF
  have hr : 2 * k.val + h.val < 688 := by omega
  have hx : ∀ x : Fin 3, ((ix3 a0 (⟨2 * k.val + h.val, hr⟩ : Fin 688) l : S4x688x128.Idx) x).val = (![a0.val, 2 * k.val + h.val, 0] : Fin 3 → ℕ) x + ((ix3 0 0 l : S1x1x128.Idx) x).val := fun x => by
    match x with
    | ⟨0, _⟩ => rfl
    | ⟨1, _⟩ => rfl
    | ⟨2, _⟩ => show l.val = 0 + l.val; omega
  have := hF a0 ⟨2 * k.val + h.val, hr⟩ l (by show 86 * a0.val + (2 * k.val + h.val) / 8 < _; omega)
  exact ⟨(readAt_unit arg7.view f7 inb _ _ eo hx).trans this.1, (readAt_unit arg8.view f8 inb _ _ eo hx).trans this.2⟩

/-- A row of scales or of zeros as a trip reads it. -/
theorem row_at (v : Memref sig .tc .vmem S4x352x128 .i32) (f : BufTy.Contents (Elt F) v.view.ty) (a0 : Fin 4) (k : Fin 344) (off : Fin 3 → ℕ)
    (inb : ∀ a, off a + S1x1x128.size a ≤ S4x352x128.size a) (eo : off = ![a0.val, k.val, 0]) (l : Fin 128) :
    View.readAt (Elt F) v.view (Rect.unit (s := S4x352x128) off S1x1x128.size inb).toLoadRect f (ix3 0 0 l) = v.view.read (Elt F) f (ix3 a0 ⟨k.val, by omega⟩ l) :=
  readAt_unit v.view f inb _ _ eo fun x => by
    match x with
    | ⟨0, _⟩ => rfl
    | ⟨1, _⟩ => rfl
    | ⟨2, _⟩ => show l.val = 0 + l.val; omega

/-- The eight rows of packed codes a trip reads. -/
theorem codes_at (f1 : BufTy.Contents (Elt F) arg1.view.ty) (j : Fin 2) (k : Fin 344) (off : Fin 5 → ℕ)
    (inb : ∀ a, off a + S1x1x1x8x128.size a ≤ S1x344x2x8x128.size a) (eo : off = ![0, k.val, j.val, 0, 0]) (q : Fin 8) (l : Fin 128) :
    View.readAt (Elt F) arg1.view (Rect.unit (s := S1x344x2x8x128) off S1x1x1x8x128.size inb).toLoadRect f1 (ix5 0 0 0 q l) = arg1.view.read (Elt F) f1 (ix5 0 k j q l) :=
  readAt_unit arg1.view f1 inb _ _ eo fun x => by
    match x with
    | ⟨0, _⟩ => rfl
    | ⟨1, _⟩ => rfl
    | ⟨2, _⟩ => rfl
    | ⟨3, _⟩ => show q.val = 0 + q.val; omega
    | ⟨4, _⟩ => show l.val = 0 + l.val; omega

set_option maxHeartbeats 1000000 in
/-- One trip stores its 32 rows of every tile. -/
theorem trip5 (arg0 : BitVec 32) (X4 : BufTy.Contents (Elt F) arg4.view.ty) (f1 : BufTy.Contents (Elt F) arg1.view.ty) (f2 : BufTy.Contents (Elt F) arg2.view.ty) (f3 : BufTy.Contents (Elt F) arg3.view.ty) (f7 : BufTy.Contents (Elt F) arg7.view.ty) (f8 : BufTy.Contents (Elt F) arg8.view.ty) (f9 : BufTy.Contents (Elt F) arg9.view.ty) (k : Fin k0_t5_loop.trips)
    (hF : Filled i arg4 arg7 arg8 X4 f7 f8 (86 * 3 + 86)) (hW : FilledW arg9 (arg1.view.read (Elt F) f1) (arg2.view.read (Elt F) f2) (arg3.view.read (Elt F) f3) (arg4.view.read (Elt F) X4) (i 0).val f9 (k.val)) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))
    ⊢ wp frame (wpE (defs₀ (F := F)) 𝒱 (c : Thread nD τ) bd) E (k0_t5_body (F := F) i arg1 harg1 arg2 harg2 arg3 harg3 arg4 harg4 arg5 harg5 arg6 harg6 arg7 harg7 arg8 harg8 arg9 harg9 arg10 harg10 arg0 k PUnit.unit)
      (fun _ => (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg7.view.loc (c : Thread nD τ) ↦[arg7.view.set]{fullShare} f7) ∗ (arg8.view.loc (c : Thread nD τ) ↦[arg8.view.set]{fullShare} f8) ∗ ∃ f9', (arg9.view.loc (c : Thread nD τ) ↦[arg9.view.set]{fullShare} f9') ∗ ⌜FilledW arg9 (arg1.view.read (Elt F) f1) (arg2.view.read (Elt F) f2) (arg3.view.read (Elt F) f3) (arg4.view.read (Elt F) X4) (i 0).val f9' (k.val + 1)⌝) : sProp 𝕄)) := by
  have hk : k.val < 344 := Nat.lt_of_lt_of_le k.isLt k0_t5_abs.2.1
  unfold k0_t5_body
  iintro ⟨H1, H2, H3, H7, H8, H9⟩
  sl_exec
  sl_step
  isplitl [H1]; · iexact H1
  isplitl [H2]; · iexact H2
  isplitl [H3]; · iexact H3
  isplitl [H7]; · iexact H7
  isplitl [H8]; · iexact H8
  iexists _; isplitl [H9]; · iexact H9
  ipureintro
  unfold FilledW at hW ⊢
  refine agree_mono arg9 _ _ _ _ _ _ _ _ (fun a r ha hr => ?_)
    (agreeStep arg9 _ _ _ _ _ f9 _ _ 3 ⟨k.val, hk⟩ 1 _ _ (k0_off22_eq k 1) _ (row_ok _ _ _ _ _ 3 ⟨k.val, hk⟩ 1 1 rfl _ _ _ _ _ _
    (w3hi (View.readAt (Elt F) arg1.view (Rect.unit (s := S1x344x2x8x128) (k0_off16 k) S1x1x1x8x128.size (k0_off16_inb k)).toLoadRect f1)
      (View.readAt (Elt F) arg2.view (Rect.unit (s := S4x352x128) (k0_off20 k) S1x1x128.size (k0_off20_inb k)).toLoadRect f2)
      (View.readAt (Elt F) arg3.view (Rect.unit (s := S4x352x128) (k0_off20 k) S1x1x128.size (k0_off20_inb k)).toLoadRect f3)
      (View.readAt (Elt F) arg7.view (Rect.unit (s := S4x688x128) (k0_off21 k 1#32) S1x1x128.size (k0_off21_inb k 1)).toLoadRect f7)
      (View.readAt (Elt F) arg8.view (Rect.unit (s := S4x688x128) (k0_off21 k 1#32) S1x1x128.size (k0_off21_inb k 1)).toLoadRect f8))
    (codes_at arg1 f1 1 ⟨k.val, hk⟩ _ _ (k0_off16_eq k)) (row_at arg2 f2 3 ⟨k.val, hk⟩ _ _ (k0_off20_eq k)) (row_at arg3 f3 3 ⟨k.val, hk⟩ _ _ (k0_off20_eq k))
    (fun l => (words_at i arg4 arg7 arg8 X4 f7 f8 hF 3 ⟨k.val, hk⟩ 1 _ _ (k0_off21_eq k 1) l).1) (fun l => (words_at i arg4 arg7 arg8 X4 f7 f8 hF 3 ⟨k.val, hk⟩ 1 _ _ (k0_off21_eq k 1) l).2))
    (agreeStep arg9 _ _ _ _ _ f9 _ _ 3 ⟨k.val, hk⟩ 0 _ _ (k0_off22_eq k 0) _ (row_ok _ _ _ _ _ 3 ⟨k.val, hk⟩ 0 1 rfl _ _ _ _ _ _
    (w3lo (View.readAt (Elt F) arg1.view (Rect.unit (s := S1x344x2x8x128) (k0_off16 k) S1x1x1x8x128.size (k0_off16_inb k)).toLoadRect f1)
      (View.readAt (Elt F) arg2.view (Rect.unit (s := S4x352x128) (k0_off20 k) S1x1x128.size (k0_off20_inb k)).toLoadRect f2)
      (View.readAt (Elt F) arg3.view (Rect.unit (s := S4x352x128) (k0_off20 k) S1x1x128.size (k0_off20_inb k)).toLoadRect f3)
      (View.readAt (Elt F) arg7.view (Rect.unit (s := S4x688x128) (k0_off21 k 0#32) S1x1x128.size (k0_off21_inb k 0)).toLoadRect f7)
      (View.readAt (Elt F) arg8.view (Rect.unit (s := S4x688x128) (k0_off21 k 0#32) S1x1x128.size (k0_off21_inb k 0)).toLoadRect f8))
    (codes_at arg1 f1 1 ⟨k.val, hk⟩ _ _ (k0_off16_eq k)) (row_at arg2 f2 3 ⟨k.val, hk⟩ _ _ (k0_off20_eq k)) (row_at arg3 f3 3 ⟨k.val, hk⟩ _ _ (k0_off20_eq k))
    (fun l => (words_at i arg4 arg7 arg8 X4 f7 f8 hF 3 ⟨k.val, hk⟩ 0 _ _ (k0_off21_eq k 0) l).1) (fun l => (words_at i arg4 arg7 arg8 X4 f7 f8 hF 3 ⟨k.val, hk⟩ 0 _ _ (k0_off21_eq k 0) l).2))
    (agreeStep arg9 _ _ _ _ _ f9 _ _ 1 ⟨k.val, hk⟩ 1 _ _ (k0_off19_eq k 1) _ (row_ok _ _ _ _ _ 1 ⟨k.val, hk⟩ 1 0 rfl _ _ _ _ _ _
    (w1hi (View.readAt (Elt F) arg1.view (Rect.unit (s := S1x344x2x8x128) (k0_off16 k) S1x1x1x8x128.size (k0_off16_inb k)).toLoadRect f1)
      (View.readAt (Elt F) arg2.view (Rect.unit (s := S4x352x128) (k0_off17 k) S1x1x128.size (k0_off17_inb k)).toLoadRect f2)
      (View.readAt (Elt F) arg3.view (Rect.unit (s := S4x352x128) (k0_off17 k) S1x1x128.size (k0_off17_inb k)).toLoadRect f3)
      (View.readAt (Elt F) arg7.view (Rect.unit (s := S4x688x128) (k0_off18 k 1#32) S1x1x128.size (k0_off18_inb k 1)).toLoadRect f7)
      (View.readAt (Elt F) arg8.view (Rect.unit (s := S4x688x128) (k0_off18 k 1#32) S1x1x128.size (k0_off18_inb k 1)).toLoadRect f8))
    (codes_at arg1 f1 1 ⟨k.val, hk⟩ _ _ (k0_off16_eq k)) (row_at arg2 f2 1 ⟨k.val, hk⟩ _ _ (k0_off17_eq k)) (row_at arg3 f3 1 ⟨k.val, hk⟩ _ _ (k0_off17_eq k))
    (fun l => (words_at i arg4 arg7 arg8 X4 f7 f8 hF 1 ⟨k.val, hk⟩ 1 _ _ (k0_off18_eq k 1) l).1) (fun l => (words_at i arg4 arg7 arg8 X4 f7 f8 hF 1 ⟨k.val, hk⟩ 1 _ _ (k0_off18_eq k 1) l).2))
    (agreeStep arg9 _ _ _ _ _ f9 _ _ 1 ⟨k.val, hk⟩ 0 _ _ (k0_off19_eq k 0) _ (row_ok _ _ _ _ _ 1 ⟨k.val, hk⟩ 0 0 rfl _ _ _ _ _ _
    (w1lo (View.readAt (Elt F) arg1.view (Rect.unit (s := S1x344x2x8x128) (k0_off16 k) S1x1x1x8x128.size (k0_off16_inb k)).toLoadRect f1)
      (View.readAt (Elt F) arg2.view (Rect.unit (s := S4x352x128) (k0_off17 k) S1x1x128.size (k0_off17_inb k)).toLoadRect f2)
      (View.readAt (Elt F) arg3.view (Rect.unit (s := S4x352x128) (k0_off17 k) S1x1x128.size (k0_off17_inb k)).toLoadRect f3)
      (View.readAt (Elt F) arg7.view (Rect.unit (s := S4x688x128) (k0_off18 k 0#32) S1x1x128.size (k0_off18_inb k 0)).toLoadRect f7)
      (View.readAt (Elt F) arg8.view (Rect.unit (s := S4x688x128) (k0_off18 k 0#32) S1x1x128.size (k0_off18_inb k 0)).toLoadRect f8))
    (codes_at arg1 f1 1 ⟨k.val, hk⟩ _ _ (k0_off16_eq k)) (row_at arg2 f2 1 ⟨k.val, hk⟩ _ _ (k0_off17_eq k)) (row_at arg3 f3 1 ⟨k.val, hk⟩ _ _ (k0_off17_eq k))
    (fun l => (words_at i arg4 arg7 arg8 X4 f7 f8 hF 1 ⟨k.val, hk⟩ 0 _ _ (k0_off18_eq k 0) l).1) (fun l => (words_at i arg4 arg7 arg8 X4 f7 f8 hF 1 ⟨k.val, hk⟩ 0 _ _ (k0_off18_eq k 0) l).2))
    (agreeStep arg9 _ _ _ _ _ f9 _ _ 2 ⟨k.val, hk⟩ 1 _ _ (k0_off15_eq k 1) _ (row_ok _ _ _ _ _ 2 ⟨k.val, hk⟩ 1 1 rfl _ _ _ _ _ _
    (w2hi (View.readAt (Elt F) arg1.view (Rect.unit (s := S1x344x2x8x128) (k0_off9 k) S1x1x1x8x128.size (k0_off9_inb k)).toLoadRect f1)
      (View.readAt (Elt F) arg2.view (Rect.unit (s := S4x352x128) (k0_off13 k) S1x1x128.size (k0_off13_inb k)).toLoadRect f2)
      (View.readAt (Elt F) arg3.view (Rect.unit (s := S4x352x128) (k0_off13 k) S1x1x128.size (k0_off13_inb k)).toLoadRect f3)
      (View.readAt (Elt F) arg7.view (Rect.unit (s := S4x688x128) (k0_off14 k 1#32) S1x1x128.size (k0_off14_inb k 1)).toLoadRect f7)
      (View.readAt (Elt F) arg8.view (Rect.unit (s := S4x688x128) (k0_off14 k 1#32) S1x1x128.size (k0_off14_inb k 1)).toLoadRect f8))
    (codes_at arg1 f1 0 ⟨k.val, hk⟩ _ _ (k0_off9_eq k)) (row_at arg2 f2 2 ⟨k.val, hk⟩ _ _ (k0_off13_eq k)) (row_at arg3 f3 2 ⟨k.val, hk⟩ _ _ (k0_off13_eq k))
    (fun l => (words_at i arg4 arg7 arg8 X4 f7 f8 hF 2 ⟨k.val, hk⟩ 1 _ _ (k0_off14_eq k 1) l).1) (fun l => (words_at i arg4 arg7 arg8 X4 f7 f8 hF 2 ⟨k.val, hk⟩ 1 _ _ (k0_off14_eq k 1) l).2))
    (agreeStep arg9 _ _ _ _ _ f9 _ _ 2 ⟨k.val, hk⟩ 0 _ _ (k0_off15_eq k 0) _ (row_ok _ _ _ _ _ 2 ⟨k.val, hk⟩ 0 1 rfl _ _ _ _ _ _
    (w2lo (View.readAt (Elt F) arg1.view (Rect.unit (s := S1x344x2x8x128) (k0_off9 k) S1x1x1x8x128.size (k0_off9_inb k)).toLoadRect f1)
      (View.readAt (Elt F) arg2.view (Rect.unit (s := S4x352x128) (k0_off13 k) S1x1x128.size (k0_off13_inb k)).toLoadRect f2)
      (View.readAt (Elt F) arg3.view (Rect.unit (s := S4x352x128) (k0_off13 k) S1x1x128.size (k0_off13_inb k)).toLoadRect f3)
      (View.readAt (Elt F) arg7.view (Rect.unit (s := S4x688x128) (k0_off14 k 0#32) S1x1x128.size (k0_off14_inb k 0)).toLoadRect f7)
      (View.readAt (Elt F) arg8.view (Rect.unit (s := S4x688x128) (k0_off14 k 0#32) S1x1x128.size (k0_off14_inb k 0)).toLoadRect f8))
    (codes_at arg1 f1 0 ⟨k.val, hk⟩ _ _ (k0_off9_eq k)) (row_at arg2 f2 2 ⟨k.val, hk⟩ _ _ (k0_off13_eq k)) (row_at arg3 f3 2 ⟨k.val, hk⟩ _ _ (k0_off13_eq k))
    (fun l => (words_at i arg4 arg7 arg8 X4 f7 f8 hF 2 ⟨k.val, hk⟩ 0 _ _ (k0_off14_eq k 0) l).1) (fun l => (words_at i arg4 arg7 arg8 X4 f7 f8 hF 2 ⟨k.val, hk⟩ 0 _ _ (k0_off14_eq k 0) l).2))
    (agreeStep arg9 _ _ _ _ _ f9 _ _ 0 ⟨k.val, hk⟩ 1 _ _ (k0_off12_eq k 1) _ (row_ok _ _ _ _ _ 0 ⟨k.val, hk⟩ 1 0 rfl _ _ _ _ _ _
    (w0hi (View.readAt (Elt F) arg1.view (Rect.unit (s := S1x344x2x8x128) (k0_off9 k) S1x1x1x8x128.size (k0_off9_inb k)).toLoadRect f1)
      (View.readAt (Elt F) arg2.view (Rect.unit (s := S4x352x128) (k0_off10 k) S1x1x128.size (k0_off10_inb k)).toLoadRect f2)
      (View.readAt (Elt F) arg3.view (Rect.unit (s := S4x352x128) (k0_off10 k) S1x1x128.size (k0_off10_inb k)).toLoadRect f3)
      (View.readAt (Elt F) arg7.view (Rect.unit (s := S4x688x128) (k0_off11 k 1#32) S1x1x128.size (k0_off11_inb k 1)).toLoadRect f7)
      (View.readAt (Elt F) arg8.view (Rect.unit (s := S4x688x128) (k0_off11 k 1#32) S1x1x128.size (k0_off11_inb k 1)).toLoadRect f8))
    (codes_at arg1 f1 0 ⟨k.val, hk⟩ _ _ (k0_off9_eq k)) (row_at arg2 f2 0 ⟨k.val, hk⟩ _ _ (k0_off10_eq k)) (row_at arg3 f3 0 ⟨k.val, hk⟩ _ _ (k0_off10_eq k))
    (fun l => (words_at i arg4 arg7 arg8 X4 f7 f8 hF 0 ⟨k.val, hk⟩ 1 _ _ (k0_off11_eq k 1) l).1) (fun l => (words_at i arg4 arg7 arg8 X4 f7 f8 hF 0 ⟨k.val, hk⟩ 1 _ _ (k0_off11_eq k 1) l).2))
    (agreeStep arg9 _ _ _ _ _ f9 _ _ 0 ⟨k.val, hk⟩ 0 _ _ (k0_off12_eq k 0) _ (row_ok _ _ _ _ _ 0 ⟨k.val, hk⟩ 0 0 rfl _ _ _ _ _ _
    (w0lo (View.readAt (Elt F) arg1.view (Rect.unit (s := S1x344x2x8x128) (k0_off9 k) S1x1x1x8x128.size (k0_off9_inb k)).toLoadRect f1)
      (View.readAt (Elt F) arg2.view (Rect.unit (s := S4x352x128) (k0_off10 k) S1x1x128.size (k0_off10_inb k)).toLoadRect f2)
      (View.readAt (Elt F) arg3.view (Rect.unit (s := S4x352x128) (k0_off10 k) S1x1x128.size (k0_off10_inb k)).toLoadRect f3)
      (View.readAt (Elt F) arg7.view (Rect.unit (s := S4x688x128) (k0_off11 k 0#32) S1x1x128.size (k0_off11_inb k 0)).toLoadRect f7)
      (View.readAt (Elt F) arg8.view (Rect.unit (s := S4x688x128) (k0_off11 k 0#32) S1x1x128.size (k0_off11_inb k 0)).toLoadRect f8))
    (codes_at arg1 f1 0 ⟨k.val, hk⟩ _ _ (k0_off9_eq k)) (row_at arg2 f2 0 ⟨k.val, hk⟩ _ _ (k0_off10_eq k)) (row_at arg3 f3 0 ⟨k.val, hk⟩ _ _ (k0_off10_eq k))
    (fun l => (words_at i arg4 arg7 arg8 X4 f7 f8 hF 0 ⟨k.val, hk⟩ 0 _ _ (k0_off11_eq k 0) l).1) (fun l => (words_at i arg4 arg7 arg8 X4 f7 f8 hF 0 ⟨k.val, hk⟩ 0 _ _ (k0_off11_eq k 0) l).2))
    hW))))))))
  show ((((((((_ ∨ _) ∨ _) ∨ _) ∨ _) ∨ _) ∨ _) ∨ _) ∨ _)
  simp only [Fin.val_zero, Fin.val_one]
  omega

/-- The weight loop: what it reads is kept, the rows of the trips before hold the weights. -/
@[sl_loop, implicit_reducible] def loop5 (arg0 : BitVec 32) (X4 : BufTy.Contents (Elt F) arg4.view.ty) (f1 : BufTy.Contents (Elt F) arg1.view.ty) (f2 : BufTy.Contents (Elt F) arg2.view.ty) (f3 : BufTy.Contents (Elt F) arg3.view.ty) (f7 : BufTy.Contents (Elt F) arg7.view.ty) (f8 : BufTy.Contents (Elt F) arg8.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg0 where
  inv k _ := iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} X4) ∗ (arg7.view.loc (c : Thread nD τ) ↦[arg7.view.set]{fullShare} f7) ∗ (arg8.view.loc (c : Thread nD τ) ↦[arg8.view.set]{fullShare} f8) ∗ ⌜Filled i arg4 arg7 arg8 X4 f7 f8 (86 * 3 + 86)⌝ ∗ ∃ f9, (arg9.view.loc (c : Thread nD τ) ↦[arg9.view.set]{fullShare} f9) ∗ ⌜FilledW arg9 (arg1.view.read (Elt F) f1) (arg2.view.read (Elt F) f2) (arg3.view.read (Elt F) f3) (arg4.view.read (Elt F) X4) (i 0).val f9 (k)⌝)
  step k acc := by
    iintro ⟨H1, H2, H3, H4, H7, H8, %hF, %f9, H9, %h⟩
    iapply (wp_wand_r Idealize.ShloMosaic.frame (wpE (defs₀ (F := F)) 𝒱 (c : Thread nD τ) bd) E)
    isplitl [H1 H2 H3 H7 H8 H9]
    · iapply (trip5 𝒱 c bd E i arg1 harg1 arg2 harg2 arg3 harg3 arg4 harg4 arg5 harg5 arg6 harg6 arg7 harg7 arg8 harg8 arg9 harg9 arg10 harg10 arg0 X4 f1 f2 f3 f7 f8 f9 k hF h)
      isplitl [H1]; · iexact H1
      isplitl [H2]; · iexact H2
      isplitl [H3]; · iexact H3
      isplitl [H7]; · iexact H7
      isplitl [H8]; · iexact H8
      iexact H9
    · iintro %_ ⟨H1, H2, H3, H7, H8, H9⟩
      isplitl [H1]; · iexact H1
      isplitl [H2]; · iexact H2
      isplitl [H3]; · iexact H3
      isplitl [H4]; · iexact H4
      isplitl [H7]; · iexact H7
      isplitl [H8]; · iexact H8
      isplitr; · ipureintro; exact hF
      iexact H9

end

end Cert.KernelIdeal.Body

end
-- ==== Proof.IdealPoint.lean ====
/-
  One run of the body at a grid point: what it leaves in the buffer of the two column blocks and, at the odd points, in the result.
-/
module

public import proofs.«01_k».proof.Proof.Gen.KernelIdeal.Loops
public import proofs.«01_k».proof.Proof.Gen.KernelIdeal.Frame
public import proofs.«01_k».proof.Proof.IdealGeometry
public import proofs.«01_k».proof.Proof.IdealFill

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (𝒱 : Variants) (c : Dev nD) (bd : Option 𝒱.V) (E : Set ℕ) (i : grid0.Coords) (arg1 : Memref sig .tc .vmem S1x344x2x8x128 .i32) (harg1 : arg1.IsWhole) (arg2 : Memref sig .tc .vmem S4x352x128 .i32) (harg2 : arg2.IsWhole) (arg3 : Memref sig .tc .vmem S4x352x128 .i32) (harg3 : arg3.IsWhole) (arg4 : Memref sig .tc .vmem S2x4x64x128 .i32) (harg4 : arg4.IsWhole) (arg5 : Memref sig .tc .vmem S256x11008 .bf16) (harg5 : arg5.IsWhole) (arg6 : Memref sig .tc .vmem S256x4096 .bf16) (harg6 : arg6.IsWhole) (arg7 : Memref sig .tc .vmem S4x688x128 .i32) (harg7 : arg7.IsWhole) (arg8 : Memref sig .tc .vmem S4x688x128 .i32) (harg8 : arg8.IsWhole) (arg9 : Memref sig .tc .vmem S4x11008x128 .bf16) (harg9 : arg9.IsWhole) (arg10 : Memref sig .tc .vmem S2x2x256x256 .bf16) (harg10 : arg10.IsWhole)

/-- Rows and columns of tile `a` of the weight buffer, as the product loads it. -/
def tileOf (g9 : BufTy.Contents (Elt F) arg9.view.ty) (a : ℕ) (inb : ∀ x, (![a, 0, 0] : Fin 3 → ℕ) x + S1x11008x128.size x ≤ S4x11008x128.size x) : Vec F S1x11008x128 .bf16 :=
  View.readAt (Elt F) arg9.view (Rect.unit (s := S4x11008x128) ![a, 0, 0] S1x11008x128.size inb).toLoadRect g9

/-- The activations, as the products load them. -/
def actOf (f5 : BufTy.Contents (Elt F) arg5.view.ty) : Vec F S256x11008 .bf16 :=
  View.readAt (Elt F) arg5.view (Rect.unit (s := S256x11008) ![0, 0] S256x11008.size inb_S256x11008_S256x11008_0_0).toLoadRect f5

/-- The two stores of products at a point. -/
def planes (f5 : BufTy.Contents (Elt F) arg5.view.ty) (g9 : BufTy.Contents (Elt F) arg9.view.ty) : List (View.Piece (Elt F) S2x2x256x256 .bf16) :=
  [⟨Rect.unit (s := S2x2x256x256) (k0_off24 i) S1x1x256x256.size (k0_off24_inb i), k0_pay1 (k0_pay111 (tileOf arg9 g9 2 inb_S4x11008x128_S1x11008x128_2_0_0) (tileOf arg9 g9 3 inb_S4x11008x128_S1x11008x128_3_0_0) (actOf arg5 f5))⟩,
    ⟨Rect.unit (s := S2x2x256x256) (k0_off23 i) S1x1x256x256.size (k0_off23_inb i), k0_pay110 (tileOf arg9 g9 0 inb_S4x11008x128_S1x11008x128_0_0_0) (tileOf arg9 g9 1 inb_S4x11008x128_S1x11008x128_1_0_0) (actOf arg5 f5)⟩]

/-- Plane `(a, b)` of the products, as the reordering loads it. -/
def planeOf (g10 : BufTy.Contents (Elt F) arg10.view.ty) (a b : ℕ) (inb : ∀ x, (![a, b, 0, 0] : Fin 4 → ℕ) x + S1x1x256x256.size x ≤ S2x2x256x256.size x) : Vec F S1x1x256x256 .bf16 :=
  View.readAt (Elt F) arg10.view (Rect.unit (s := S2x2x256x256) ![a, b, 0, 0] S1x1x256x256.size inb).toLoadRect g10

/-- The two stores of columns of the result at an odd point. -/
def columns (g10 : BufTy.Contents (Elt F) arg10.view.ty) (h : k0_cond1 i = 1#1) : List (View.Piece (Elt F) S256x4096 .bf16) :=
  [⟨Rect.unit (s := S256x4096) (k0_off25 i 4#32) S256x512.size (k0_off25_inb i h 1), k0_pay2 (k0_pay93 (planeOf arg10 g10 1 0 inb_S2x2x256x256_S1x1x256x256_1_0_0_0) (planeOf arg10 g10 1 1 inb_S2x2x256x256_S1x1x256x256_1_1_0_0))⟩,
    ⟨Rect.unit (s := S256x4096) (k0_off25 i 0#32) S256x512.size (k0_off25_inb i h 0), k0_pay92 (planeOf arg10 g10 0 0 inb_S2x2x256x256_S1x1x256x256_0_0_0_0) (planeOf arg10 g10 0 1 inb_S2x2x256x256_S1x1x256x256_0_1_0_0)⟩]

variable (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)

set_option maxHeartbeats 1000000 in
/-- An even point: the weight buffer is filled and the two products are stored. -/
theorem runEven (h : ¬ k0_cond1 i = 1#1) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
    ⊢ wp frame (wpE (defs₀ (F := F)) 𝒱 (c : Thread nD τ) bd) E (cc0_spqr_main_skel (F := F) i arg1 harg1 arg2 harg2 arg3 harg3 arg4 harg4 arg5 harg5 arg6 harg6 arg7 harg7 arg8 harg8 arg9 harg9 arg10 harg10)
      (fun _ => (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ f, (arg7.view.loc (c : Thread nD τ) ↦[arg7.view.set]{fullShare} f)) ∗ (∃ f, (arg8.view.loc (c : Thread nD τ) ↦[arg8.view.set]{fullShare} f)) ∗ ∃ g9, (arg9.view.loc (c : Thread nD τ) ↦[arg9.view.set]{fullShare} g9) ∗ ⌜FilledW arg9 (arg1.view.read (Elt F) f1) (arg2.view.read (Elt F) f2) (arg3.view.read (Elt F) f3) (arg4.view.read (Elt F) f4) (i 0).val g9 344⌝
        ∗ (arg10.view.loc (c : Thread nD τ) ↦[arg10.view.set]{fullShare} (arg10.view.writes (Elt F) f10 (planes i arg5 arg9 f5 g9)))) : sProp 𝕄)) := by
  unfold cc0_spqr_main_skel
  simp only [k0_part21_eq_skeleton, k0_part22_eq_skeleton, k0_part23_eq_skeleton, k0_part24_eq_skeleton, k0_part20_eq_skeleton]
  iintro ⟨H1, H2, H3, H4, H5, H6, H7, H8, H9, H10⟩

  have h0 := filled0 i arg4 arg7 arg8 f4 f7 f8
  have h9 := filledW0 (F := F) arg9 (arg1.view.read (Elt F) f1) (arg2.view.read (Elt F) f2) (arg3.view.read (Elt F) f3) (arg4.view.read (Elt F) f4) (i 0).val f9
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iexists _; isplitl [H9]; · iexact H9
  isplitr; · ipureintro; assumption
  iexact H10

set_option maxHeartbeats 1000000 in
/-- An odd point: the same, and two blocks of columns of the result are stored from the products. -/
theorem runOdd (h : k0_cond1 i = 1#1) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
    ⊢ wp frame (wpE (defs₀ (F := F)) 𝒱 (c : Thread nD τ) bd) E (cc0_spqr_main_skel (F := F) i arg1 harg1 arg2 harg2 arg3 harg3 arg4 harg4 arg5 harg5 arg6 harg6 arg7 harg7 arg8 harg8 arg9 harg9 arg10 harg10)
      (fun _ => (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (∃ f, (arg7.view.loc (c : Thread nD τ) ↦[arg7.view.set]{fullShare} f)) ∗ (∃ f, (arg8.view.loc (c : Thread nD τ) ↦[arg8.view.set]{fullShare} f)) ∗ ∃ g9, (arg9.view.loc (c : Thread nD τ) ↦[arg9.view.set]{fullShare} g9) ∗ ⌜FilledW arg9 (arg1.view.read (Elt F) f1) (arg2.view.read (Elt F) f2) (arg3.view.read (Elt F) f3) (arg4.view.read (Elt F) f4) (i 0).val g9 344⌝
        ∗ (arg10.view.loc (c : Thread nD τ) ↦[arg10.view.set]{fullShare} (arg10.view.writes (Elt F) f10 (planes i arg5 arg9 f5 g9)))
        ∗ (arg6.view.loc (c : Thread nD τ) ↦[arg6.view.set]{fullShare} (arg6.view.writes (Elt F) f6 (columns i arg10 (h := h) (arg10.view.writes (Elt F) f10 (planes i arg5 arg9 f5 g9)))))) : sProp 𝕄)) := by
  unfold cc0_spqr_main_skel
  simp only [k0_part21_eq_skeleton, k0_part22_eq_skeleton, k0_part23_eq_skeleton, k0_part24_eq_skeleton, k0_part20_eq_skeleton]
  iintro ⟨H1, H2, H3, H4, H5, H6, H7, H8, H9, H10⟩
  have hodd := (cond_iff i).1 h
  have h0 := filled0 i arg4 arg7 arg8 f4 f7 f8
  have h9 := filledW0 (F := F) arg9 (arg1.view.read (Elt F) f1) (arg2.view.read (Elt F) f2) (arg3.view.read (Elt F) f3) (arg4.view.read (Elt F) f4) (i 0).val f9
  sl_exec
  sl_step
  isplitl [H1]; · iexact H1
  isplitl [H2]; · iexact H2
  isplitl [H3]; · iexact H3
  isplitl [H4]; · iexact H4
  isplitl [H5]; · iexact H5

  isplitl [H7]; · iexists _; iexact H7
  isplitl [H8]; · iexists _; iexact H8
  iexists _; isplitl [H9]; · iexact H9
  isplitr; · ipureintro; assumption
  isplitl [H10]; · iexact H10
  iexact H6

end

end Cert.KernelIdeal.Body

end
-- ==== Proof.ZeroOne.lean ====
/-
  Matrices of zeros and ones over the extended reals: an entry that says whether two words are equal, and a product with a
  column of such entries.
-/
module

public import Idealize.ShloMosaic.PureOps.Ideal
public import Idealize.ShloMosaic.Lib.Pointwise

@[expose] public section

noncomputable section

namespace Cert.ZeroOne

open Idealize.ShloMosaic

/-- Whether two words are equal, as a number: a one or a zero. -/
theorem entry (r s : ℕ) (hr : r < 2 ^ 32) (hs : s < 2 ^ 32) :
    FloatOps.sitofp (F := Ideal) FTy.f32 (BitVec.setWidth 32 (IntOp.cmpi CmpIPredicate.eq (BitVec.ofNat 32 r) (BitVec.ofNat 32 s))) = if r = s then (1 : EReal) else 0 := by
  by_cases h : r = s
  · rw [if_pos h, h]
    show (((BitVec.setWidth 32 (IntOp.cmpi CmpIPredicate.eq (BitVec.ofNat 32 s) (BitVec.ofNat 32 s))).toInt : ℝ) : EReal) = 1
    have : (BitVec.setWidth 32 (IntOp.cmpi CmpIPredicate.eq (BitVec.ofNat 32 s) (BitVec.ofNat 32 s))).toInt = 1 := by
      simp [IntOp.cmpi]
    rw [this]; norm_num
  · rw [if_neg h]
    have hne : BitVec.ofNat 32 r ≠ BitVec.ofNat 32 s := fun e => h (by
      have := congrArg BitVec.toNat e
      simp only [BitVec.toNat_ofNat] at this
      omega)
    show (((BitVec.setWidth 32 (IntOp.cmpi CmpIPredicate.eq (BitVec.ofNat 32 r) (BitVec.ofNat 32 s))).toInt : ℝ) : EReal) = 0
    have : (BitVec.setWidth 32 (IntOp.cmpi CmpIPredicate.eq (BitVec.ofNat 32 r) (BitVec.ofNat 32 s))).toInt = 0 := by
      simp [IntOp.cmpi, beq_eq_false_iff_ne.2 hne]
    rw [this]; norm_num

/-- A sum against a column with a single one is the element there. -/
theorem sum_single {n : ℕ} (f : Fin n → EReal) (s b : ℕ) (h : b ≤ s ∧ s < b + n) :
    ∑ x : Fin n, f x * (if b + x.val = s then (1 : EReal) else 0) = f ⟨s - b, by omega⟩ := by
  rw [Finset.sum_eq_single (⟨s - b, by omega⟩ : Fin n)]
  · rw [if_pos (by show b + (s - b) = s; omega), mul_one]
  · intro x _ hx
    rw [if_neg (fun e => hx (Fin.ext (by show x.val = s - b; omega))), mul_zero]
  · intro hx; exact absurd (Finset.mem_univ _) hx

/-- A sum against a column without a one is zero. -/
theorem sum_none {n : ℕ} (f : Fin n → EReal) (s b : ℕ) (h : ¬ (b ≤ s ∧ s < b + n)) :
    ∑ x : Fin n, f x * (if b + x.val = s then (1 : EReal) else 0) = 0 :=
  Finset.sum_eq_zero fun x _ => by rw [if_neg (by omega), mul_zero]

end Cert.ZeroOne

end
-- ==== Proof.IdealProducts.lean ====
/-
  The products of a point and their reordering, element by element over the extended reals.
-/
module

public import proofs.«01_k».proof.Proof.Gen.KernelIdeal.Loops
public import proofs.«01_k».proof.Proof.Gen.KernelIdeal.Frame
public import proofs.«01_k».proof.Proof.IdealGeometry
public import proofs.«01_k».proof.Proof.IdealPoint
public import proofs.«01_k».proof.Proof.ZeroOne
public import Idealize.ShloMosaic.Lib.Pointwise

@[expose] public section

set_option maxRecDepth 16384

noncomputable section

namespace Cert.KernelIdeal.Body

open Cert.KernelIdeal Cert.KernelIdeal.Gen Cert.ZeroOne
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The product of the activations with two tiles side by side, at an element. -/
theorem pay110_at (A B : Vec Ideal S1x11008x128 .bf16) (P : Vec Ideal S256x11008 .bf16) (x : Fin 256) (q : Fin 256) :
    k0_pay110 A B P (ix4 0 0 x q) = ∑ k : Fin 11008, P (ix2 x k) * (if h : q.val < 128 then A (ix3 0 k ⟨q.val, h⟩) else B (ix3 0 k ⟨q.val - 128, by omega⟩)) := by
  pointwise [k0_pay110]

/-- The same for the second half. -/
theorem pay111_at (A B : Vec Ideal S1x11008x128 .bf16) (P : Vec Ideal S256x11008 .bf16) (x : Fin 256) (q : Fin 256) :
    k0_pay1 (k0_pay111 A B P) (ix4 0 0 x q) = ∑ k : Fin 11008, P (ix2 x k) * (if h : q.val < 128 then A (ix3 0 k ⟨q.val, h⟩) else B (ix3 0 k ⟨q.val - 128, by omega⟩)) := by
  pointwise [k0_pay1, k0_pay111]

/-- The row that column `c` of the reordering matrix selects, as the body computes it. -/
theorem row_word : ∀ c : Fin 512, IntOp.addi (IntOp.muli (IntOp.andi (BitVec.ofNat 32 c.val) 3#32) 128#32) (IntOp.shrsi ArithUnit.vector (BitVec.ofNat 32 c.val) 2#32)
    = BitVec.ofNat 32 (128 * (c.val % 4) + c.val / 4) := by decide +kernel

/-- The reordering matrix: a one where the row is the one its column selects, zero elsewhere. -/
theorem pay91_at (r c : Fin 512) :
    k0_pay91 (F := Ideal) (ix2 r c) = if r.val = 128 * (c.val % 4) + c.val / 4 then 1 else 0 := by
  pointwise [k0_pay91]
  rw [row_word]
  exact Cert.ZeroOne.entry _ _ (by omega) (by omega)

/-- The two sums of the reordering: one of them selects, the other is zero. -/
theorem reorder (f g : Fin 256 → EReal) (q : Fin 512) :
    ∑ k : Fin 256, f k * k0_pay91 (F := Ideal) (ix2 ⟨k.val, by omega⟩ q) + ∑ k : Fin 256, g k * k0_pay91 (F := Ideal) (ix2 ⟨256 + k.val, by omega⟩ q)
      = if h : 128 * (q.val % 4) + q.val / 4 < 256 then f ⟨128 * (q.val % 4) + q.val / 4, h⟩ else g ⟨128 * (q.val % 4) + q.val / 4 - 256, by omega⟩ := by
  have hs : 128 * (q.val % 4) + q.val / 4 < 512 := by omega
  have e0 : ∑ k : Fin 256, f k * k0_pay91 (F := Ideal) (ix2 ⟨k.val, by omega⟩ q) = ∑ k : Fin 256, f k * (if 0 + k.val = 128 * (q.val % 4) + q.val / 4 then (1 : EReal) else 0) :=
    Finset.sum_congr rfl fun k _ => by rw [pay91_at, Nat.zero_add]
  have e1 : ∑ k : Fin 256, g k * k0_pay91 (F := Ideal) (ix2 ⟨256 + k.val, by omega⟩ q) = ∑ k : Fin 256, g k * (if 256 + k.val = 128 * (q.val % 4) + q.val / 4 then (1 : EReal) else 0) :=
    Finset.sum_congr rfl fun k _ => by rw [pay91_at]
  rw [e0, e1]
  by_cases h : 128 * (q.val % 4) + q.val / 4 < 256
  · rw [dif_pos h, sum_single f _ 0 (by omega), sum_none g _ 256 (by omega), add_zero]
    rfl
  · rw [dif_neg h, sum_none f _ 0 (by omega), sum_single g _ 256 (by omega), zero_add]

/-- The reordered product: the column that the reordering matrix selects of the two planes side by side. -/
theorem pay92_at (A B : Vec Ideal S1x1x256x256 .bf16) (x : Fin 256) (q : Fin 512) :
    k0_pay92 A B (ix2 x q) = if h : 128 * (q.val % 4) + q.val / 4 < 256 then A (ix4 0 0 x ⟨128 * (q.val % 4) + q.val / 4, h⟩) else B (ix4 0 0 x ⟨128 * (q.val % 4) + q.val / 4 - 256, by omega⟩) := by
  pointwise [k0_pay92]
  exact reorder (fun k => A (ix4 0 0 x k)) (fun k => B (ix4 0 0 x k)) q

/-- The same for the second half. -/
theorem pay93_at (A B : Vec Ideal S1x1x256x256 .bf16) (x : Fin 256) (q : Fin 512) :
    k0_pay2 (k0_pay93 A B) (ix2 x q) = if h : 128 * (q.val % 4) + q.val / 4 < 256 then A (ix4 0 0 x ⟨128 * (q.val % 4) + q.val / 4, h⟩) else B (ix4 0 0 x ⟨128 * (q.val % 4) + q.val / 4 - 256, by omega⟩) := by
  pointwise [k0_pay2, k0_pay93]
  exact reorder (fun k => A (ix4 0 0 x k)) (fun k => B (ix4 0 0 x k)) q

end Cert.KernelIdeal.Body

end
-- ==== Proof.IdealContents.lean ====
/-
  What the buffers hold after a point, element by element over the extended reals.
-/
module

public import proofs.«01_k».proof.Proof.Gen.KernelIdeal.Loops
public import proofs.«01_k».proof.Proof.Gen.KernelIdeal.Frame
public import proofs.«01_k».proof.Proof.IdealGeometry
public import proofs.«01_k».proof.Proof.IdealPoint
public import proofs.«01_k».proof.Proof.IdealProducts

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable (i : grid0.Coords) (arg1 : Memref sig .tc .vmem S1x344x2x8x128 .i32) (harg1 : arg1.IsWhole) (arg2 : Memref sig .tc .vmem S4x352x128 .i32) (harg2 : arg2.IsWhole) (arg3 : Memref sig .tc .vmem S4x352x128 .i32) (harg3 : arg3.IsWhole) (arg4 : Memref sig .tc .vmem S2x4x64x128 .i32) (harg4 : arg4.IsWhole) (arg5 : Memref sig .tc .vmem S256x11008 .bf16) (harg5 : arg5.IsWhole) (arg6 : Memref sig .tc .vmem S256x4096 .bf16) (harg6 : arg6.IsWhole) (arg7 : Memref sig .tc .vmem S4x688x128 .i32) (harg7 : arg7.IsWhole) (arg8 : Memref sig .tc .vmem S4x688x128 .i32) (harg8 : arg8.IsWhole) (arg9 : Memref sig .tc .vmem S4x11008x128 .bf16) (harg9 : arg9.IsWhole) (arg10 : Memref sig .tc .vmem S2x2x256x256 .bf16) (harg10 : arg10.IsWhole)

section Spec
variable (T : S1x344x2x8x128.Idx → BitVec 32) (S Z : S4x352x128.Idx → BitVec 32) (X : S2x4x64x128.Idx → BitVec 32) (P : S256x11008.Idx → EReal) (st : ℕ)

/-- Row `x` of the activations times column `q` of half `h` of the point's weights. -/
def prodSpec (h : Fin 2) (x q : Fin 256) : EReal :=
  ∑ k : Fin 11008, P (ix2 x k) * (wSpec (F := Ideal) T S Z X st ⟨2 * h.val + q.val / 128, by omega⟩ k ⟨q.val % 128, by omega⟩ : EReal)

end Spec

/-- A loaded tile, at an element. -/
theorem tileOf_at (T : S1x344x2x8x128.Idx → BitVec 32) (S Z : S4x352x128.Idx → BitVec 32) (X : S2x4x64x128.Idx → BitVec 32) (st : ℕ)
    (g9 : BufTy.Contents (Elt Ideal) arg9.view.ty) (hW : FilledW arg9 T S Z X st g9 344) (a : Fin 4) (inb) (k : Fin 11008) (l : Fin 128) :
    tileOf arg9 g9 a.val inb (ix3 0 k l) = wSpec (F := Ideal) T S Z X st a k l := by
  unfold FilledW at hW
  have hx : ∀ x : Fin 3, ((ix3 a k l : S4x11008x128.Idx) x).val = (![a.val, 0, 0] : Fin 3 → ℕ) x + ((ix3 0 k l : S1x11008x128.Idx) x).val := fun x => by
    match x with
    | ⟨0, _⟩ => rfl
    | ⟨1, _⟩ => show k.val = 0 + k.val; omega
    | ⟨2, _⟩ => show l.val = 0 + l.val; omega
  exact (readAt_unit arg9.view g9 inb _ _ rfl hx).trans (hW a k l (by show k.val / 32 < 344; omega))

/-- The loaded activations, at an element. -/
theorem actOf_at (f5 : BufTy.Contents (Elt Ideal) arg5.view.ty) (x : Fin 256) (k : Fin 11008) :
    actOf arg5 f5 (ix2 x k) = arg5.view.read (Elt Ideal) f5 (ix2 x k) :=
  readAt_unit arg5.view f5 _ _ _ rfl fun y => by
    match y with
    | ⟨0, _⟩ => show x.val = 0 + x.val; omega
    | ⟨1, _⟩ => show k.val = 0 + k.val; omega

/-- A loaded plane, at an element. -/
theorem planeOf_at (g10 : BufTy.Contents (Elt Ideal) arg10.view.ty) (a b : Fin 2) (inb) (x q : Fin 256) :
    planeOf arg10 g10 a.val b.val inb (ix4 0 0 x q) = arg10.view.read (Elt Ideal) g10 (ix4 a b x q) :=
  readAt_unit arg10.view g10 inb _ _ rfl fun y => by
    match y with
    | ⟨0, _⟩ => rfl
    | ⟨1, _⟩ => rfl
    | ⟨2, _⟩ => show x.val = 0 + x.val; omega
    | ⟨3, _⟩ => show q.val = 0 + q.val; omega

/-- The products of a point are in the planes of the point's parity; the planes of the other parity are as they were. -/
theorem planes_at (T : S1x344x2x8x128.Idx → BitVec 32) (S Z : S4x352x128.Idx → BitVec 32) (X : S2x4x64x128.Idx → BitVec 32)
    (f5 : BufTy.Contents (Elt Ideal) arg5.view.ty) (g9 : BufTy.Contents (Elt Ideal) arg9.view.ty) (f10 : BufTy.Contents (Elt Ideal) arg10.view.ty)
    (hW : FilledW arg9 T S Z X (i 0).val g9 344) (h b : Fin 2) (x q : Fin 256) :
    arg10.view.read (Elt Ideal) (arg10.view.writes (Elt Ideal) f10 (planes i arg5 arg9 f5 g9)) (ix4 h b x q)
      = if b.val = (i 0).val % 2 then prodSpec T S Z X (arg5.view.read (Elt Ideal) f5) (i 0).val h x q else arg10.view.read (Elt Ideal) f10 (ix4 h b x q) := by
  have key : ∀ a : Fin 2, (∑ k : Fin 11008, actOf arg5 f5 (ix2 x k) * (if hq : q.val < 128 then tileOf arg9 g9 (2 * a.val) (by fin_cases a <;> decide) (ix3 0 k ⟨q.val, hq⟩)
      else tileOf arg9 g9 (2 * a.val + 1) (by fin_cases a <;> decide) (ix3 0 k ⟨q.val - 128, by omega⟩)) : EReal) = prodSpec T S Z X (arg5.view.read (Elt Ideal) f5) (i 0).val a x q := fun a => by
    unfold prodSpec
    refine Finset.sum_congr rfl fun k _ => ?_
    rw [actOf_at]
    refine congrArg _ ?_
    by_cases hq : q.val < 128
    · rw [dif_pos hq]
      refine (tileOf_at arg9 T S Z X _ g9 hW ⟨2 * a.val, by omega⟩ _ k _).trans ?_
      simp only [Nat.div_eq_of_lt hq, Nat.mod_eq_of_lt hq, Nat.add_zero]
    · rw [dif_neg hq]
      refine (tileOf_at arg9 T S Z X _ g9 hW ⟨2 * a.val + 1, by omega⟩ _ k _).trans ?_
      have e1 : q.val / 128 = 1 := by omega
      have e2 : q.val % 128 = q.val - 128 := by omega
      simp only [e1, e2]
  unfold planes
  have hxx : ∀ a c : ℕ, h.val = a → b.val = c → ∀ y : Fin 4, ((ix4 h b x q : S2x2x256x256.Idx) y).val = (![a, c, 0, 0] : Fin 4 → ℕ) y + ((ix4 0 0 x q : S1x1x256x256.Idx) y).val := fun a c ha hc y => by
    match y with
    | ⟨0, _⟩ => exact ha
    | ⟨1, _⟩ => exact hc
    | ⟨2, _⟩ => show x.val = 0 + x.val; omega
    | ⟨3, _⟩ => show q.val = 0 + q.val; omega
  by_cases hb : b.val = (i 0).val % 2
  · rw [if_pos hb]
    by_cases hh : h.val = 1
    · obtain rfl : h = 1 := Fin.ext hh
      exact (View.read_writes_cons_unit_of_mem arg10.view f10 _ _ _ _ _ (off24_eq i) (hxx _ _ rfl hb)).trans ((pay111_at _ _ _ _ _).trans (key 1))
    · obtain rfl : h = 0 := Fin.ext (by show h.val = 0; omega)
      exact (View.read_writes_cons_unit_of_not_mem arg10.view f10 _ _ _ _ (off24_eq i) 0 (Or.inl (by show (0 : ℕ) < 1; omega))).trans
        ((View.read_writes_cons_unit_of_mem arg10.view f10 _ _ _ _ _ (off23_eq i) (hxx _ _ rfl hb)).trans ((pay110_at _ _ _ _ _).trans (key 0)))
  · rw [if_neg hb]
    have hn : b.val < (i 0).val % 2 ∨ (i 0).val % 2 + 1 ≤ b.val := by omega
    exact (View.read_writes_cons_unit_of_not_mem arg10.view f10 _ _ _ _ (off24_eq i) 1 hn).trans
      ((View.read_writes_cons_unit_of_not_mem arg10.view f10 _ _ _ _ (off23_eq i) 1 hn).trans rfl)

/-- The columns that an odd point stores are the reordered products; the other columns are as they were. -/
theorem columns_at (f6 : BufTy.Contents (Elt Ideal) arg6.view.ty) (g10 : BufTy.Contents (Elt Ideal) arg10.view.ty) (ho : k0_cond1 i = 1#1) (x : Fin 256) (n : Fin 4096) :
    arg6.view.read (Elt Ideal) (arg6.view.writes (Elt Ideal) f6 (columns i arg10 (h := ho) g10)) (ix2 x n)
      = if n.val / 512 % 4 = (i 0).val / 2 then
          (if hq : 128 * (n.val % 4) + n.val % 512 / 4 < 256 then arg10.view.read (Elt Ideal) g10 (ix4 ⟨n.val / 2048, by omega⟩ 0 x ⟨128 * (n.val % 4) + n.val % 512 / 4, hq⟩)
            else arg10.view.read (Elt Ideal) g10 (ix4 ⟨n.val / 2048, by omega⟩ 1 x ⟨128 * (n.val % 4) + n.val % 512 / 4 - 256, by omega⟩))
        else arg6.view.read (Elt Ideal) f6 (ix2 x n) := by
  have hi : (i 0).val < 8 := (i 0).isLt
  have key : ∀ (a : Fin 2), (if hq : 128 * ((n.val % 512) % 4) + (n.val % 512) / 4 < 256 then planeOf arg10 g10 a.val 0 (by fin_cases a <;> decide) (ix4 0 0 x ⟨128 * ((n.val % 512) % 4) + (n.val % 512) / 4, hq⟩)
      else planeOf arg10 g10 a.val 1 (by fin_cases a <;> decide) (ix4 0 0 x ⟨128 * ((n.val % 512) % 4) + (n.val % 512) / 4 - 256, by omega⟩))
      = (if hq : 128 * (n.val % 4) + n.val % 512 / 4 < 256 then arg10.view.read (Elt Ideal) g10 (ix4 a 0 x ⟨128 * (n.val % 4) + n.val % 512 / 4, hq⟩)
            else arg10.view.read (Elt Ideal) g10 (ix4 a 1 x ⟨128 * (n.val % 4) + n.val % 512 / 4 - 256, by omega⟩)) := fun a => by
    have em : n.val % 512 % 4 = n.val % 4 := by omega
    simp only [em]
    by_cases hq : 128 * (n.val % 4) + n.val % 512 / 4 < 256
    · rw [dif_pos hq, dif_pos hq]; exact planeOf_at arg10 g10 a 0 _ _ _
    · rw [dif_neg hq, dif_neg hq]; exact planeOf_at arg10 g10 a 1 _ _ _
  unfold columns
  have hxx : ∀ a : ℕ, n.val / 512 = (i 0).val / 2 + 4 * a → ∀ y : Fin 2, ((ix2 x n : S256x4096.Idx) y).val = (![0, 512 * ((i 0).val / 2 + 4 * a)] : Fin 2 → ℕ) y + ((ix2 x (⟨n.val % 512, by omega⟩ : Fin 512) : S256x512.Idx) y).val := fun a ha y => by
    match y with
    | ⟨0, _⟩ => show x.val = 0 + x.val; omega
    | ⟨1, _⟩ => show n.val = 512 * ((i 0).val / 2 + 4 * a) + n.val % 512; omega
  have hnn : ∀ a : ℕ, n.val / 512 ≠ (i 0).val / 2 + 4 * a → n.val < 512 * ((i 0).val / 2 + 4 * a) ∨ 512 * ((i 0).val / 2 + 4 * a) + 512 ≤ n.val := fun a ha => by omega
  by_cases hc : n.val / 512 % 4 = (i 0).val / 2
  · rw [if_pos hc]
    by_cases hh : n.val / 2048 = 1
    · have e : (⟨n.val / 2048, by omega⟩ : Fin 2) = 1 := Fin.ext hh
      rw [e]
      exact (View.read_writes_cons_unit_of_mem arg6.view f6 _ _ _ _ _ (off25_eq i 1) (hxx 1 (by omega))).trans ((pay93_at _ _ _ _).trans (key 1))
    · have e : (⟨n.val / 2048, by omega⟩ : Fin 2) = 0 := Fin.ext (by show n.val / 2048 = 0; omega)
      rw [e]
      exact (View.read_writes_cons_unit_of_not_mem arg6.view f6 _ _ _ _ (off25_eq i 1) 1 (hnn 1 (by omega))).trans
        ((View.read_writes_cons_unit_of_mem arg6.view f6 _ _ _ _ _ (off25_eq i 0) (hxx 0 (by omega))).trans ((pay92_at _ _ _ _).trans (key 0)))
  · rw [if_neg hc]
    exact (View.read_writes_cons_unit_of_not_mem arg6.view f6 _ _ _ _ (off25_eq i 1) 1 (hnn 1 (by omega))).trans
      ((View.read_writes_cons_unit_of_not_mem arg6.view f6 _ _ _ _ (off25_eq i 0) 1 (hnn 0 (by omega))).trans rfl)

end

end Cert.KernelIdeal.Body

end
-- ==== Proof.IdealRun.lean ====
/-
  The body at a grid point as a triple over buffers named by what they read.
-/
module

public import proofs.«01_k».proof.Proof.Gen.KernelIdeal.Loops
public import proofs.«01_k».proof.Proof.Gen.KernelIdeal.Frame
public import proofs.«01_k».proof.Proof.IdealGeometry
public import proofs.«01_k».proof.Proof.IdealContents

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What a point leaves in the products' buffer: its own products in the planes of its parity, the rest as found. -/
def Planes (B1 : S1x344x2x8x128.Idx → BitVec 32) (B2 B3 : S4x352x128.Idx → BitVec 32) (B4 : S2x4x64x128.Idx → BitVec 32) (B5 : S256x11008.Idx → EReal) (st : ℕ) (D D' : S2x2x256x256.Idx → EReal) : Prop :=
  ∀ (h b : Fin 2) (x q : Fin 256), D' (ix4 h b x q) = if b.val = st % 2 then prodSpec B1 B2 B3 B4 B5 st h x q else D (ix4 h b x q)

/-- What a point leaves in the result's buffer: at an odd point two blocks of columns out of the products, the rest as found. -/
def Columns (st : ℕ) (D : S2x2x256x256.Idx → EReal) (Y Y' : S256x4096.Idx → EReal) : Prop :=
  ∀ (x : Fin 256) (n : Fin 4096), Y' (ix2 x n) = if st % 2 = 1 ∧ n.val / 512 % 4 = st / 2 then
      (if hq : 128 * (n.val % 4) + n.val % 512 / 4 < 256 then D (ix4 ⟨n.val / 2048, by omega⟩ 0 x ⟨128 * (n.val % 4) + n.val % 512 / 4, hq⟩)
        else D (ix4 ⟨n.val / 2048, by omega⟩ 1 x ⟨128 * (n.val % 4) + n.val % 512 / 4 - 256, by omega⟩))
    else Y (ix2 x n)

section
variable (𝒱 : Variants) (c : Dev nD) (bd : Option 𝒱.V) (E : Set ℕ) (i : grid0.Coords) (arg1 : Memref sig .tc .vmem S1x344x2x8x128 .i32) (harg1 : arg1.IsWhole) (arg2 : Memref sig .tc .vmem S4x352x128 .i32) (harg2 : arg2.IsWhole) (arg3 : Memref sig .tc .vmem S4x352x128 .i32) (harg3 : arg3.IsWhole) (arg4 : Memref sig .tc .vmem S2x4x64x128 .i32) (harg4 : arg4.IsWhole) (arg5 : Memref sig .tc .vmem S256x11008 .bf16) (harg5 : arg5.IsWhole) (arg6 : Memref sig .tc .vmem S256x4096 .bf16) (harg6 : arg6.IsWhole) (arg7 : Memref sig .tc .vmem S4x688x128 .i32) (harg7 : arg7.IsWhole) (arg8 : Memref sig .tc .vmem S4x688x128 .i32) (harg8 : arg8.IsWhole) (arg9 : Memref sig .tc .vmem S4x11008x128 .bf16) (harg9 : arg9.IsWhole) (arg10 : Memref sig .tc .vmem S2x2x256x256 .bf16) (harg10 : arg10.IsWhole)

/-- The body at a point: its operands kept, `Planes` and `Columns` of what it leaves. -/
theorem run_owns (B1 : S1x344x2x8x128.Idx → BitVec 32) (B2 B3 : S4x352x128.Idx → BitVec 32) (B4 : S2x4x64x128.Idx → BitVec 32) (B5 : S256x11008.Idx → EReal) (Y : S256x4096.Idx → EReal) (D : S2x2x256x256.Idx → EReal) :
    iprop(owns (c : Thread nD τ) arg1 fullShare B1 ∗ owns (c : Thread nD τ) arg2 fullShare B2 ∗ owns (c : Thread nD τ) arg3 fullShare B3 ∗ owns (c : Thread nD τ) arg4 fullShare B4 ∗ owns (c : Thread nD τ) arg5 fullShare B5 ∗ owns (c : Thread nD τ) arg6 fullShare Y ∗ (∃ d, owns (c : Thread nD τ) arg7 fullShare d) ∗ (∃ d, owns (c : Thread nD τ) arg8 fullShare d) ∗ (∃ d, owns (c : Thread nD τ) arg9 fullShare d) ∗ owns (c : Thread nD τ) arg10 fullShare D)
    ⊢ wp frame (wpE (defs₀ (F := Ideal)) 𝒱 (c : Thread nD τ) bd) E (cc0_spqr_main (F := Ideal) i arg1 harg1 arg2 harg2 arg3 harg3 arg4 harg4 arg5 harg5 arg6 harg6 arg7 harg7 arg8 harg8 arg9 harg9 arg10 harg10)
      (fun _ => (iprop(owns (c : Thread nD τ) arg1 fullShare B1 ∗ owns (c : Thread nD τ) arg2 fullShare B2 ∗ owns (c : Thread nD τ) arg3 fullShare B3 ∗ owns (c : Thread nD τ) arg4 fullShare B4 ∗ owns (c : Thread nD τ) arg5 fullShare B5 ∗ (∃ d, owns (c : Thread nD τ) arg7 fullShare d) ∗ (∃ d, owns (c : Thread nD τ) arg8 fullShare d) ∗ (∃ d, owns (c : Thread nD τ) arg9 fullShare d) ∗ ∃ D', owns (c : Thread nD τ) arg10 fullShare D' ∗ ⌜Planes B1 B2 B3 B4 B5 (i 0).val D D'⌝ ∗ ∃ Y', owns (c : Thread nD τ) arg6 fullShare Y' ∗ ⌜Columns (i 0).val D' Y Y'⌝) : sProp 𝕄)) := by
  rw [cc0_spqr_main_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%f10, %h10, H10⟩⟩
  subst h1 h2 h3 h4 h5 h6 h10
  by_cases h : k0_cond1 i = 1#1
  · have hst := (cond_iff i).1 h
    iapply (wp_wand_r Idealize.ShloMosaic.frame (wpE (defs₀ (F := Ideal)) 𝒱 (c : Thread nD τ) bd) E)
    isplitl [H1 H2 H3 H4 H5 H6 H7 H8 H9 H10]
    · iapply (runOdd 𝒱 c bd E i arg1 harg1 arg2 harg2 arg3 harg3 arg4 harg4 arg5 harg5 arg6 harg6 arg7 harg7 arg8 harg8 arg9 harg9 arg10 harg10 f1 f2 f3 f4 f5 f6 f7 f8 f9 f10 h)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iintro %_ ⟨H1, H2, H3, H4, H5, ⟨%g7, H7⟩, ⟨%g8, H8⟩, %g9, H9, %hW, H10, H6⟩
      isplitl [H1]; · iexists f1; isplitr; · ipureintro; rfl
                      iexact H1
      isplitl [H2]; · iexists f2; isplitr; · ipureintro; rfl
                      iexact H2
      isplitl [H3]; · iexists f3; isplitr; · ipureintro; rfl
                      iexact H3
      isplitl [H4]; · iexists f4; isplitr; · ipureintro; rfl
                      iexact H4
      isplitl [H5]; · iexists f5; isplitr; · ipureintro; rfl
                      iexact H5
      isplitl [H7]; · iexists _, _; isplitr; swap; · iexact H7
                      ipureintro; rfl
      isplitl [H8]; · iexists _, _; isplitr; swap; · iexact H8
                      ipureintro; rfl
      isplitl [H9]; · iexists _, _; isplitr; swap; · iexact H9
                      ipureintro; rfl
      iexists _; isplitl [H10]; · iexists _; isplitr; swap; · iexact H10
                                  ipureintro; rfl
      isplitr; · ipureintro; exact fun h b x q => planes_at i arg5 arg9 arg10 _ _ _ _ f5 g9 f10 hW h b x q
      iexists _; isplitl [H6]; · iexists _; isplitr; swap; · iexact H6
                                 ipureintro; rfl
      ipureintro; intro x n
      rw [columns_at i arg6 arg10 f6 _ h x n]
      simp only [hst, true_and]
  · have hst := (cond_iff i).not.1 h
    iapply (wp_wand_r Idealize.ShloMosaic.frame (wpE (defs₀ (F := Ideal)) 𝒱 (c : Thread nD τ) bd) E)
    isplitl [H1 H2 H3 H4 H5 H6 H7 H8 H9 H10]
    · iapply (runEven 𝒱 c bd E i arg1 harg1 arg2 harg2 arg3 harg3 arg4 harg4 arg5 harg5 arg6 harg6 arg7 harg7 arg8 harg8 arg9 harg9 arg10 harg10 f1 f2 f3 f4 f5 f6 f7 f8 f9 f10 h)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iintro %_ ⟨H1, H2, H3, H4, H5, H6, ⟨%g7, H7⟩, ⟨%g8, H8⟩, %g9, H9, %hW, H10⟩
      isplitl [H1]; · iexists f1; isplitr; · ipureintro; rfl
                      iexact H1
      isplitl [H2]; · iexists f2; isplitr; · ipureintro; rfl
                      iexact H2
      isplitl [H3]; · iexists f3; isplitr; · ipureintro; rfl
                      iexact H3
      isplitl [H4]; · iexists f4; isplitr; · ipureintro; rfl
                      iexact H4
      isplitl [H5]; · iexists f5; isplitr; · ipureintro; rfl
                      iexact H5
      isplitl [H7]; · iexists _, _; isplitr; swap; · iexact H7
                      ipureintro; rfl
      isplitl [H8]; · iexists _, _; isplitr; swap; · iexact H8
                      ipureintro; rfl
      isplitl [H9]; · iexists _, _; isplitr; swap; · iexact H9
                      ipureintro; rfl
      iexists _; isplitl [H10]; · iexists _; isplitr; swap; · iexact H10
                                  ipureintro; rfl
      isplitr; · ipureintro; exact fun h b x q => planes_at i arg5 arg9 arg10 _ _ _ _ f5 g9 f10 hW h b x q
      iexists _; isplitl [H6]; · iexists _; isplitr; swap; · iexact H6
                                 ipureintro; rfl
      ipureintro; intro x n
      rw [if_neg (fun e => hst e.1)]

end

end Cert.KernelIdeal.Body

end
-- ==== Proof.IdealFrame.lean ====
/-
  The run of the idealized kernel: from any memory with zero counters it runs to its end, its five arguments end as
  they were, every counter reads zero, and the result's array holds `column` everywhere.
-/
module

public import proofs.«01_k».proof.Proof.IdealRun
public import Idealize.ShloMosaic.Lib.Pipeline.Frame
public import Idealize.ShloMosaic.Lib.Pipeline.DatRel
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- What is held at the launch: the four scratch buffers at some contents and the generator's register. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ ∃ r, prngReg c r) := by
  unfold Pipeline.ΦA; rw [scopedRest0_eq]; simp only [owns_whole]; try rfl

/-- The grid has one axis: the point's coordinate is its number. -/
theorem coords_val : ∀ t : Fin cfg0.N, ((grid0.coords t) 0).val = t.val := (by decide +kernel : ∀ t : Fin grid0.N, ((grid0.coords t) 0).val = t.val)

/-- The grid has eight points. -/
theorem points_eq : cfg0.N = 8 := (by decide +kernel : grid0.N = 8)

/-- The point of a number. -/
def point (k : ℕ) : Fin cfg0.N := ⟨k % 8, by rw [points_eq]; omega⟩

/-- A point is the point of its number. -/
theorem point_val (t : Fin cfg0.N) : point t.val = t := Fin.ext (Nat.mod_eq_of_lt (points_eq ▸ t.isLt))

/-- The blocks of the five operands at a point. -/
def blk0 (c : Dev nD) (t : Fin cfg0.N) : S1x344x2x8x128.Idx → BitVec 32 := iblk m c 0 t
@[inherit_doc blk0] def blk1 (c : Dev nD) (t : Fin cfg0.N) : S4x352x128.Idx → BitVec 32 := iblk m c 1 t
@[inherit_doc blk0] def blk2 (c : Dev nD) (t : Fin cfg0.N) : S4x352x128.Idx → BitVec 32 := iblk m c 2 t
@[inherit_doc blk0] def blk3 (c : Dev nD) (t : Fin cfg0.N) : S2x4x64x128.Idx → BitVec 32 := iblk m c 3 t
@[inherit_doc blk0] def blk4 (c : Dev nD) (t : Fin cfg0.N) : S256x11008.Idx → EReal := iblk m c 4 t

/-- The products of a point. -/
def prods (c : Dev nD) (t : Fin cfg0.N) (h : Fin 2) (x q : Fin 256) : EReal :=
  prodSpec (blk0 m c t) (blk1 m c t) (blk2 m c t) (blk3 m c t) (blk4 m c t) t.val h x q

/-- The result, element by element: the product of the even or the odd point of the column's pair. -/
def column (c : Dev nD) (x : Fin 256) (n : Fin 4096) : EReal :=
  if hq : 128 * (n.val % 4) + n.val % 512 / 4 < 256 then prods m c (point (2 * (n.val / 512 % 4))) ⟨n.val / 2048, by omega⟩ x ⟨128 * (n.val % 4) + n.val % 512 / 4, hq⟩
  else prods m c (point (2 * (n.val / 512 % 4) + 1)) ⟨n.val / 2048, by omega⟩ x ⟨128 * (n.val % 4) + n.val % 512 / 4 - 256, by omega⟩

/-- Before an odd point the even planes hold the products of the point before. -/
def Held (c : Dev nD) (k : ℕ) (D : S2x2x256x256.Idx → EReal) : Prop :=
  k % 2 = 1 → ∀ (h : Fin 2) (x q : Fin 256), D (ix4 h 0 x q) = prods m c (point (k - 1)) h x q

/-- After a point the columns of the pairs that are over are final. -/
def Done (c : Dev nD) (k : ℕ) (Y : S256x4096.Idx → EReal) : Prop :=
  ∀ (x : Fin 256) (n : Fin 4096), 2 * (n.val / 512 % 4) + 1 ≤ k → Y (ix2 x n) = column m c x n

/-- A point brings the planes from one point to the next. -/
theorem held_step (c : Dev nD) (t : Fin cfg0.N) (D D' : S2x2x256x256.Idx → EReal)
    (hP : Planes (blk0 m c t) (blk1 m c t) (blk2 m c t) (blk3 m c t) (blk4 m c t) t.val D D') : Held m c (t.val + 1) D' := by
  intro ho h x q
  have hb : ((0 : Fin 2).val) = t.val % 2 := by show 0 = t.val % 2; omega
  rw [hP h 0 x q, if_pos hb, Nat.add_sub_cancel, point_val]
  rfl

/-- A point brings the columns from one point to the next. -/
theorem done_step (c : Dev nD) (t : Fin cfg0.N) (D D' : S2x2x256x256.Idx → EReal) (Y Y' : S256x4096.Idx → EReal) (hH : Held m c t.val D)
    (hP : Planes (blk0 m c t) (blk1 m c t) (blk2 m c t) (blk3 m c t) (blk4 m c t) t.val D D') (hC : Columns t.val D' Y Y')
    (hY : t.val ≠ 0 → Done m c (t.val - 1) Y) : Done m c t.val Y' := by
  intro x n hn
  rw [hC x n]
  by_cases hc : t.val % 2 = 1 ∧ n.val / 512 % 4 = t.val / 2
  · rw [if_pos hc]
    unfold column
    have e0 : t.val - 1 = 2 * (n.val / 512 % 4) := by omega
    have e1 : t.val = 2 * (n.val / 512 % 4) + 1 := by omega
    have h0 : ¬ ((0 : Fin 2).val) = t.val % 2 := by show ¬ 0 = t.val % 2; omega
    have h1 : ((1 : Fin 2).val) = t.val % 2 := by show 1 = t.val % 2; omega
    by_cases hq : 128 * (n.val % 4) + n.val % 512 / 4 < 256
    · rw [dif_pos hq, dif_pos hq, hP, if_neg h0, hH hc.1, e0]
    · rw [dif_neg hq, dif_neg hq, hP, if_pos h1, ← e1, point_val]
      rfl
  · rw [if_neg hc]
    exact hY (by omega) x n (by omega)

/-- The window of the result is the one held to a predicate. -/
def rel0 : Fin 6 → Bool := fun w => w.val == 5

/-- What the body may leave in the result's window: `Done`. -/
def Rel0 (c : Dev nD) (w : Fin cfg0.W) (t : Fin cfg0.N) : ((cfg0.win w).block.Idx → Elt Ideal (cfg0.win w).elt) → Prop := match w with
  | 0 => fun _ => True | 1 => fun _ => True | 2 => fun _ => True | 3 => fun _ => True | 4 => fun _ => True
  | 5 => fun X => Done m c t.val X
  | ⟨_ + 6, h⟩ => absurd h (Nat.not_lt.2 (Nat.le_add_left _ _))

/-- The invariant before point number `k`. -/
def Phi (c : Dev nD) (k : ℕ) : sProp 𝕄 :=
  iprop(((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d ∗ ⌜Held m c k d⌝)) ∗ ∃ r, prngReg c r)

/-- The proof data: each argument's window is left as found, the result's held to `Rel0`. -/
def dats (_ : Fin 1) (c : Dev nD) : Dat τ (Elt Ideal) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => Pipeline.Dat.unnamed (cfg := cfg0) 5 t
    | ⟨_ + 6, h⟩ => absurd h (Nat.not_lt.2 (Nat.le_add_left _ _))
  Φ t := Phi m c t.val
  q _ := fullShare
  owed _ := 0

/-- The arrays are the launch memory's. -/
theorem A_eq (c : Dev nD) (w : Fin cfg0.W) : (dats m 0 c).A w = V m c (Pipeline.arrRef spec0 w) := by dsimp only [dats]

/-- The result's window is never fetched. -/
theorem fetch0_5 : ∀ t : Fin cfg0.N, (cfg0.win 5).fetch t = false := (by decide +kernel : ∀ t : Fin grid0.N, win0_5.fetch t = false)

/-- What the body finds in the result's window after the first point. -/
theorem finds5 (c : Dev nD) (t : Fin cfg0.N) (Y : S256x4096.Idx → EReal) (h : ((dats m 0 c).toRRel rel0 (Rel0 m c)).Finds 5 t Y) (ht : t.val ≠ 0) : Done m c (t.val - 1) Y := by
  rcases (Pipeline.RDat.finds_of_pos ((dats m 0 c).toRRel rel0 (Rel0 m c)) (w := 5) (t := t) (fetch0_5 t) ht Y).1 h with hf | hl
  · have := (flush0_5 _).1 hf
    have h8 : t.val < 8 := points_eq ▸ t.isLt
    have h7 : (t.val - 1) % 8 = 7 := this
    omega
  · exact (dats m 0 c).toRRel_leaves (fgt := rel0) (Rl := Rel0 m c) (w := 5) rfl hl

/-- The staging memrefs of the windows at a point. -/
abbrev stg (w : Fin 6) (t : Fin cfg0.N) := (cfg0.win w).stage (cfg0.slots t w)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (stg 0 t) fullShare ((dats m 0 c).before 0 t d))
    ∗ (∃ d, owns (c : Thread nD τ) (stg 1 t) fullShare ((dats m 0 c).before 1 t d))
    ∗ (∃ d, owns (c : Thread nD τ) (stg 2 t) fullShare ((dats m 0 c).before 2 t d))
    ∗ (∃ d, owns (c : Thread nD τ) (stg 3 t) fullShare ((dats m 0 c).before 3 t d))
    ∗ (∃ d, owns (c : Thread nD τ) (stg 4 t) fullShare ((dats m 0 c).before 4 t d))
    ∗ (∃ Y, ⌜((dats m 0 c).toRRel rel0 (Rel0 m c)).Finds 5 t Y⌝ ∗ owns (c : Thread nD τ) (stg 5 t) fullShare Y))

/-- What the body returns at a point. -/
def bodyPost (c : Dev nD) (t : Fin cfg0.N) : sProp 𝕄 :=
  iprop((dats m 0 c).Φ t.succ ∗ (dats m 0 c).owesAt () t.succ
    ∗ owns (c : Thread nD τ) (stg 0 t) fullShare ((dats m 0 c).after 0 t)
    ∗ owns (c : Thread nD τ) (stg 1 t) fullShare ((dats m 0 c).after 1 t)
    ∗ owns (c : Thread nD τ) (stg 2 t) fullShare ((dats m 0 c).after 2 t)
    ∗ owns (c : Thread nD τ) (stg 3 t) fullShare ((dats m 0 c).after 3 t)
    ∗ owns (c : Thread nD τ) (stg 4 t) fullShare ((dats m 0 c).after 4 t)
    ∗ (∃ X, ⌜Rel0 m c 5 t X⌝ ∗ owns (c : Thread nD τ) (stg 5 t) fullShare X))

/-- The body at a point: the invariant opened, `run_owns`, the invariant closed. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = Phi m c (t.val + 1) from rfl,
    show (dats m 0 c).owesAt () t.succ = (dats m 0 c).owesAt () t.castSucc from rfl,
    show (dats m 0 c).Φ t.castSucc = Phi m c t.val from rfl]
  unfold Phi
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl)]
  iintro ⟨⟨⟨HS0, HS1, HS2, ⟨%D, HS3, %hD⟩⟩, Hg⟩, HO, ⟨%d0, H0⟩, ⟨%d1, H1⟩, ⟨%d2, H2⟩, ⟨%d3, H3⟩, ⟨%d4, H4⟩, ⟨%Y, %hY, H5⟩⟩
  iapply (wp_wand_r Idealize.ShloMosaic.frame (wpE (defs₀ (F := Ideal)) Variants.none (c : Thread nD τ) none) Set.univ)
  isplitl [HS0 HS1 HS2 HS3 H0 H1 H2 H3 H4 H5]
  · iapply (run_owns Variants.none c none Set.univ (grid0.coords t) _ _ _ _ _ _ _ _ _ _ _ _ _ _ _ _ _ _ _ _ (blk0 m c t) (blk1 m c t) (blk2 m c t) (blk3 m c t) (blk4 m c t) Y D)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iexact HS3
  · iintro %_ ⟨H0, H1, H2, H3, H4, HS0, HS1, HS2, ⟨%D', HS3, %hP, ⟨%Y', H5, %hC⟩⟩⟩
    rw [coords_val t] at hP hC
    isplitl [HS0 HS1 HS2 HS3 Hg]
    · isplitl [HS0 HS1 HS2 HS3]
      · isplitl [HS0]; · iexact HS0
        isplitl [HS1]; · iexact HS1
        isplitl [HS2]; · iexact HS2
        iexists D'; isplitl [HS3]; · iexact HS3
        ipureintro; exact held_step m c t D D' hP
      iexact Hg
    isplitl [HO]; · iexact HO
    isplitl [H0]; · iexact H0
    isplitl [H1]; · iexact H1
    isplitl [H2]; · iexact H2
    isplitl [H3]; · iexact H3
    isplitl [H4]; · iexact H4
    iexists Y'; isplitr
    · ipureintro; exact done_step m c t D D' Y Y' hD hP hC (finds5 m c t Y hY)
    iexact H5

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The body obligation with the result's window held to `Rel0`. -/
theorem body_obligation (c : Dev nD) :
    Pipeline.BodyObligationRel (dats m 0 c) (defs₀ (F := Ideal)) Variants.none () Set.univ rel0 (Rel0 m c) := fun t => by
  rw [bigSep_W0, bigSep_W0, defs₀_row]
  exact triple_restated (sound_body m c t) rfl .rfl fun _ => .rfl

/-- The invariant at the launch. -/
theorem phi_in (c : Dev nD) : Pipeline.ΦA spec0 c ⊢ Phi m c 0 := by
  rw [PhiA_eq]; unfold Phi
  iintro ⟨⟨HS0, HS1, HS2, ⟨%d, HS3⟩⟩, Hg⟩
  isplitl [HS0 HS1 HS2 HS3]
  · isplitl [HS0]; · iexact HS0
    isplitl [HS1]; · iexact HS1
    isplitl [HS2]; · iexact HS2
    iexists d; isplitl [HS3]; · iexact HS3
    ipureintro; exact fun h => absurd h (by decide)
  iexact Hg

/-- The invariant given back at the end. -/
theorem phi_out (c : Dev nD) (k : ℕ) : Phi m c k ⊢ Pipeline.ΦA spec0 c := by
  rw [PhiA_eq]; unfold Phi
  iintro ⟨⟨HS0, HS1, HS2, ⟨%d, HS3, -⟩⟩, Hg⟩
  isplitl [HS0 HS1 HS2 HS3]
  · isplitl [HS0]; · iexact HS0
    isplitl [HS1]; · iexact HS1
    isplitl [HS2]; · iexact HS2
    iexists d; iexact HS3
  iexact Hg

set_option backward.isDefEq.respectTransparency.types false in
/-- The whole program's run: the arrays as the relational data say, every counter at zero. -/
theorem run_main :
    θ_run defs (onTc (τ := τ) (main (F := Ideal))) (s₀ m ρ)
      (fun r => Pipeline.RDat.FramePost (cfgs 0) (fun c => (dats m 0 c).toRRel rel0 (Rel0 m c)) (V m) r ∧ r.2.sem = fun _ => 0) :=
  Pipeline.RDat.θ_run_frame_track (Q' := _) cfgs (0 : Fin 1) launch0 defs₀ Variants.none (fun c => (dats m 0 c).toRRel rel0 (Rel0 m c)) m ρ main
    (hbody := fun c => Pipeline.BodyObligationRel.toRRel (dats m 0 c) (body_obligation m c)) (hshare := fun c => (dats m 0 c).share_full fun _ => rfl)
    (howed := fun _ _ => rfl) (V := V m) (hmain := hmain m Variants.none) (hA := A_eq m)
    (hin := phi_in m) (hout := fun c => phi_out m c _) (hQ' := fun _ h => h)

/-- An argument's array ends as it was at launch. -/
theorem final_in {r : PUnit × MemSt nD τ sig (Elt Ideal)}
    (h : Pipeline.RDat.FramePost (cfgs 0) (fun c => (dats m 0 c).toRRel rel0 (Rel0 m c)) (V m) r) (c : Dev nD)
    (w : Fin cfg0.W) (hw : (cfg0.win w).isOut = false) :
    r.2.mem ((c : Thread nD τ).loc (Pipeline.arrRef spec0 w)) = V m c (Pipeline.arrRef spec0 w) :=
  (Pipeline.RDat.FramePost.arr_in h c w hw).trans (A_eq m c w)

/-- The frame claim of the kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨final_in m h.1 c 0 rfl, final_in m h.1 c 1 rfl, final_in m h.1 c 2 rfl,
    final_in m h.1 c 3 rfl, final_in m h.1 c 4 rfl⟩, h.2⟩) (run_main m ρ)

/-- The result's window is the whole array at every point. -/
theorem index5 : ∀ t : Fin cfg0.N, win0_5.index t = ![0, 0] := (by decide +kernel : ∀ t : Fin grid0.N, win0_5.index t = ![0, 0])

/-- The result's array at the end is `column` everywhere. -/
theorem final_out {r : PUnit × MemSt nD τ sig (Elt Ideal)}
    (h : Pipeline.RDat.FramePost (cfgs 0) (fun c => (dats m 0 c).toRRel rel0 (Rel0 m c)) (V m) r) (c : Dev nD) (x : Fin 256) (n : Fin 4096) :
    (r.2.mem ((c : Thread nD τ).loc main_v0) : S256x4096.Idx → EReal) (ix2 x n) = column m c x n := by
  have hA := (h c).1 5
  have hN : (cfgs 0).N = 7 + 1 := points_eq
  rw [hN] at hA
  unfold Pipeline.RDat.ArrAt at hA
  have h7 : 7 < cfg0.N := by rw [points_eq]; decide
  have hf : (cfg0.win 5).flush ⟨7, h7⟩ = true := (flush0_5 _).2 rfl
  rw [dif_pos h7, if_pos hf] at hA
  obtain ⟨G, X, -, hL, e⟩ := hA
  have hD : Done m c 7 X := (dats m 0 c).toRRel_leaves (fgt := rel0) (Rl := Rel0 m c) (w := 5) rfl hL
  have := hD x n (by omega)
  rw [← this]
  have e1 := congrArg (((cfg0.win 5).blk ⟨7, h7⟩).view.read (Elt Ideal)) e
  rw [View.read_write_univ] at e1
  have e2 := congrFun e1 (ix2 x n)
  have e3 : ∀ t : Fin cfg0.N, ((cfg0.win 5).blk t).view.emb (ix2 x n) = (ix2 x n : S256x4096.Idx) := by
    intro t
    blk_ext [index5 t]
  refine Eq.trans ?_ e2
  show _ = r.2.mem ((c : Thread nD τ).loc main_v0) (((cfg0.win 5).blk ⟨7, h7⟩).view.emb (ix2 x n))
  rw [e3 ⟨7, h7⟩]

end Cert.KernelIdeal.Body

end
-- ==== Proof.IdealValue.lean ====
/-
  The kernel's result, element by element: a sum over the packed columns of x times the weight that the arrays hold for a
  row and a column.
-/
module

public import proofs.«01_k».proof.Proof.IdealFrame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

/-- The places of the five operands' blocks at a point. -/
theorem index_in : ∀ t : Fin cfg0.N, win0_0.index t = ![t.val, 0, 0, 0, 0] ∧ win0_1.index t = ![t.val, 0, 0] ∧ win0_2.index t = ![t.val, 0, 0]
    ∧ win0_3.index t = ![0, t.val, 0, 0] ∧ win0_4.index t = ![0, 0] :=
  (by decide +kernel : ∀ t : Fin grid0.N, win0_0.index t = ![t.val, 0, 0, 0, 0] ∧ win0_1.index t = ![t.val, 0, 0] ∧ win0_2.index t = ![t.val, 0, 0]
    ∧ win0_3.index t = ![0, t.val, 0, 0] ∧ win0_4.index t = ![0, 0])

variable (m : (ℓ : Loc nD τ sig) → Buf (Elt Ideal) ℓ)

/-- A point's number is below eight. -/
theorem pt_lt (t : Fin cfg0.N) : t.val < 8 := (points_eq ▸ t.isLt : t.val < 8)

/-- The block of codes of a point. -/
theorem blk0_at (c : Dev nD) (t : Fin cfg0.N) (u : Fin 344) (j : Fin 2) (q : Fin 8) (l : Fin 128) :
    blk0 m c t (ix5 0 u j q l) = (m ((c : Thread nD τ).loc main_arg0) : S8x344x2x8x128.Idx → BitVec 32) (ix5 ⟨t.val, pt_lt t⟩ u j q l) := by
  obtain ⟨h0, h1, h2, h3, h4⟩ := index_in t
  have := pt_lt t
  unfold blk0
  blk_ext [iblk, V, h0]

/-- The block of scales of a point. -/
theorem blk1_at (c : Dev nD) (t : Fin cfg0.N) (a : Fin 4) (u : Fin 352) (l : Fin 128) :
    blk1 m c t (ix3 a u l) = (m ((c : Thread nD τ).loc main_arg1) : S32x352x128.Idx → BitVec 32) (ix3 ⟨4 * t.val + a.val, by have := pt_lt t; omega⟩ u l) := by
  obtain ⟨h0, h1, h2, h3, h4⟩ := index_in t
  have := pt_lt t
  unfold blk1
  blk_ext [iblk, V, h1]

/-- The block of zeros of a point. -/
theorem blk2_at (c : Dev nD) (t : Fin cfg0.N) (a : Fin 4) (u : Fin 352) (l : Fin 128) :
    blk2 m c t (ix3 a u l) = (m ((c : Thread nD τ).loc main_arg2) : S32x352x128.Idx → BitVec 32) (ix3 ⟨4 * t.val + a.val, by have := pt_lt t; omega⟩ u l) := by
  obtain ⟨h0, h1, h2, h3, h4⟩ := index_in t
  have := pt_lt t
  unfold blk2
  blk_ext [iblk, V, h2]

/-- The block of the outlier table of a point. -/
theorem blk3_at (c : Dev nD) (t : Fin cfg0.N) (h : Fin 2) (a : Fin 4) (w : Fin 64) (l : Fin 128) :
    blk3 m c t (ix4 h a w l) = (m ((c : Thread nD τ).loc main_arg3) : S2x32x64x128.Idx → BitVec 32) (ix4 h ⟨4 * t.val + a.val, by have := pt_lt t; omega⟩ w l) := by
  obtain ⟨h0, h1, h2, h3, h4⟩ := index_in t
  have := pt_lt t
  unfold blk3
  blk_ext [iblk, V, h3]

/-- The block of x, which is all of it. -/
theorem blk4_at (c : Dev nD) (t : Fin cfg0.N) (x : Fin 256) (k : Fin 11008) :
    blk4 m c t (ix2 x k) = (m ((c : Thread nD τ).loc main_arg4) : S256x11008.Idx → EReal) (ix2 x k) := by
  obtain ⟨h0, h1, h2, h3, h4⟩ := index_in t
  have := pt_lt t
  unfold blk4
  blk_ext [iblk, V, h4]

/-- The point, the tile within the point and the lane of a row of the weights. -/
def rowPoint (n : Fin 4096) : Fin cfg0.N := point (2 * (n.val / 512 % 4) + n.val % 4 / 2)
@[inherit_doc rowPoint] def rowSlot (n : Fin 4096) : Fin 4 := ⟨2 * (n.val / 2048) + n.val % 2, by omega⟩
@[inherit_doc rowPoint] def rowAt (n : Fin 4096) : Fin 128 := ⟨n.val / 4 % 128, by omega⟩

/-- A row's point, as a number. -/
theorem rowPoint_val (n : Fin 4096) : (rowPoint n).val = 2 * (n.val / 512 % 4) + n.val % 4 / 2 := by
  show (2 * (n.val / 512 % 4) + n.val % 4 / 2) % 8 = _
  omega

/-- Every row of the weights is the column of its point, tile and lane. -/
theorem col_row (n : Fin 4096) : col (rowPoint n).val (rowSlot n).val (rowAt n).val = n.val := by
  rw [rowPoint_val]
  unfold col
  show 512 * ((2 * (n.val / 512 % 4) + n.val % 4 / 2) / 2 + 4 * ((2 * (n.val / 2048) + n.val % 2) / 2)) + 4 * (n.val / 4 % 128)
    + (2 * ((2 * (n.val / 512 % 4) + n.val % 4 / 2) % 2) + (2 * (n.val / 2048) + n.val % 2) % 2) = n.val
  omega

/-- A row of x against a row of weights. -/
def rowDot (A : S256x11008.Idx → EReal) (W : Fin 11008 → EReal) (x : Fin 256) : EReal := ∑ k : Fin 11008, A (ix2 x k) * W k

/-- The weight that a row's point, tile and lane hold. -/
def rowW (c : Dev nD) (n : Fin 4096) (k : Fin 11008) : EReal :=
  wSpec (F := Ideal) (blk0 m c (rowPoint n)) (blk1 m c (rowPoint n)) (blk2 m c (rowPoint n)) (blk3 m c (rowPoint n)) (rowPoint n).val (rowSlot n) k (rowAt n)

/-- A column of a pair of points: which point, tile and lane it belongs to. -/
theorem pair_parts (r g : ℕ) (hr : r < 4) (hg : g < 128) :
    (128 * r + g < 256 → (128 * r + g) / 128 = r % 2 ∧ (128 * r + g) % 128 = g ∧ r / 2 = 0)
      ∧ (¬ 128 * r + g < 256 → (128 * r + g - 256) / 128 = r % 2 ∧ (128 * r + g - 256) % 128 = g ∧ r / 2 = 1) := by
  have : r = 0 ∨ r = 1 ∨ r = 2 ∨ r = 3 := by omega
  rcases this with rfl | rfl | rfl | rfl <;> omega

/-- An element of the result is the sum over the packed columns. -/
theorem column_sum (c : Dev nD) (x : Fin 256) (n : Fin 4096) :
    column m c x n = rowDot (m ((c : Thread nD τ).loc main_arg4)) (rowW m c n) x := by
  have key : ∀ (t : Fin cfg0.N) (h : Fin 2) (q : Fin 256), t = rowPoint n → 2 * h.val + q.val / 128 = (rowSlot n).val → q.val % 128 = (rowAt n).val →
      prods m c t h x q = rowDot (m ((c : Thread nD τ).loc main_arg4)) (rowW m c n) x := by
    intro t h q ht hs hl
    subst ht
    unfold prods prodSpec rowDot rowW
    refine Finset.sum_congr rfl fun k _ => ?_
    rw [blk4_at, show (⟨2 * h.val + q.val / 128, by omega⟩ : Fin 4) = rowSlot n from Fin.ext hs, show (⟨q.val % 128, by omega⟩ : Fin 128) = rowAt n from Fin.ext hl]
  unfold column
  have hs : (rowSlot n).val = 2 * (n.val / 2048) + n.val % 2 := rfl
  have hl : (rowAt n).val = n.val / 4 % 128 := rfl
  have e2 : n.val % 2 = n.val % 4 % 2 := by omega
  have hc := pair_parts (n.val % 4) (n.val % 512 / 4) (by omega) (by omega)
  have e1 : n.val % 512 / 4 = n.val / 4 % 128 := by omega
  split
  · rename_i hq
    obtain ⟨c1, c2, c3⟩ := hc.1 hq
    refine key _ _ _ ?_ ?_ ?_
    · exact Fin.ext (by rw [rowPoint_val, c3]; show 2 * (n.val / 512 % 4) % 8 = _; omega)
    · rw [hs, e2]; exact congrArg (2 * (n.val / 2048) + ·) c1
    · rw [hl, ← e1]; exact c2
  · rename_i hq
    obtain ⟨c1, c2, c3⟩ := hc.2 hq
    refine key _ _ _ ?_ ?_ ?_
    · exact Fin.ext (by rw [rowPoint_val, c3]; show (2 * (n.val / 512 % 4) + 1) % 8 = _; omega)
    · rw [hs, e2]; exact congrArg (2 * (n.val / 2048) + ·) c1
    · rw [hl, ← e1]; exact c2

/-- The result: at row `x` and column `n`, the sum over the packed columns. -/
def result (c : Dev nD) : Buf (Elt Ideal) ((c : Thread nD τ).loc main_v0) := fun i : S256x4096.Idx => column m c (i 0) (i 1)

/-- An index of the result is the pair of its coordinates. -/
theorem idx_eta (i : S256x4096.Idx) : i = ix2 (i 0) (i 1) := by
  funext a
  match a with
  | ⟨0, _⟩ => rfl
  | ⟨1, _⟩ => rfl

/-- The result array at the end of a run. -/
theorem final_result {r : PUnit × MemSt nD τ sig (Elt Ideal)}
    (h : Pipeline.RDat.FramePost (cfgs 0) (fun c => (dats m 0 c).toRRel rel0 (Rel0 m c)) (V m) r) (c : Dev nD) :
    r.2.mem ((c : Thread nD τ).loc main_v0) = result m c := by
  funext i
  rw [idx_eta i]
  exact final_out m h c (i 0) (i 1)

end Cert.KernelIdeal.Body

end
-- ==== Proof.RefValue.lean ====
/-
  The reference's result, element by element: a sum over the packed columns of x times the weight that the packed arrays
  hold for a row and a column.
-/
module

public import proofs.«01_k».proof.Proof.Gen.ReferenceIdeal.Run
public import Idealize.ShloMosaic.Lib.Pointwise
public import Idealize.ShloMosaic.Lib.BitcastConvert
public import Idealize.ShloMosaic.Lib.ValueIdxCore

@[expose] public section

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.Sem

/-- The gather along the rows of the table, read at an index: the operand at the start index of its own row, clamped. -/
theorem gather_at {α : Type} (x : S4096x64.Idx → α) (idx : IVec S4096x11008x1 32) (n : Fin 4096) (k : Fin 11008) :
    Host.gather gather_S4096x64_S4096x11008x1_S4096x11008_n_1_0_0_1_2_11 x idx (ix2 n k)
      = x (ix2 n ⟨min (idx (ix3 n k 0)).toInt.toNat 63, by omega⟩) := by
  unfold Host.gather
  congr 1
  funext a
  refine Fin.ext ?_
  let d := gather_S4096x64_S4096x11008x1_S4096x11008_n_1_0_0_1_2_11
  match a with
  | ⟨0, _⟩ =>
    show d.start (ix2 n k) idx 0 + d.batchCoord (ix2 n k) 0 + d.offCoord (ix2 n k) 0 = _
    rw [GatherDims.offCoord_eq_zero _ _ _ (by decide)]
    unfold GatherDims.start
    rw [dif_neg (by decide)]
    simp only [Nat.add_zero, Nat.zero_add]
    rfl
  | ⟨1, _⟩ =>
    show d.start (ix2 n k) idx 1 + d.batchCoord (ix2 n k) 1 + d.offCoord (ix2 n k) 1 = _
    rw [GatherDims.batchCoord_eq_zero _ _ _ (by decide), GatherDims.offCoord_eq_zero _ _ _ (by decide)]
    simp only [Nat.add_zero]
    unfold GatherDims.start
    rw [dif_pos (show (1 : Fin 2) ∈ d.startIndexMap from List.mem_singleton.mpr rfl)]
    have hsi : d.siIdx (ix2 n k) ⟨List.idxOf (1 : Fin 2) d.startIndexMap,
        List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    rw [hsi]
    rfl

/-- The column number of the checkpoint that packed column `k` holds, as the reference's word. -/
def kWord (k : BitVec 32) : BitVec 32 :=
  IntOp.addi (IntOp.addi (IntOp.muli 32#32 (IntOp.divsi .host k 32#32)) (IntOp.muli 16#32 (IntOp.remsi .host k 2#32)))
    (IntOp.divsi .host (IntOp.remsi .host k 32#32) 2#32)

/-- The window of a row and a column, as the reference's word. -/
def winWord (n k : BitVec 32) : BitVec 32 :=
  IntOp.divsi .host (IntOp.addi (IntOp.divsi .host (kWord k) 8#32) (IntOp.remsi .host n 25#32)) 25#32

/-- The window, a negative one counted from the end. -/
def winSel (n k : BitVec 32) : BitVec 32 :=
  Scalar.select (IntOp.cmpi .slt (winWord n k) 0#32) (IntOp.addi (winWord n k) 64#32) (winWord n k)

/-- The tile of a row of the weights. -/
def rowTile (n : Fin 4096) : Fin 32 := ⟨n.val / 512 % 4 * 8 + n.val / 2 % 2 * 4 + n.val / 2048 * 2 + n.val % 2, by omega⟩
/-- The lane of a row of the weights. -/
def rowLane (n : Fin 4096) : Fin 128 := ⟨n.val / 4 % 128, by omega⟩

/-- The table's entry of a row in a window, its two parts joined. -/
def entry (X : S2x32x64x128.Idx → BitVec 32) (n : Fin 4096) (w : Fin 64) : BitVec 32 :=
  IntOp.ori (X (ix4 0 (rowTile n) w (rowLane n))) (X (ix4 1 (rowTile n) w (rowLane n)))

/-- The entry that belongs to a row and a packed column. -/
def entryOf (X : S2x32x64x128.Idx → BitVec 32) (n : Fin 4096) (k : Fin 11008) : BitVec 32 :=
  entry X n ⟨min (winSel (BitVec.ofNat 32 n.val) (BitVec.ofNat 32 k.val)).toInt.toNat 63, by omega⟩

/-- The weight of a row and a packed column: the outlier's value where the table's entry names the column, and otherwise
    the decoded weight. -/
def refW (T : S8x344x2x8x128.Idx → BitVec 32) (S Z : S32x352x128.Idx → BitVec 32) (X : S2x32x64x128.Idx → BitVec 32) (n : Fin 4096) (k : Fin 11008) : EReal :=
  Scalar.select (IntOp.cmpi .eq (IntOp.andi (entryOf X n k) 65535#32) (IntOp.addi (kWord (BitVec.ofNat 32 k.val)) 1#32))
    (Ideal.ofBits FTy.bf16 (BitVec.setWidth 16 (IntOp.shrsi .host (entryOf X n k) 16#32)))
    (((FloatOps.sitofp FTy.bf16 (IntOp.andi (IntOp.shrsi .host
        (T (ix5 ⟨n.val / 512 % 4 * 2 + n.val / 2 % 2, by omega⟩ ⟨k.val / 32, by omega⟩ ⟨n.val % 2, by omega⟩ ⟨k.val / 4 % 8, by omega⟩ (rowLane n)))
        (IntOp.addi (IntOp.muli 8#32 (BitVec.ofNat 32 (k.val % 4))) (IntOp.muli 4#32 (BitVec.ofNat 32 (n.val / 2048))))) 7#32) : Ideal .bf16)
      - Ideal.ofBits FTy.bf16 (BitVec.extractLsb' (k.val % 2 * 16) 16 (Z (ix3 (rowTile n) ⟨k.val / 32, by omega⟩ (rowLane n)))))
      * Ideal.ofBits FTy.bf16 (BitVec.extractLsb' (k.val % 2 * 16) 16 (S (ix3 (rowTile n) ⟨k.val / 32, by omega⟩ (rowLane n)))))

/-- A row of x against a row of weights. -/
def rowDot (A : S256x11008.Idx → EReal) (W : Fin 11008 → EReal) (x : Fin 256) : EReal := ∑ k : Fin 11008, A (ix2 x k) * W k

variable (m : (ℓ : Loc nD τ sig) → Buf (Elt Ideal) ℓ)

/-- An element of the reference's result. -/
theorem res_at (c : Dev nD) (x : Fin 256) (n : Fin 4096) :
    Cert.ReferenceIdeal.Value.res_main_v78 m c (ix2 x n)
      = rowDot (m ((c.tc : Thread nD τ).loc main_arg4)) (refW (m ((c.tc : Thread nD τ).loc main_arg0)) (m ((c.tc : Thread nD τ).loc main_arg1))
          (m ((c.tc : Thread nD τ).loc main_arg2)) (m ((c.tc : Thread nD τ).loc main_arg3)) n) x := by
  pointwise [Cert.ReferenceIdeal.Value.res_main_v78, gather_at, Host.bitcastConvertNarrow_apply]
  rfl

end Cert.ReferenceIdeal.Body

end
-- ==== Proof.Compare.lean ====
/-
  The kernel's weight and the reference's are the same, element by element: the words of the two programs compared.
-/
module

public import proofs.«01_k».proof.Proof.IdealValue
public import proofs.«01_k».proof.Proof.RefValue
public import Idealize.ShloMosaic.Lib.Routing.Words

@[expose] public section

set_option maxRecDepth 16384

noncomputable section

namespace Cert.Compare

open Idealize.ShloMosaic Idealize.ShloMosaic.TcCoe Idealize.ShloMosaic.Tactic
open Cert.KernelIdeal.Body Cert.ReferenceIdeal.Body
open Idealize.ShloMosaic.Routing (divsi_word remsi_word)

/-- The column of the checkpoint that packed column `k` holds. -/
def nat (k : ℕ) : ℕ := 32 * (k / 32) + 16 * (k % 2) + k % 32 / 2

/-- The reference's word of it. -/
theorem kWord_eq (k : ℕ) (hk : k < 11008) : kWord (BitVec.ofNat 32 k) = BitVec.ofNat 32 (nat k) := by
  unfold kWord nat
  rw [show (32#32 : BitVec 32) = BitVec.ofNat 32 32 from rfl, show (2#32 : BitVec 32) = BitVec.ofNat 32 2 from rfl, show (16#32 : BitVec 32) = BitVec.ofNat 32 16 from rfl,
    divsi_word _ (by omega) (by omega) (by omega), remsi_word _ (by omega) (by omega) (by omega), remsi_word _ (by omega) (by omega) (by omega),
    divsi_word _ (by omega) (by omega) (by omega)]
  show BitVec.ofNat 32 32 * BitVec.ofNat 32 (k / 32) + BitVec.ofNat 32 16 * BitVec.ofNat 32 (k % 2) + BitVec.ofNat 32 (k % 32 / 2) = _
  rw [← BitVec.ofNat_mul, ← BitVec.ofNat_mul, ← BitVec.ofNat_add, ← BitVec.ofNat_add]

/-- The packed columns hold columns of the checkpoint. -/
theorem nat_lt (k : ℕ) (hk : k < 11008) : nat k < 11008 := by unfold nat; omega

/-- The reference's word of a window. -/
theorem winWord_eq (n k : ℕ) (hn : n < 4096) (hk : k < 11008) :
    winWord (BitVec.ofNat 32 n) (BitVec.ofNat 32 k) = BitVec.ofNat 32 ((nat k / 8 + n % 25) / 25) := by
  have := nat_lt k hk
  unfold winWord
  rw [kWord_eq k hk, show (8#32 : BitVec 32) = BitVec.ofNat 32 8 from rfl, show (25#32 : BitVec 32) = BitVec.ofNat 32 25 from rfl,
    divsi_word _ (by omega) (by omega) (by omega), remsi_word _ (by omega) (by omega) (by omega)]
  show IntOp.divsi .host (BitVec.ofNat 32 (nat k / 8) + BitVec.ofNat 32 (n % 25)) (BitVec.ofNat 32 25) = _
  rw [← BitVec.ofNat_add, divsi_word _ (by omega) (by omega) (by omega)]

/-- The window's number is read as it is: it is neither negative nor out of the table. -/
theorem winSel_eq (n k : ℕ) (hn : n < 4096) (hk : k < 11008) :
    min (winSel (BitVec.ofNat 32 n) (BitVec.ofNat 32 k)).toInt.toNat 63 = (nat k / 8 + n % 25) / 25 := by
  have := nat_lt k hk
  unfold winSel
  rw [winWord_eq n k hn hk]
  have hw : (nat k / 8 + n % 25) / 25 < 64 := by omega
  generalize (nat k / 8 + n % 25) / 25 = w at *
  have hall : ∀ w : Fin 64, min (Scalar.select (IntOp.cmpi .slt (BitVec.ofNat 32 w.val) 0#32) (IntOp.addi (BitVec.ofNat 32 w.val) 64#32) (BitVec.ofNat 32 w.val)).toInt.toNat 63 = w.val := by
    decide +kernel
  exact hall ⟨w, hw⟩

/-- The column number of an entry matches in 16 bits, less the segment's base, exactly when it matches in 32. -/
theorem match_iff (e : BitVec 32) (seg q : ℕ) (h : 8 * seg + q < 11008) :
    e.extractLsb' 0 16 - BitVec.ofNat 16 (8 * seg + 1) = BitVec.ofNat 16 q ↔ e &&& 65535#32 = BitVec.ofNat 32 (8 * seg + q) + 1#32 := by
  have he : (e &&& 65535#32).toNat = e.toNat % 65536 := by
    rw [BitVec.toNat_and]
    exact Nat.and_two_pow_sub_one_eq_mod e.toNat 16
  have hl : (e.extractLsb' 0 16).toNat = e.toNat % 65536 := by
    rw [BitVec.extractLsb'_toNat, Nat.shiftRight_zero]
  have hr : (BitVec.ofNat 32 (8 * seg + q) + 1#32).toNat = 8 * seg + q + 1 := by
    rw [BitVec.toNat_add, BitVec.toNat_ofNat, BitVec.toNat_ofNat]; omega
  rw [← BitVec.toNat_inj, ← BitVec.toNat_inj, he, hr, BitVec.toNat_sub, hl, BitVec.toNat_ofNat, BitVec.toNat_ofNat]
  have := e.isLt
  omega

/-- The value of an entry. -/
theorem value_eq (e : BitVec 32) : BitVec.setWidth 16 (IntOp.shrsi .host e 16#32) = e.extractLsb' 16 16 := by
  unfold IntOp.shrsi
  rw [if_pos (by decide)]
  apply BitVec.eq_of_getLsbD_eq
  intro i hi
  rw [BitVec.getLsbD_setWidth, BitVec.getLsbD_extractLsb', BitVec.sshiftRight_eq', BitVec.getLsbD_sshiftRight]
  have h1 : (16#32 : BitVec 32).toNat = 16 := rfl
  rw [h1, decide_eq_true hi, show decide (32 ≤ i) = false from decide_eq_false (by omega), if_pos (by omega)]
  rfl

/-- A code is the same number, read off its byte or off its word. -/
theorem code_eq (w : BitVec 32) (f : Fin 2) (b : Fin 4) :
    (IntOp.andi (IntOp.shrsi .host w (IntOp.addi (IntOp.muli 8#32 (BitVec.ofNat 32 b.val)) (IntOp.muli 4#32 (BitVec.ofNat 32 f.val)))) 7#32).toInt
      = (((w >>> (4 * f.val)) &&& 117901063#32).extractLsb' (8 * b.val) 8).toInt := by
  have key : IntOp.andi (IntOp.shrsi .host w (IntOp.addi (IntOp.muli 8#32 (BitVec.ofNat 32 b.val)) (IntOp.muli 4#32 (BitVec.ofNat 32 f.val)))) 7#32
      = (((w >>> (4 * f.val)) &&& 117901063#32).extractLsb' (8 * b.val) 8).setWidth 32 := by
    have hs : (IntOp.addi (IntOp.muli 8#32 (BitVec.ofNat 32 b.val)) (IntOp.muli 4#32 (BitVec.ofNat 32 f.val))).toNat = 8 * b.val + 4 * f.val := by
      revert b f; decide
    unfold IntOp.shrsi
    rw [hs, if_pos (by omega), BitVec.sshiftRight_eq', hs]
    apply BitVec.eq_of_getLsbD_eq
    intro i hi
    show (w.sshiftRight (8 * b.val + 4 * f.val) &&& 7#32).getLsbD i = _
    rw [BitVec.getLsbD_and, BitVec.getLsbD_setWidth, BitVec.getLsbD_extractLsb', BitVec.getLsbD_and, BitVec.getLsbD_ushiftRight, BitVec.getLsbD_sshiftRight]
    by_cases h3 : i < 3
    · have hm : (117901063#32).getLsbD (8 * b.val + i) = (7#32).getLsbD i := by
        have : ∀ (b : Fin 4) (i : Fin 3), (117901063#32).getLsbD (8 * b.val + i.val) = (7#32).getLsbD i.val := by decide
        exact this b ⟨i, h3⟩
      rw [hm, decide_eq_true (show i < 32 from hi), decide_eq_true (show i < 8 by omega), show decide (32 ≤ i) = false from decide_eq_false (by omega),
        if_pos (by omega), show 8 * b.val + 4 * f.val + i = 4 * f.val + (8 * b.val + i) by omega]
      simp
    · have h7 : (7#32).getLsbD i = false := by
        have : ∀ i : Fin 32, 3 ≤ i.val → (7#32).getLsbD i.val = false := by decide
        exact this ⟨i, hi⟩ (Nat.le_of_not_lt h3)
      rw [h7, Bool.and_false]
      by_cases h8 : i < 8
      · have hm : (117901063#32).getLsbD (8 * b.val + i) = false := by
          have : ∀ (b : Fin 4) (i : Fin 8), 3 ≤ i.val → (117901063#32).getLsbD (8 * b.val + i.val) = false := by decide
          exact this b ⟨i, h8⟩ (Nat.le_of_not_lt h3)
        rw [hm]; simp
      · rw [decide_eq_false h8]; simp
  rw [key]
  have hlt : (((w >>> (4 * f.val)) &&& 117901063#32).extractLsb' (8 * b.val) 8).msb = false := by
    rw [BitVec.msb_eq_getLsbD_last, BitVec.getLsbD_extractLsb', BitVec.getLsbD_and]
    have : ∀ b : Fin 4, (117901063#32).getLsbD (8 * b.val + 7) = false := by decide
    rw [show 8 * b.val + (8 - 1) = 8 * b.val + 7 from rfl, this b]
    simp
  rw [BitVec.toInt_eq_toNat_of_msb hlt, BitVec.toInt_eq_toNat_of_lt]
  · rw [BitVec.toNat_setWidth, Nat.mod_eq_of_lt]
    have := (((w >>> (4 * f.val)) &&& 117901063#32).extractLsb' (8 * b.val) 8).isLt
    omega
  · rw [BitVec.toNat_setWidth]
    have := (((w >>> (4 * f.val)) &&& 117901063#32).extractLsb' (8 * b.val) 8).isLt
    omega

/-- A half of a word of two halves. -/
theorem half_pair (hi lo : BitVec 16) (p : ℕ) : half (hi ++ lo) p = if p % 2 = 1 then hi else lo := by
  unfold half
  have : p % 2 = 0 ∨ p % 2 = 1 := by omega
  rcases this with h | h <;> rw [h]
  · rw [if_neg (by decide)]
    apply BitVec.eq_of_getLsbD_eq
    intro i hi'
    rw [BitVec.getLsbD_extractLsb', BitVec.getLsbD_append]
    simp [hi']
  · rw [if_pos rfl]
    apply BitVec.eq_of_getLsbD_eq
    intro i hi'
    rw [BitVec.getLsbD_extractLsb', BitVec.getLsbD_append]
    simp [hi']

/-- The segment of a packed column, from its row of the two word buffers. -/
theorem seg_eq (k : ℕ) : (if k % 16 % 2 = 1 then segLo (2 * (k / 32) + k % 32 / 16) + 2 else segLo (2 * (k / 32) + k % 32 / 16)) = nat k / 8 := by
  unfold segLo nat
  split <;> omega

/-- The half of a row's word of column numbers that belongs to a packed column. -/
theorem half_off (e : ℕ → BitVec 32) (φ k : ℕ) : half (offWord e φ (2 * (k / 32) + k % 32 / 16)) (k % 16) = offHalf e φ (nat k / 8) := by
  unfold offWord
  rw [half_pair, ← seg_eq k]
  split <;> rfl

/-- The half of a row's word of values that belongs to a packed column. -/
theorem half_val (e : ℕ → BitVec 32) (φ k : ℕ) : half (valWord e φ (2 * (k / 32) + k % 32 / 16)) (k % 16) = valHalf e φ (nat k / 8) := by
  unfold valWord
  rw [half_pair, ← seg_eq k]
  split <;> rfl

/-- The two programs' weights are equal when they read the same words. -/
theorem weight_eq (tw sw zw : BitVec 32) (e : ℕ → BitVec 32) (en : BitVec 32) (n : Fin 4096) (k : Fin 11008) (hen : e ((nat k.val / 8 + n.val % 25) / 25) = en) :
    (wt (F := Ideal) tw sw zw (offWord e (n.val % 25) (2 * (k.val / 32) + k.val % 32 / 16)) (valWord e (n.val % 25) (2 * (k.val / 32) + k.val % 32 / 16))
        ((rowSlot n).val / 2) (k.val % 32 / 16) (k.val % 16) : EReal)
      = Scalar.select (IntOp.cmpi .eq (IntOp.andi en 65535#32) (IntOp.addi (kWord (BitVec.ofNat 32 k.val)) 1#32))
          (Ideal.ofBits FTy.bf16 (BitVec.setWidth 16 (IntOp.shrsi .host en 16#32)))
          (((FloatOps.sitofp FTy.bf16 (IntOp.andi (IntOp.shrsi .host tw
              (IntOp.addi (IntOp.muli 8#32 (BitVec.ofNat 32 (k.val % 4))) (IntOp.muli 4#32 (BitVec.ofNat 32 (n.val / 2048))))) 7#32) : Ideal .bf16)
            - Ideal.ofBits FTy.bf16 (BitVec.extractLsb' (k.val % 2 * 16) 16 zw)) * Ideal.ofBits FTy.bf16 (BitVec.extractLsb' (k.val % 2 * 16) 16 sw)) := by
  unfold wt
  rw [half_off, half_val]
  unfold offHalf valHalf
  rw [hen, kWord_eq k.val k.isLt, value_eq]
  have hk := nat_lt k.val k.isLt
  have hq : nat k.val = 8 * (nat k.val / 8) + k.val % 16 / 2 := by
    have h1 : k.val % 32 / 2 = k.val % 16 / 2 + 8 * (k.val % 32 / 16) := by omega
    unfold nat
    rw [h1]
    omega
  have hm := match_iff en (nat k.val / 8) (k.val % 16 / 2) (by omega)
  rw [← hq] at hm
  have hf : (rowSlot n).val / 2 = n.val / 2048 := by show (2 * (n.val / 2048) + n.val % 2) / 2 = _; omega
  have hz : ∀ w : BitVec 32, half w (k.val % 16) = BitVec.extractLsb' (k.val % 2 * 16) 16 w := by
    intro w; unfold half; rw [show 16 * (k.val % 16 % 2) = k.val % 2 * 16 by omega]
  have hc := code_eq tw ⟨n.val / 2048, by omega⟩ ⟨k.val % 4, by omega⟩
  unfold Scalar.select
  by_cases h : en &&& 65535#32 = BitVec.ofNat 32 (nat k.val) + 1#32
  · rw [if_pos (hm.mpr h)]
    have hb : IntOp.cmpi .eq (IntOp.andi en 65535#32) (IntOp.addi (BitVec.ofNat 32 (nat k.val)) 1#32) = 1#1 := by
      show BitVec.ofBool (en &&& 65535#32 == BitVec.ofNat 32 (nat k.val) + 1#32) = 1#1
      rw [beq_iff_eq.mpr h]; rfl
    rw [hb]
    exact (if_pos (show (1#1 : BitVec 1) = 1 from rfl)).symm
  · rw [if_neg (fun h' => h (hm.mp h'))]
    have hb : IntOp.cmpi .eq (IntOp.andi en 65535#32) (IntOp.addi (BitVec.ofNat 32 (nat k.val)) 1#32) = 0#1 := by
      show BitVec.ofBool (en &&& 65535#32 == BitVec.ofNat 32 (nat k.val) + 1#32) = 0#1
      rw [beq_eq_false_iff_ne.mpr h]; rfl
    rw [hb, hz, hz, hf]
    refine Eq.trans ?_ (if_neg (show ¬ (0#1 : BitVec 1) = 1 by decide)).symm
    have hs : (FloatOps.sitofp FTy.bf16 (code tw (n.val / 2048) (16 * (k.val % 32 / 16) + k.val % 16)) : Ideal .bf16)
        = FloatOps.sitofp FTy.bf16 (IntOp.andi (IntOp.shrsi .host tw
              (IntOp.addi (IntOp.muli 8#32 (BitVec.ofNat 32 (k.val % 4))) (IntOp.muli 4#32 (BitVec.ofNat 32 (n.val / 2048))))) 7#32) := by
      unfold code
      rw [show (16 * (k.val % 32 / 16) + k.val % 16) % 4 = k.val % 4 by omega]
      exact congrArg (fun z : ℤ => (((z : ℝ) : EReal) : Ideal .bf16)) hc.symm
    rw [hs]
    rfl

variable (m : (ℓ : Loc Cert.KernelIdeal.nD Cert.KernelIdeal.τ Cert.KernelIdeal.sig) → Buf (Elt Ideal) ℓ)

/-- The kernel's weight of a row and a packed column is the reference's. -/
theorem rowW_eq (c : Dev Cert.KernelIdeal.nD) (n : Fin 4096) (k : Fin 11008) :
    rowW m c n k = refW (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) n k := by
  have hp := rowPoint_val n
  have hs : (rowSlot n).val = 2 * (n.val / 2048) + n.val % 2 := rfl
  have hT : 4 * (rowPoint n).val + (rowSlot n).val = (rowTile n).val := by
    rw [hp, hs]
    show _ = n.val / 512 % 4 * 8 + n.val / 2 % 2 * 4 + n.val / 2048 * 2 + n.val % 2
    omega
  have hk := nat_lt k.val k.isLt
  have hwin := winSel_eq n.val k.val n.isLt k.isLt
  unfold rowW wSpec refW
  rw [blk0_at, blk1_at, blk2_at, col_row]
  rw [weight_eq _ _ _ _ (entryOf (m ((c.tc : Thread Cert.KernelIdeal.nD Cert.KernelIdeal.τ).loc Cert.KernelIdeal.main_arg3)) n k) n k ?_]
  · have e1 : (⟨4 * (rowPoint n).val + (rowSlot n).val, by have := pt_lt (rowPoint n); omega⟩ : Fin 32) = rowTile n := Fin.ext hT
    have e2 : (⟨(rowPoint n).val, pt_lt _⟩ : Fin 8) = ⟨n.val / 512 % 4 * 2 + n.val / 2 % 2, by omega⟩ := Fin.ext (show (rowPoint n).val = n.val / 512 % 4 * 2 + n.val / 2 % 2 by rw [hp]; omega)
    have e3 : (⟨(rowSlot n).val % 2, by omega⟩ : Fin 2) = ⟨n.val % 2, by omega⟩ := Fin.ext (show (2 * (n.val / 2048) + n.val % 2) % 2 = n.val % 2 by omega)
    have e4 : (⟨k.val % 32 / 4, by omega⟩ : Fin 8) = ⟨k.val / 4 % 8, by omega⟩ := Fin.ext (show k.val % 32 / 4 = k.val / 4 % 8 by omega)
    rw [e1, e2, e3, e4]
    rfl
  · unfold ent entryOf entry
    rw [blk3_at, blk3_at]
    have e1 : (⟨4 * (rowPoint n).val + (rowSlot n).val, by have := pt_lt (rowPoint n); omega⟩ : Fin 32) = rowTile n := Fin.ext hT
    have e5 : (⟨(nat k.val / 8 + n.val % 25) / 25 % 64, Nat.mod_lt _ (by decide)⟩ : Fin 64)
        = ⟨min (winSel (BitVec.ofNat 32 n.val) (BitVec.ofNat 32 k.val)).toInt.toNat 63, by omega⟩ := Fin.ext ((show (nat k.val / 8 + n.val % 25) / 25 % 64 = (nat k.val / 8 + n.val % 25) / 25 by omega).trans hwin.symm)
    rw [e1, e5]
    rfl

/-- The reference's result is the common result when the arguments agree. -/
theorem reference_value (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v78 m' c = result m c := by
  have key : ∀ (x : Fin 256) (n : Fin 4096), Cert.ReferenceIdeal.Value.res_main_v78 m' c (ix2 x n) = column m c x n := by
    intro x n
    refine (res_at m' c x n).trans ?_
    rw [h0, h1, h2, h3, h4, column_sum, show rowW m c n = _ from funext fun k => rowW_eq m c n k]
    rfl
  funext i
  rw [idx_eta i]
  exact key (i 0) (i 1)

end Cert.Compare

end
-- ==== Proof.PrepRefValue.lean ====
/-
  The reference of the preparation, element by element: a word joins eight codes, each of three bits, and x has its columns
  in the order of the codes.
-/
module

public import proofs.«01_k».proof.Proof.Gen.PrepReferenceIdeal.Run
public import Idealize.ShloMosaic.Lib.Pointwise
public import Idealize.ShloMosaic.Lib.ValueIdxCore

@[expose] public section

set_option maxRecDepth 16384

noncomputable section

namespace Cert.PrepReferenceIdeal.Body

open Cert.PrepReferenceIdeal Cert.PrepReferenceIdeal.Gen
open Idealize.ShloMosaic Idealize.ShloMosaic.TcCoe Idealize.ShloMosaic.Tactic
open Idealize.SL Idealize.SL.Sem

/-- One plane's bits at their places in the codes: bit f of every byte, moved up by `s`. -/
def fields (q : IVec S3x512x11008 8) (off : Fin 3 → ℕ) (h : S3x512x11008.Slices off S1x512x11008) (s : BitVec 32) : IVec S8x512x11008 32 :=
  Host.shli (andi (Host.shrsi (broadcastInDim S8x512x11008 ![0, 1, 2] bcast_S1x512x11008_S8x512x11008_0_1_2 (broadcastInDim S1x512x11008 ![1, 2] bcast_S512x11008_S1x512x11008_1_2 (shapeCast _ (extractStridedSlice S1x512x11008 off (extui 32 q natLt_8_32) h) shapeCasts_S1x512x11008_S512x11008))) (broadcastInDim S8x512x11008 ![0, 1, 2] bcast_S8x1x1_S8x512x11008_0_1_2 (iotaInDim S8x1x1 32 0))) (broadcastInDim S8x512x11008 ![] bcast_S_S8x512x11008 (constantI S_ 32 1#32))) (broadcastInDim S8x512x11008 ![] bcast_S_S8x512x11008 (constantI S_ 32 s))

/-- The codes: field, row within the field, column. -/
def codes (q : IVec S3x512x11008 8) : IVec S8x512x11008 32 :=
  ori (ori (fields q ![0, 0, 0] slices_S3x512x11008_S1x512x11008_0_0_0 0#32) (fields q ![1, 0, 0] slices_S3x512x11008_S1x512x11008_1_0_0 1#32)) (fields q ![2, 0, 0] slices_S3x512x11008_S1x512x11008_2_0_0 2#32)

/-- The codes in the order of the nibbles of the words. -/
def arranged (x : IVec S8x512x11008 32) : IVec S2x4x8x344x2x8x128 32 :=
  shapeCast _ (transpose S2x4x4x2x344x2x8x128 [0, 7, 1, 3, 5, 4, 6, 2] (shapeCast _ (transpose S2x4x128x2x2x344x16x2 [0, 1, 2, 3, 4, 5, 7, 6] (shapeCast _ x shapeCasts_S8x512x11008_S2x4x128x2x2x344x2x16) transposes_S2x4x128x2x2x344x2x16_S2x4x128x2x2x344x16x2_0_1_2_3_4_5_7_6) shapeCasts_S2x4x128x2x2x344x16x2_S2x4x128x2x2x344x8x4) transposes_S2x4x128x2x2x344x8x4_S2x4x4x2x344x2x8x128_0_7_1_3_5_4_6_2) shapeCasts_S2x4x4x2x344x2x8x128_S2x4x8x344x2x8x128

/-- The nibbles of one half and byte, moved to their place in the words. -/
def nibbles (x : IVec S2x4x8x344x2x8x128 32) (off : Fin 7 → ℕ) (h : S2x4x8x344x2x8x128.Slices off S1x1x8x344x2x8x128) (s : BitVec 32) : IVec S8x344x2x8x128 32 :=
  Host.shli (shapeCast _ (extractStridedSlice S1x1x8x344x2x8x128 off x h) shapeCasts_S1x1x8x344x2x8x128_S8x344x2x8x128) (broadcastInDim S8x344x2x8x128 ![] bcast_S_S8x344x2x8x128 (constantI S_ 32 s))

/-- A code from the three planes' bytes and its field. -/
def code3 (b0 b1 b2 : BitVec 8) (f : BitVec 32) : BitVec 32 :=
  IntOp.ori (IntOp.ori
    (IntOp.shli .host (IntOp.andi (IntOp.shrsi .host (b0.setWidth 32) f) 1#32) 0#32)
    (IntOp.shli .host (IntOp.andi (IntOp.shrsi .host (b1.setWidth 32) f) 1#32) 1#32))
    (IntOp.shli .host (IntOp.andi (IntOp.shrsi .host (b2.setWidth 32) f) 1#32) 2#32)

/-- A code, element by element. -/
theorem codes_at (q : IVec S3x512x11008 8) (f : Fin 8) (n : Fin 512) (k : Fin 11008) :
    codes q (ix3 f n k) = code3 (q (ix3 0 n k)) (q (ix3 1 n k)) (q (ix3 2 n k)) (BitVec.ofNat 32 f.val) := by
  pointwise [codes, fields]
  rfl

/-- The fields, rows and columns split into their parts. -/
theorem split_at (x : IVec S8x512x11008 32) (a : Fin 2) (b : Fin 4) (c : Fin 128) (d : Fin 2) (e : Fin 2) (f : Fin 344) (g : Fin 2) (h : Fin 16) :
    shapeCast S2x4x128x2x2x344x2x16 x shapeCasts_S8x512x11008_S2x4x128x2x2x344x2x16 (ix8 a b c d e f g h)
      = x (ix3 ⟨a.val * 4 + b.val, by omega⟩ ⟨c.val * 4 + d.val * 2 + e.val, by omega⟩ ⟨f.val * 32 + g.val * 16 + h.val, by omega⟩) := by
  pointwise

/-- The two halves of a unit's columns alternate. -/
theorem alternate_at (x : IVec S2x4x128x2x2x344x2x16 32) (a : Fin 2) (b : Fin 4) (c : Fin 128) (d : Fin 2) (e : Fin 2) (f : Fin 344) (g : Fin 16) (h : Fin 2) :
    transpose S2x4x128x2x2x344x16x2 [0, 1, 2, 3, 4, 5, 7, 6] x transposes_S2x4x128x2x2x344x2x16_S2x4x128x2x2x344x16x2_0_1_2_3_4_5_7_6 (ix8 a b c d e f g h)
      = x (ix8 a b c d e f h g) := by
  pointwise

/-- The columns of a unit as eight rows of four. -/
theorem rows_at (x : IVec S2x4x128x2x2x344x16x2 32) (a : Fin 2) (b : Fin 4) (c : Fin 128) (d : Fin 2) (e : Fin 2) (f : Fin 344) (g : Fin 8) (h : Fin 4) :
    shapeCast S2x4x128x2x2x344x8x4 x shapeCasts_S2x4x128x2x2x344x16x2_S2x4x128x2x2x344x8x4 (ix8 a b c d e f g h)
      = x (ix8 a b c d e f ⟨g.val * 2 + h.val / 2, by omega⟩ ⟨h.val % 2, by omega⟩) := by
  pointwise

/-- The parts in the order of the words. -/
theorem order_at (x : IVec S2x4x128x2x2x344x8x4 32) (a : Fin 2) (b : Fin 4) (c : Fin 4) (d : Fin 2) (e : Fin 344) (f : Fin 2) (g : Fin 8) (h : Fin 128) :
    transpose S2x4x4x2x344x2x8x128 [0, 7, 1, 3, 5, 4, 6, 2] x transposes_S2x4x128x2x2x344x8x4_S2x4x4x2x344x2x8x128_0_7_1_3_5_4_6_2 (ix8 a b c d e f g h)
      = x (ix8 a c h d f e g b) := by
  pointwise

/-- The field and the pair of a step joined. -/
theorem step_at (x : IVec S2x4x4x2x344x2x8x128 32) (a : Fin 2) (b : Fin 4) (c : Fin 8) (e : Fin 344) (f : Fin 2) (g : Fin 8) (h : Fin 128) :
    shapeCast S2x4x8x344x2x8x128 x shapeCasts_S2x4x4x2x344x2x8x128_S2x4x8x344x2x8x128 (ix7 a b c e f g h)
      = x (ix8 a b ⟨c.val / 2, by omega⟩ ⟨c.val % 2, by omega⟩ e f g h) := by
  pointwise

/-- The code of a nibble. -/
theorem arranged_at (x : IVec S8x512x11008 32) (h : Fin 2) (b : Fin 4) (n : Fin 8) (u : Fin 344) (e : Fin 2) (r : Fin 8) (l : Fin 128) :
    arranged x (ix7 h b n u e r l) = x (ix3 ⟨h.val * 4 + n.val / 2, by omega⟩ ⟨l.val * 4 + n.val % 2 * 2 + e.val, by omega⟩
      ⟨u.val * 32 + b.val % 2 * 16 + (r.val * 2 + b.val / 2), by omega⟩) := by
  unfold arranged
  rw [step_at, order_at, rows_at, alternate_at, split_at]

/-- The nibbles of one half and byte, element by element. -/
theorem nibbles_at (x : IVec S2x4x8x344x2x8x128 32) (h : Fin 2) (b : Fin 4) (hs : S2x4x8x344x2x8x128.Slices ![h.val, b.val, 0, 0, 0, 0, 0] S1x1x8x344x2x8x128) (s : BitVec 32)
    (n : Fin 8) (u : Fin 344) (e : Fin 2) (r : Fin 8) (l : Fin 128) :
    nibbles x ![h.val, b.val, 0, 0, 0, 0, 0] hs s (ix5 n u e r l) = IntOp.shli .host (x (ix7 h b n u e r l)) s := by
  pointwise [nibbles]

variable (m : (ℓ : Loc nD τ sig) → Buf (Elt Ideal) ℓ)

/-- The reference's first result: eight nibbles or-ed into a word. -/
theorem words_eq (c : Dev nD) : Cert.PrepReferenceIdeal.Value.res_main_v77 m c =
    ori (ori (ori (ori (ori (ori (ori
      (nibbles (arranged (codes (m ((c.tc : Thread nD τ).loc main_arg0)))) ![0, 0, 0, 0, 0, 0, 0] slices_S2x4x8x344x2x8x128_S1x1x8x344x2x8x128_0_0_0_0_0_0_0 0#32)
      (nibbles (arranged (codes (m ((c.tc : Thread nD τ).loc main_arg0)))) ![0, 1, 0, 0, 0, 0, 0] slices_S2x4x8x344x2x8x128_S1x1x8x344x2x8x128_0_1_0_0_0_0_0 8#32))
      (nibbles (arranged (codes (m ((c.tc : Thread nD τ).loc main_arg0)))) ![0, 2, 0, 0, 0, 0, 0] slices_S2x4x8x344x2x8x128_S1x1x8x344x2x8x128_0_2_0_0_0_0_0 16#32))
      (nibbles (arranged (codes (m ((c.tc : Thread nD τ).loc main_arg0)))) ![0, 3, 0, 0, 0, 0, 0] slices_S2x4x8x344x2x8x128_S1x1x8x344x2x8x128_0_3_0_0_0_0_0 24#32))
      (nibbles (arranged (codes (m ((c.tc : Thread nD τ).loc main_arg0)))) ![1, 0, 0, 0, 0, 0, 0] slices_S2x4x8x344x2x8x128_S1x1x8x344x2x8x128_1_0_0_0_0_0_0 4#32))
      (nibbles (arranged (codes (m ((c.tc : Thread nD τ).loc main_arg0)))) ![1, 1, 0, 0, 0, 0, 0] slices_S2x4x8x344x2x8x128_S1x1x8x344x2x8x128_1_1_0_0_0_0_0 12#32))
      (nibbles (arranged (codes (m ((c.tc : Thread nD τ).loc main_arg0)))) ![1, 2, 0, 0, 0, 0, 0] slices_S2x4x8x344x2x8x128_S1x1x8x344x2x8x128_1_2_0_0_0_0_0 20#32))
      (nibbles (arranged (codes (m ((c.tc : Thread nD τ).loc main_arg0)))) ![1, 3, 0, 0, 0, 0, 0] slices_S2x4x8x344x2x8x128_S1x1x8x344x2x8x128_1_3_0_0_0_0_0 28#32) := rfl

/-- A word that joins eight codes of a step: the planes' bytes by half and byte of the word. -/
def join8 (B : Fin 3 → Fin 4 → BitVec 8) (f : Fin 4) : BitVec 32 :=
  let C (h : Fin 2) (b : Fin 4) := code3 (B 0 b) (B 1 b) (B 2 b) (BitVec.ofNat 32 (h.val * 4 + f.val))
  IntOp.ori (IntOp.ori (IntOp.ori (IntOp.ori (IntOp.ori (IntOp.ori (IntOp.ori
    (IntOp.shli .host (C 0 0) 0#32) (IntOp.shli .host (C 0 1) 8#32)) (IntOp.shli .host (C 0 2) 16#32)) (IntOp.shli .host (C 0 3) 24#32))
    (IntOp.shli .host (C 1 0) 4#32)) (IntOp.shli .host (C 1 1) 12#32)) (IntOp.shli .host (C 1 2) 20#32)) (IntOp.shli .host (C 1 3) 28#32)

/-- The bytes that a word's codes are taken from. -/
def bytesOf (q : IVec S3x512x11008 8) (n : Fin 8) (u : Fin 344) (e : Fin 2) (r : Fin 8) (l : Fin 128) (p : Fin 3) (b : Fin 4) : BitVec 8 :=
  q (ix3 p ⟨l.val * 4 + n.val % 2 * 2 + e.val, by omega⟩ ⟨u.val * 32 + b.val % 2 * 16 + (r.val * 2 + b.val / 2), by omega⟩)

/-- A word of the reference's first result. -/
theorem words_at (c : Dev nD) (n : Fin 8) (u : Fin 344) (e : Fin 2) (r : Fin 8) (l : Fin 128) :
    Cert.PrepReferenceIdeal.Value.res_main_v77 m c (ix5 n u e r l) = join8 (bytesOf (m ((c.tc : Thread nD τ).loc main_arg0)) n u e r l) ⟨n.val / 2, by omega⟩ := by
  rw [words_eq]
  have key (h : Fin 2) (b : Fin 4) (hs : S2x4x8x344x2x8x128.Slices ![h.val, b.val, 0, 0, 0, 0, 0] S1x1x8x344x2x8x128) (s : BitVec 32) :=
    (nibbles_at (arranged (codes (m ((c.tc : Thread nD τ).loc main_arg0)))) h b hs s n u e r l).trans
      (congrArg (IntOp.shli .host · s) ((arranged_at _ h b n u e r l).trans (codes_at _ _ _ _)))
  have join (a b a' b' : BitVec 32) (ha : a = a') (hb : b = b') : IntOp.ori a b = IntOp.ori a' b' := by rw [ha, hb]
  exact join _ _ _ _ (join _ _ _ _ (join _ _ _ _ (join _ _ _ _ (join _ _ _ _ (join _ _ _ _ (join _ _ _ _ (key 0 0 _ _) (key 0 1 _ _)) (key 0 2 _ _)) (key 0 3 _ _))
    (key 1 0 _ _)) (key 1 1 _ _)) (key 1 2 _ _)) (key 1 3 _ _)

/-- The reference's second result: x with its columns in the order of the codes. -/
def reordered (x : FVec Ideal S256x11008 .bf16) : FVec Ideal S256x11008 .bf16 :=
  shapeCast S256x11008 (transpose S256x344x16x2 [0, 1, 3, 2] (shapeCast S256x344x2x16 x shapeCasts_S256x11008_S256x344x2x16) transposes_S256x344x2x16_S256x344x16x2_0_1_3_2) shapeCasts_S256x344x16x2_S256x11008

/-- The reference's second result, element by element: column 32 u + 2 i + b is column 32 u + 16 b + i of x. -/
theorem x_at (x : FVec Ideal S256x11008 .bf16) (a : Fin 256) (k : Fin 11008) :
    reordered x (ix2 a k) = x (ix2 a ⟨k.val / 32 * 32 + k.val % 2 * 16 + k.val / 2 % 16, by omega⟩) := by
  pointwise [reordered]

end Cert.PrepReferenceIdeal.Body

end
-- ==== Proof.PrepBits.lean ====
/-
  The bits of the words that the preparation makes: four words of four bytes transposed to words of one byte each, and three
  planes' words merged into a word of eight 3-bit codes.
-/
module

public import proofs.«01_k».proof.Proof.PrepRefValue
public import Mathlib.Tactic.IntervalCases
public import Mathlib.Tactic.FinCases

@[expose] public section

set_option maxRecDepth 16384

noncomputable section

namespace Cert.PrepBits

open Idealize.ShloMosaic Cert.PrepReferenceIdeal.Body

/-- A word of four bytes, byte 0 the lowest. -/
def word4 (y : Fin 4 → BitVec 8) : BitVec 32 := y 3 ++ y 2 ++ y 1 ++ y 0

/-- A bit of a word of four bytes. -/
theorem word4_getLsbD (y : Fin 4 → BitVec 8) (i : ℕ) (hi : i < 32) : (word4 y).getLsbD i = (y ⟨i / 8, by omega⟩).getLsbD (i % 8) := by
  unfold word4
  interval_cases i <;> (simp only [BitVec.getLsbD_append]; rfl)

/-- The same by element access. -/
theorem word4_getElem (y : Fin 4 → BitVec 8) (i : ℕ) (hi : i < 32) : (word4 y)[i] = (y ⟨i / 8, by omega⟩)[i % 8] := by
  have h := word4_getLsbD y i hi
  rw [BitVec.getLsbD_eq_getElem hi, BitVec.getLsbD_eq_getElem (by omega)] at h
  exact h

/-- The low and the high halves of two words, joined. -/
def lowPair (a c : BitVec 32) : BitVec 32 := IntOp.ori (IntOp.andi a 65535#32) (IntOp.shli .vector c 16#32)
def highPair (a c : BitVec 32) : BitVec 32 := IntOp.ori (IntOp.shrui .vector a 16#32) (IntOp.andi c (Scalar.xori 65535#32 4294967295#32))

/-- The even and the odd bytes of two words, joined. -/
def evenBytes (p q : BitVec 32) : BitVec 32 :=
  IntOp.ori (IntOp.andi p 16711935#32) (IntOp.shli .vector (IntOp.andi q 16711935#32) 8#32)
def oddBytes (p q : BitVec 32) : BitVec 32 :=
  IntOp.ori (IntOp.andi (IntOp.shrui .vector p 8#32) 16711935#32) (IntOp.andi q (Scalar.xori 16711935#32 4294967295#32))

/-- Byte j of each of four words, joined. -/
def byteOf (j : Fin 4) (a b c d : BitVec 32) : BitVec 32 :=
  match j with
  | 0 => evenBytes (lowPair a c) (lowPair b d)
  | 1 => oddBytes (lowPair a c) (lowPair b d)
  | 2 => evenBytes (highPair a c) (highPair b d)
  | 3 => oddBytes (highPair a c) (highPair b d)

/-- The even and the odd bits of two planes, side by side. -/
def evenBits (p0 p1 : BitVec 32) : BitVec 32 :=
  IntOp.ori (IntOp.andi p0 1431655765#32) (IntOp.shli .vector (IntOp.andi p1 1431655765#32) 1#32)
def oddBits (p0 p1 : BitVec 32) : BitVec 32 :=
  IntOp.ori (IntOp.andi (IntOp.shrui .vector p0 1#32) 1431655765#32) (IntOp.andi p1 2863311530#32)

/-- Three planes merged: the codes of fields k and k + 4 of four columns. -/
def merged (k : Fin 4) (p0 p1 p2 : BitVec 32) : BitVec 32 :=
  match k with
  | 0 => IntOp.ori (IntOp.andi (evenBits p0 p1) 858993459#32) (IntOp.andi (IntOp.shli .vector p2 2#32) 1145324612#32)
  | 1 => IntOp.ori (IntOp.andi (oddBits p0 p1) 858993459#32) (IntOp.andi (IntOp.shli .vector p2 1#32) 1145324612#32)
  | 2 => IntOp.ori (IntOp.andi (IntOp.shrui .vector (evenBits p0 p1) 2#32) 858993459#32) (IntOp.andi p2 1145324612#32)
  | 3 => IntOp.ori (IntOp.andi (IntOp.shrui .vector (oddBits p0 p1) 2#32) 858993459#32) (IntOp.andi (IntOp.shrui .vector p2 1#32) 1145324612#32)

theorem shl_at (x : BitVec 32) (n : Fin 32) : IntOp.shli .vector x (BitVec.ofNat 32 n.val) = x <<< n.val := by
  revert n; simp only [IntOp.shli]; intro n
  have h : (BitVec.ofNat 32 n.val).toNat = n.val := by simp; omega
  rw [h, if_pos n.isLt, BitVec.shiftLeft_eq', h]

theorem shr_at (x : BitVec 32) (n : Fin 32) : IntOp.shrui .vector x (BitVec.ofNat 32 n.val) = x >>> n.val := by
  simp only [IntOp.shrui]
  have h : (BitVec.ofNat 32 n.val).toNat = n.val := by simp; omega
  rw [h, if_pos n.isLt, BitVec.ushiftRight_eq', h]

theorem hshl_at (x : BitVec 32) (n : Fin 32) : IntOp.shli .host x (BitVec.ofNat 32 n.val) = x <<< n.val := shl_at x n

/-- Byte j of each of four words of four bytes. -/
theorem byteOf_word4 (j : Fin 4) (A : Fin 4 → Fin 4 → BitVec 8) :
    byteOf j (word4 (A 0)) (word4 (A 1)) (word4 (A 2)) (word4 (A 3)) = word4 fun b => A b j := by
  apply BitVec.eq_of_getLsbD_eq
  intro i hi
  have e16l (x : BitVec 32) : IntOp.shli .vector x 16#32 = x <<< 16 := shl_at x 16
  have e8l (x : BitVec 32) : IntOp.shli .vector x 8#32 = x <<< 8 := shl_at x 8
  have e16r (x : BitVec 32) : IntOp.shrui .vector x 16#32 = x >>> 16 := shr_at x 16
  have e8r (x : BitVec 32) : IntOp.shrui .vector x 8#32 = x >>> 8 := shr_at x 8
  have n16 : Scalar.xori 65535#32 4294967295#32 = 4294901760#32 := rfl
  have n8 : Scalar.xori 16711935#32 4294967295#32 = 4278255360#32 := rfl
  rw [word4_getLsbD _ i hi]
  fin_cases j <;>
  · simp only [byteOf, evenBytes, oddBytes, lowPair, highPair, IntOp.ori, IntOp.andi, e16l, e8l, e16r, e8r, n16, n8,
      BitVec.getLsbD_or, BitVec.getLsbD_and, BitVec.getLsbD_shiftLeft, BitVec.getLsbD_ushiftRight]
    interval_cases i <;> simp [word4_getElem] <;> rfl

/-- The bit of a field, as a word. -/
theorem field_getLsbD (b : BitVec 8) (f : Fin 8) (i : ℕ) :
    (IntOp.andi (IntOp.shrsi .host (b.setWidth 32) (BitVec.ofNat 32 f.val)) 1#32).getLsbD i = (decide (i = 0) && b.getLsbD f.val) := by
  have h : IntOp.shrsi .host (b.setWidth 32) (BitVec.ofNat 32 f.val) = (b.setWidth 32).sshiftRight f.val := by
    have h : (BitVec.ofNat 32 f.val).toNat = f.val := by simp; omega
    simp only [IntOp.shrsi]
    rw [h, if_pos (by omega), BitVec.sshiftRight_eq', h]
  rw [h]
  show (_ &&& 1#32).getLsbD i = _
  rw [BitVec.getLsbD_and, BitVec.getLsbD_one]
  by_cases hi : i = 0
  · subst hi
    rw [BitVec.getLsbD_sshiftRight]
    simp [show f.val < 32 by omega]
  · simp [hi]

/-- A bit of a code. -/
theorem code3_getLsbD (b0 b1 b2 : BitVec 8) (f : Fin 8) (i : ℕ) (hi : i < 32) :
    (code3 b0 b1 b2 (BitVec.ofNat 32 f.val)).getLsbD i
      = (decide (i = 0) && b0.getLsbD f.val || decide (i = 1) && b1.getLsbD f.val || decide (i = 2) && b2.getLsbD f.val) := by
  have e0 (x : BitVec 32) : IntOp.shli .host x 0#32 = x <<< 0 := hshl_at x 0
  have e1 (x : BitVec 32) : IntOp.shli .host x 1#32 = x <<< 1 := hshl_at x 1
  have e2 (x : BitVec 32) : IntOp.shli .host x 2#32 = x <<< 2 := hshl_at x 2
  unfold code3
  rw [e0, e1, e2]
  show (_ ||| _ ||| _ : BitVec 32).getLsbD i = _
  rw [BitVec.getLsbD_or, BitVec.getLsbD_or, BitVec.getLsbD_shiftLeft, BitVec.getLsbD_shiftLeft, BitVec.getLsbD_shiftLeft,
    field_getLsbD, field_getLsbD, field_getLsbD]
  interval_cases i <;> simp

/-- Three merged planes' words are the eight codes joined. -/
theorem merged_word4 (k : Fin 4) (B : Fin 3 → Fin 4 → BitVec 8) :
    merged k (word4 (B 0)) (word4 (B 1)) (word4 (B 2)) = join8 B k := by
  apply BitVec.eq_of_getLsbD_eq
  intro i hi
  have e1l (x : BitVec 32) : IntOp.shli .vector x 1#32 = x <<< 1 := shl_at x 1
  have e2l (x : BitVec 32) : IntOp.shli .vector x 2#32 = x <<< 2 := shl_at x 2
  have e1r (x : BitVec 32) : IntOp.shrui .vector x 1#32 = x >>> 1 := shr_at x 1
  have e2r (x : BitVec 32) : IntOp.shrui .vector x 2#32 = x >>> 2 := shr_at x 2
  have h0 (x : BitVec 32) : IntOp.shli .host x 0#32 = x <<< 0 := hshl_at x 0
  have h4 (x : BitVec 32) : IntOp.shli .host x 4#32 = x <<< 4 := hshl_at x 4
  have h8 (x : BitVec 32) : IntOp.shli .host x 8#32 = x <<< 8 := hshl_at x 8
  have h12 (x : BitVec 32) : IntOp.shli .host x 12#32 = x <<< 12 := hshl_at x 12
  have h16 (x : BitVec 32) : IntOp.shli .host x 16#32 = x <<< 16 := hshl_at x 16
  have h20 (x : BitVec 32) : IntOp.shli .host x 20#32 = x <<< 20 := hshl_at x 20
  have h24 (x : BitVec 32) : IntOp.shli .host x 24#32 = x <<< 24 := hshl_at x 24
  have h28 (x : BitVec 32) : IntOp.shli .host x 28#32 = x <<< 28 := hshl_at x 28
  -- a shifted code holds the code's three bits at its place
  have hc (b0 b1 b2 : BitVec 8) (h : Fin 2) (s : ℕ) :
      (code3 b0 b1 b2 (BitVec.ofNat 32 (h.val * 4 + k.val)) <<< s).getLsbD i
        = (!decide (i < s) && (decide (i - s = 0) && b0.getLsbD (h.val * 4 + k.val) || decide (i - s = 1) && b1.getLsbD (h.val * 4 + k.val)
            || decide (i - s = 2) && b2.getLsbD (h.val * 4 + k.val))) := by
    rw [BitVec.getLsbD_shiftLeft, code3_getLsbD b0 b1 b2 ⟨h.val * 4 + k.val, by omega⟩ (i - s) (by omega)]
    simp [hi]
  have hj : (join8 B k).getLsbD i = (join8 B k).getLsbD i := rfl
  conv_rhs at hj =>
    simp only [join8, h0, h4, h8, h12, h16, h20, h24, h28, IntOp.ori, BitVec.getLsbD_or, hc]
  rw [hj]
  clear hj hc
  fin_cases k <;>
  · simp only [merged, evenBits, oddBits, IntOp.ori, IntOp.andi, e1l, e2l, e1r, e2r,
      BitVec.getLsbD_or, BitVec.getLsbD_and, BitVec.getLsbD_shiftLeft, BitVec.getLsbD_ushiftRight]
    interval_cases i <;> simp [word4_getElem] <;> rfl

end Cert.PrepBits

end
-- ==== Proof.PrepPieces.lean ====
/-
  What the preparation's body stores at a grid point, as one expression for every piece: the planes' transposed words, and the
  words of codes over them.
-/
module

public import proofs.«01_k».proof.Proof.Gen.PrepIdeal.Frame
public import proofs.«01_k».proof.Proof.PrepBits
public import Idealize.ShloMosaic.PureOps.Ideal

@[expose] public section

set_option maxRecDepth 16384

noncomputable section

namespace Cert.PrepIdeal.Body

open Cert.PrepIdeal Cert.PrepIdeal.Gen Cert.PrepBits
open Idealize.ShloMosaic Idealize.ShloMosaic.TcCoe Idealize.ShloMosaic.Tactic
open Idealize.SL Idealize.SL.Sem

section
variable (c : Dev nD) (arg1 : Memref sig .tc .vmem S3x512x256 .i8) (harg1 : arg1.IsWhole) (arg5 : Memref sig .tc .vmem S3x256x128 .i32)
  (x0 : Vec Ideal S3x512x256 .i8)

/-- Half a plane's columns, as words of four rows, transposed. -/
def turned (v : Vec Ideal S1x512x128 .i8) : IVec S1x128x128 32 :=
  shapeCast S1x128x128 (transpose S128x128 [1, 0] (bitcast S128x128 32 (shapeCast S512x128 v shapeCasts_S1x512x128_S512x128) bitcasts_S512x128_w8_S128x128_w32) transposes_S128x128_p1_0_S128x128) shapeCasts_S128x128_S1x128x128

/-- The transposed words' piece of plane `p` and half `o`. -/
def turnedPiece (p : Fin 3) (o : Fin 2) : View.Piece (Elt Ideal) S3x256x128 .i32 :=
  ⟨Rect.unit ![p.val, 128 * o.val, 0] S1x128x128.size (by intro a; fin_cases a <;> simp [S3x256x128, S1x128x128] <;> omega),
    turned (View.readAt (Elt Ideal) arg1.view (Rect.unit (s := S3x512x256) ![p.val, 0, 128 * o.val] S1x512x128.size
      (by intro a; fin_cases a <;> simp [S3x512x256, S1x512x128] <;> omega)).toLoadRect (harg1.unread x0))⟩

/-- The six pieces of the scratch. -/
def turnedPieces : List (View.Piece (Elt Ideal) S3x256x128 .i32) :=
  [(2, 1), (2, 0), (1, 1), (1, 0), (0, 1), (0, 0)].map fun q : Fin 3 × Fin 2 => turnedPiece arg1 harg1 x0 q.1 q.2

/-- The scratch that the body leaves is these pieces. -/
theorem scratch_pieces : kernelRun0_A.sl.HS0_6 c arg1 harg1 x0 = turnedPieces arg1 harg1 x0 := by sl_kernel_rfl

/-- Eight rows of a plane's words, every second one from row `k`. -/
def rows (p : Fin 3) (k : Fin 242) : IVec S8x128 32 :=
  shapeCast S8x128 (arg5.view.readCov (turnedPieces arg1 harg1 x0)
    (⟨![p.val, k.val, 0], S1x8x128.size, ![1, 2, 1], by intro a; fin_cases a <;> simp [S3x256x128, S1x8x128] <;> omega⟩ : LoadRect S3x256x128)) shapeCasts_S1x8x128_S8x128

/-- Byte `j` of the words of a unit's columns. -/
def planeWords (p : Fin 3) (u : Fin 8) (j : Fin 4) : IVec S8x128 32 := fun x =>
  byteOf j (rows arg1 harg1 arg5 x0 p ⟨32 * u.val, by omega⟩ x) (rows arg1 harg1 arg5 x0 p ⟨32 * u.val + 16, by omega⟩ x)
    (rows arg1 harg1 arg5 x0 p ⟨32 * u.val + 1, by omega⟩ x) (rows arg1 harg1 arg5 x0 p ⟨32 * u.val + 17, by omega⟩ x)

/-- The words of codes of unit `u`, row `j` of four and field `k`. -/
def codeWords (u : Fin 8) (j k : Fin 4) : IVec S8x128 32 := fun x =>
  merged k (planeWords arg1 harg1 arg5 x0 0 u j x) (planeWords arg1 harg1 arg5 x0 1 u j x) (planeWords arg1 harg1 arg5 x0 2 u j x)

/-- Their piece of the first result's block. -/
def codePiece (u : Fin 8) (j k : Fin 4) : View.Piece (Elt Ideal) S8x8x2x8x128 .i32 :=
  ⟨Rect.unit ![2 * k.val + j.val / 2, u.val, j.val % 2, 0, 0] S1x1x1x8x128.size (by intro a; fin_cases a <;> simp [S8x8x2x8x128, S1x1x1x8x128] <;> omega),
    shapeCast S1x1x1x8x128 (codeWords arg1 harg1 arg5 x0 u j k) shapeCasts_S8x128_S1x1x1x8x128⟩

/-- The 128 pieces of the first result's block. -/
def codePieces : List (View.Piece (Elt Ideal) S8x8x2x8x128 .i32) :=
  [7, 6, 5, 4, 3, 2, 1, 0].flatMap fun u : Fin 8 => [3, 2, 1, 0].flatMap fun j : Fin 4 => [3, 2, 1, 0].map fun k : Fin 4 => codePiece arg1 harg1 arg5 x0 u j k

end

set_option maxHeartbeats 4000000 in
/-- The first result's block is these pieces. -/
theorem code_pieces (c : Dev nD) (i : grid0.Coords) (arg1 : Memref sig .tc .vmem S3x512x256 .i8) (harg1 : arg1.IsWhole) (arg2 : Memref sig .tc .vmem S256x256 .bf16) (harg2 : arg2.IsWhole) (arg3 : Memref sig .tc .vmem S8x8x2x8x128 .i32) (harg3 : arg3.IsWhole) (arg4 : Memref sig .tc .vmem S256x256 .bf16) (harg4 : arg4.IsWhole) (arg5 : Memref sig .tc .vmem S3x256x128 .i32) (harg5 : arg5.IsWhole)
    (x0 : Vec Ideal S3x512x256 .i8) (x1 : Vec Ideal S256x256 .bf16) :
    (kernelRun0_A c i arg1 harg1 arg2 harg2 arg3 harg3 arg4 harg4 arg5 harg5 x0 x1).1 = codePieces arg1 harg1 arg5 x0 := by sl_kernel_rfl

end Cert.PrepIdeal.Body

end
-- ==== Proof.PrepBlock.lean ====
/-
  What the preparation's body leaves at a grid point, element by element.
-/
module

public import proofs.«01_k».proof.Proof.PrepPieces
public import proofs.«01_k».proof.Proof.ZeroOne
public import Idealize.ShloMosaic.Lib.Pointwise
public import Idealize.ShloMosaic.Lib.BitcastFour
public import Idealize.ShloMosaic.Lib.Pipeline.Value

@[expose] public section

set_option maxRecDepth 16384

noncomputable section

namespace Cert.PrepIdeal.Body

open Cert.PrepIdeal Cert.PrepIdeal.Gen Cert.PrepBits
open Idealize.ShloMosaic Idealize.ShloMosaic.TcCoe Idealize.ShloMosaic.Tactic
open Idealize.SL Idealize.SL.Sem

/-- A word of the turned columns is four bytes of one column. -/
theorem turned_at (v : Vec Ideal S1x512x128 .i8) (z : Fin 1) (k l : Fin 128) :
    turned v (ix3 z k l) = word4 fun j => (v : S1x512x128.Idx → BitVec 8) (ix3 0 ⟨4 * l.val + j.val, by omega⟩ k) := by
  pointwise [turned]
  refine BitVec.eq_of_getLsbD_eq fun i hi => ?_
  rw [word4_getLsbD _ i hi]
  refine (bitcast_8_32_getLsbD_ix2 _ bitcasts_S512x128_w8_S128x128_w32 l k i hi ⟨4 * l.val + i / 8, by omega⟩ rfl).trans ?_
  pointwise

section
variable (arg1 : Memref sig .tc .vmem S3x512x256 .i8) (harg1 : arg1.IsWhole) (arg5 : Memref sig .tc .vmem S3x256x128 .i32)
  (x0 : Vec Ideal S3x512x256 .i8)

/-- The turned planes. -/
def turnedPlanes : S3x256x128.Idx → BitVec 32 := fun y =>
  word4 fun j => (x0 : S3x512x256.Idx → BitVec 8) (ix3 (y 0) ⟨4 * (y 2).val + j.val, by have : (y 2).val < 128 := (y 2).isLt; omega⟩ (y 1))

/-- Every piece of the scratch holds the turned planes. -/
theorem turnedPiece_at (p : Fin 3) (o : Fin 2) (x : (turnedPiece arg1 harg1 x0 p o).1.shape.Idx) :
    (turnedPiece arg1 harg1 x0 p o).2 x = turnedPlanes x0 ((turnedPiece arg1 harg1 x0 p o).1.emb x) := by
  obtain ⟨z, k, l, rfl⟩ : ∃ (z : Fin 1) (k l : Fin 128), x = (ix3 z k l : S1x128x128.Idx) := ⟨x 0, x 1, x 2, by funext a; fin_cases a <;> rfl⟩
  refine (turned_at _ z k l).trans (congrArg word4 (funext fun j => ?_))
  rw [View.readAt_apply, harg1.read_unread]
  refine congrArg x0 (funext fun a => Fin.ext ?_)
  fin_cases a
  · show p.val + 1 * 0 = p.val + 1 * z.val; omega
  · show 0 + 1 * (4 * l.val + j.val) = 4 * (0 + 1 * l.val) + j.val; omega
  · show 128 * o.val + 1 * k.val = 128 * o.val + 1 * k.val; rfl

/-- A word of eight rows read back. -/
theorem rows_at (p : Fin 3) (k : Fin 242) (r : Fin 8) (l : Fin 128) :
    rows arg1 harg1 arg5 x0 p k (ix2 r l) = word4 fun j => (x0 : S3x512x256.Idx → BitVec 8) (ix3 p ⟨4 * l.val + j.val, by omega⟩ ⟨k.val + 2 * r.val, by omega⟩) := by
  have h1 (w : IVec S1x8x128 32) : shapeCast S8x128 w shapeCasts_S1x8x128_S8x128 (ix2 r l) = w (ix3 0 r l) := by pointwise
  refine (h1 _).trans ?_
  rw [View.readCov_eq_canon']
  refine (View.canon_apply_of_pieces (turnedPlanes x0) _ ?_ _ ?_).trans ?_
  · intro q hq
    obtain ⟨⟨p', o⟩, -, rfl⟩ := List.mem_map.mp hq
    exact turnedPiece_at arg1 harg1 x0 p' o
  · refine ⟨turnedPiece arg1 harg1 x0 p ⟨(k.val + 2 * r.val) / 128, by omega⟩, List.mem_map.mpr ⟨(p, ⟨(k.val + 2 * r.val) / 128, by omega⟩), ?_, rfl⟩, ?_⟩
    · have : ∀ (p : Fin 3) (o : Fin 2), (p, o) ∈ [((2 : Fin 3), (1 : Fin 2)), (2, 0), (1, 1), (1, 0), (0, 1), (0, 0)] := by decide
      exact this _ _
    · unfold turnedPiece
      rw [Rect.mem_set_unit]
      intro a
      fin_cases a
      · show p.val ≤ p.val + 1 * 0 ∧ p.val + 1 * 0 < p.val + 1; omega
      · show 128 * ((k.val + 2 * r.val) / 128) ≤ k.val + 2 * r.val ∧ k.val + 2 * r.val < 128 * ((k.val + 2 * r.val) / 128) + 128; omega
      · show 0 ≤ 0 + 1 * l.val ∧ 0 + 1 * l.val < 0 + 128; omega
  · refine congrArg word4 (funext fun j => congrArg x0 (funext fun a => Fin.ext ?_))
    fin_cases a
    · show p.val + 1 * 0 = p.val; omega
    · show 4 * (0 + 1 * l.val) + j.val = 4 * l.val + j.val; omega
    · show k.val + 2 * r.val = k.val + 2 * r.val; rfl

/-- The bytes that the codes of a word of a block are taken from. -/
def blockBytes (n : Fin 8) (u : Fin 8) (e : Fin 2) (r : Fin 8) (l : Fin 128) (p : Fin 3) (b : Fin 4) : BitVec 8 :=
  (x0 : S3x512x256.Idx → BitVec 8) (ix3 p ⟨l.val * 4 + n.val % 2 * 2 + e.val, by omega⟩ ⟨u.val * 32 + b.val % 2 * 16 + (r.val * 2 + b.val / 2), by omega⟩)

/-- One byte of the words of a unit's columns. -/
theorem planeWords_at (p : Fin 3) (u : Fin 8) (j : Fin 4) (r : Fin 8) (l : Fin 128) :
    planeWords arg1 harg1 arg5 x0 p u j (ix2 r l) = word4 fun b => (x0 : S3x512x256.Idx → BitVec 8) (ix3 p ⟨4 * l.val + j.val, by omega⟩ ⟨u.val * 32 + b.val % 2 * 16 + (r.val * 2 + b.val / 2), by omega⟩) := by
  unfold planeWords
  simp only [rows_at]
  refine Eq.trans ?_ (byteOf_word4 j fun b j => (x0 : S3x512x256.Idx → BitVec 8) (ix3 p ⟨4 * l.val + j.val, by omega⟩ ⟨u.val * 32 + b.val % 2 * 16 + (r.val * 2 + b.val / 2), by omega⟩))
  congr 1 <;> (congr 1; funext j'; refine congrArg x0 (congrArg (ix3 p ⟨4 * l.val + j'.val, by omega⟩) (Fin.ext ?_)))
  · show 32 * u.val + 2 * r.val = u.val * 32 + 0 % 2 * 16 + (r.val * 2 + 0 / 2); omega
  · show 32 * u.val + 16 + 2 * r.val = u.val * 32 + 1 % 2 * 16 + (r.val * 2 + 1 / 2); omega
  · show 32 * u.val + 1 + 2 * r.val = u.val * 32 + 2 % 2 * 16 + (r.val * 2 + 2 / 2); omega
  · show 32 * u.val + 17 + 2 * r.val = u.val * 32 + 3 % 2 * 16 + (r.val * 2 + 3 / 2); omega

/-- The words of a block. -/
def blockWords : S8x8x2x8x128.Idx → BitVec 32 := fun y =>
  Cert.PrepReferenceIdeal.Body.join8 (blockBytes x0 (y 0) (y 1) (y 2) (y 3) (y 4)) ⟨(y 0).val / 2, by have : (y 0).val < 8 := (y 0).isLt; omega⟩

/-- A word of codes of a piece. -/
theorem codeWords_at (u : Fin 8) (j k : Fin 4) (r : Fin 8) (l : Fin 128) :
    codeWords arg1 harg1 arg5 x0 u j k (ix2 r l) = Cert.PrepReferenceIdeal.Body.join8 (blockBytes x0 ⟨2 * k.val + j.val / 2, by omega⟩ u ⟨j.val % 2, by omega⟩ r l) k := by
  unfold codeWords
  simp only [planeWords_at]
  refine Eq.trans ?_ (merged_word4 k _)
  have e (p : Fin 3) : (word4 fun b => (x0 : S3x512x256.Idx → BitVec 8) (ix3 p ⟨4 * l.val + j.val, by omega⟩ ⟨u.val * 32 + b.val % 2 * 16 + (r.val * 2 + b.val / 2), by omega⟩))
      = word4 (blockBytes x0 ⟨2 * k.val + j.val / 2, by omega⟩ u ⟨j.val % 2, by omega⟩ r l p) := by
    refine congrArg word4 (funext fun b => congrArg x0 (congrArg (ix3 p · _) (Fin.ext ?_)))
    show 4 * l.val + j.val = l.val * 4 + (2 * k.val + j.val / 2) % 2 * 2 + j.val % 2
    omega
  rw [e 0, e 1, e 2]

/-- Every piece of the first result's block holds the block's words. -/
theorem codePiece_at (u : Fin 8) (j k : Fin 4) (x : (codePiece arg1 harg1 arg5 x0 u j k).1.shape.Idx) :
    (codePiece arg1 harg1 arg5 x0 u j k).2 x = blockWords x0 ((codePiece arg1 harg1 arg5 x0 u j k).1.emb x) := by
  obtain ⟨a, b, d, r, l, rfl⟩ : ∃ (a b d : Fin 1) (r : Fin 8) (l : Fin 128), x = (ix5 a b d r l : S1x1x1x8x128.Idx) :=
    ⟨x 0, x 1, x 2, x 3, x 4, by funext a; fin_cases a <;> rfl⟩
  have h1 : (codePiece arg1 harg1 arg5 x0 u j k).2 (ix5 a b d r l : S1x1x1x8x128.Idx) = codeWords arg1 harg1 arg5 x0 u j k (ix2 r l) := by
    show shapeCast S1x1x1x8x128 (codeWords arg1 harg1 arg5 x0 u j k) shapeCasts_S8x128_S1x1x1x8x128 (ix5 a b d r l) = _
    generalize codeWords arg1 harg1 arg5 x0 u j k = w
    pointwise
  rw [h1, codeWords_at]
  have h2 : ((codePiece arg1 harg1 arg5 x0 u j k).1.emb (ix5 a b d r l : S1x1x1x8x128.Idx) : S8x8x2x8x128.Idx) = ix5 ⟨2 * k.val + j.val / 2, by omega⟩ u ⟨j.val % 2, by omega⟩ r l := by
    funext i; refine Fin.ext ?_
    fin_cases i
    · show 2 * k.val + j.val / 2 + 1 * a.val = 2 * k.val + j.val / 2; omega
    · show u.val + 1 * b.val = u.val; omega
    · show j.val % 2 + 1 * d.val = j.val % 2; omega
    · show 0 + 1 * r.val = r.val; omega
    · show 0 + 1 * l.val = l.val; omega
  rw [h2]
  show _ = Cert.PrepReferenceIdeal.Body.join8 (blockBytes x0 ⟨2 * k.val + j.val / 2, by omega⟩ u ⟨j.val % 2, by omega⟩ r l) ⟨(2 * k.val + j.val / 2) / 2, by omega⟩
  congr 1
  exact Fin.ext (by show k.val = (2 * k.val + j.val / 2) / 2; omega)

end

section
variable (c : Dev nD) (i : grid0.Coords) (arg1 : Memref sig .tc .vmem S3x512x256 .i8) (harg1 : arg1.IsWhole) (arg2 : Memref sig .tc .vmem S256x256 .bf16) (harg2 : arg2.IsWhole) (arg3 : Memref sig .tc .vmem S8x8x2x8x128 .i32) (harg3 : arg3.IsWhole) (arg4 : Memref sig .tc .vmem S256x256 .bf16) (harg4 : arg4.IsWhole) (arg5 : Memref sig .tc .vmem S3x256x128 .i32) (harg5 : arg5.IsWhole)
  (x0 : Vec Ideal S3x512x256 .i8) (x1 : Vec Ideal S256x256 .bf16)

/-- The first result's block at a point. -/
theorem words_block (y : S8x8x2x8x128.Idx) :
    (out0_A_2 c i arg1 harg1 arg2 harg2 arg3 harg3 arg4 harg4 arg5 harg5 x0 x1 : S8x8x2x8x128.Idx → BitVec 32) y = blockWords x0 y := by
  have hc := cover0_A_2 c i arg1 harg1 arg2 harg2 arg3 harg3 arg4 harg4 arg5 harg5 x0 x1 y
  unfold out0_A_2
  rw [code_pieces] at hc ⊢
  refine View.read_writes_apply_of_pieces VO0_2 _ (blockWords x0) _ ?_ y hc
  intro q hq
  obtain ⟨u, -, hq⟩ := List.mem_flatMap.mp hq
  obtain ⟨j, -, hq⟩ := List.mem_flatMap.mp hq
  obtain ⟨k, -, rfl⟩ := List.mem_map.mp hq
  exact codePiece_at arg1 harg1 arg5 x0 u j k

/-- The column that column `k` of the reordering matrix selects, as the body computes it. -/
theorem column_word : ∀ k : Fin 256, IntOp.addi (IntOp.addi (IntOp.andi (BitVec.ofNat 32 k.val) 4294967264#32) (IntOp.muli (IntOp.andi (BitVec.ofNat 32 k.val) 1#32) 16#32))
      (IntOp.shrsi ArithUnit.vector (IntOp.andi (BitVec.ofNat 32 k.val) 31#32) 1#32)
    = BitVec.ofNat 32 (k.val / 32 * 32 + k.val % 2 * 16 + k.val / 2 % 16) := by decide +kernel

/-- The reordering matrix: a one where the row is the one its column selects, zero elsewhere. -/
theorem pay667_at (r k : Fin 256) :
    k0_pay667 (F := Ideal) (ix2 r k) = if r.val = k.val / 32 * 32 + k.val % 2 * 16 + k.val / 2 % 16 then 1 else 0 := by
  pointwise [k0_pay667]
  rw [column_word]
  exact Cert.ZeroOne.entry _ _ (by omega) (by omega)

/-- The reordered columns of x. -/
theorem columns_at (x : Vec Ideal S256x256 .bf16) (a k : Fin 256) :
    k0_pay1 (F := Ideal) k0_pay667 x (ix2 a k) = (x : S256x256.Idx → EReal) (ix2 a ⟨k.val / 32 * 32 + k.val % 2 * 16 + k.val / 2 % 16, by omega⟩) := by
  generalize hw : k0_pay667 (F := Ideal) = w
  pointwise [k0_pay1]
  subst hw
  refine (Finset.sum_congr rfl fun j _ => ?_).trans (Cert.ZeroOne.sum_single (fun j => (x : S256x256.Idx → EReal) (ix2 a j)) (k.val / 32 * 32 + k.val % 2 * 16 + k.val / 2 % 16) 0 (by omega))
  rw [pay667_at, Nat.zero_add]

/-- The second result's block at a point. -/
theorem columns_block (a k : Fin 256) :
    (out0_A_3 c i arg1 harg1 arg2 harg2 arg3 harg3 arg4 harg4 arg5 harg5 x0 x1 : S256x256.Idx → EReal) (ix2 a k)
      = (x1 : S256x256.Idx → EReal) (ix2 a ⟨k.val / 32 * 32 + k.val % 2 * 16 + k.val / 2 % 16, by omega⟩) := by
  have hc := cover0_A_3 c i arg1 harg1 arg2 harg2 arg3 harg3 arg4 harg4 arg5 harg5 x0 x1 (ix2 a k)
  have hp : (kernelRun0_A c i arg1 harg1 arg2 harg2 arg3 harg3 arg4 harg4 arg5 harg5 x0 x1).2.1
      = [⟨Rect.unit ![0, 0] ![256, 256] inb_S256x256_S256x256_0_0, k0_pay1 k0_pay667 (View.readAt (Elt Ideal) arg2.view (Rect.unit ![0, 0] ![256, 256] inb_S256x256_S256x256_0_0).toLoadRect (harg2.unread x1))⟩] := by
    sl_kernel_rfl
  have hx : View.readAt (Elt Ideal) arg2.view (Rect.unit ![0, 0] ![256, 256] inb_S256x256_S256x256_0_0).toLoadRect (harg2.unread x1) = x1 := by
    funext y
    rw [View.readAt_apply, harg2.read_unread]
    refine congrArg x1 (funext fun b => Fin.ext ?_)
    fin_cases b
    · show 0 + 1 * (y 0).val = (y 0).val; omega
    · show 0 + 1 * (y 1).val = (y 1).val; omega
  unfold out0_A_3
  rw [hp] at hc ⊢
  rw [hx]
  rw [hx] at hc
  refine (View.read_writes_apply_of_pieces VO0_3 _ (k0_pay1 (F := Ideal) k0_pay667 x1) _ ?_ (ix2 a k) hc).trans (columns_at x1 a k)
  intro q hq y
  obtain rfl := List.mem_singleton.mp hq
  refine congrArg (k0_pay1 (F := Ideal) k0_pay667 x1) (funext fun b => Fin.ext ?_)
  fin_cases b
  · show (y 0).val = 0 + 1 * (y 0).val; omega
  · show (y 1).val = 0 + 1 * (y 1).val; omega

end

end Cert.PrepIdeal.Body

end
-- ==== Proof.PrepValue.lean ====
/-
  The preparation's two results, element by element: the words of codes that the reference has, and x with its columns in
  the order of the codes.
-/
module

public import proofs.«01_k».proof.Proof.Gen.PrepIdeal.Value
public import proofs.«01_k».proof.Proof.PrepBlock
public import Idealize.ShloMosaic.Lib.Pipeline.ValueKit.Geometry

@[expose] public section

set_option maxRecDepth 16384

noncomputable section

namespace Cert.PrepIdeal.Body

open Cert.PrepIdeal Cert.PrepIdeal.Gen Cert.PrepReferenceIdeal.Body
open Idealize.ShloMosaic Idealize.ShloMosaic.TcCoe Idealize.ShloMosaic.Tactic
open Idealize.SL Idealize.SL.Sem

/-- The places of the blocks at a point. -/
theorem index_at : ∀ t : Fin cfg0.N, win0_0.index t = ![0, 0, t.val] ∧ win0_1.index t = ![0, t.val] ∧ win0_2.index t = ![0, t.val, 0, 0, 0] ∧ win0_3.index t = ![0, t.val] :=
  (by decide +kernel : ∀ t : Fin grid0.N, win0_0.index t = ![0, 0, t.val] ∧ win0_1.index t = ![0, t.val] ∧ win0_2.index t = ![0, t.val, 0, 0, 0] ∧ win0_3.index t = ![0, t.val])

variable (m : (ℓ : Loc nD τ sig) → Buf (Elt Ideal) ℓ)

/-- A point's number is below 43. -/
theorem pt_lt (t : Fin cfg0.N) : t.val < 43 := (N_0 ▸ t.isLt : t.val < 43)

/-- A point, from its number. -/
def pt (t : ℕ) (h : t < 43) : Fin cfg0.N := ⟨t, (N_0.symm ▸ h : t < grid0.N)⟩

/-- The block of the planes of a point. -/
theorem planes_at (c : Dev nD) (t : Fin cfg0.N) (p : Fin 3) (n : Fin 512) (k : Fin 256) :
    (iblk m c 0 t : S3x512x256.Idx → BitVec 8) (ix3 p n k) = (m ((c : Thread nD τ).loc main_arg0) : S3x512x11008.Idx → BitVec 8) (ix3 p n ⟨256 * t.val + k.val, by have := pt_lt t; omega⟩) := by
  obtain ⟨h0, h1, h2, h3⟩ := index_at t
  have := pt_lt t
  blk_ext [iblk, V, h0]

/-- The block of x of a point. -/
theorem x_block_at (c : Dev nD) (t : Fin cfg0.N) (a k : Fin 256) :
    (iblk m c 1 t : S256x256.Idx → EReal) (ix2 a k) = (m ((c : Thread nD τ).loc main_arg1) : S256x11008.Idx → EReal) (ix2 a ⟨256 * t.val + k.val, by have := pt_lt t; omega⟩) := by
  obtain ⟨h0, h1, h2, h3⟩ := index_at t
  have := pt_lt t
  blk_ext [iblk, V, h1]

/-- The first result after the run. -/
theorem final_words (c : Dev nD) (n : Fin 8) (u : Fin 344) (e : Fin 2) (r : Fin 8) (l : Fin 128) :
    ((dats m 0 c).arrAt 2 cfg0.N : S8x344x2x8x128.Idx → BitVec 32) (ix5 n u e r l)
      = join8 (bytesOf (m ((c : Thread nD τ).loc main_arg0)) n u e r l) ⟨n.val / 2, by omega⟩ := by
  have ht : u.val / 8 < 43 := by omega
  obtain ⟨h0, h1, h2, h3⟩ := index_at (pt (u.val / 8) ht)
  have hb := Cert.PrepIdeal.Value.blocks2 m c (pt (u.val / 8) ht) (flush0_2 _)
  rw [Cert.PrepIdeal.Value.flushed2_A] at hb
  have hb := congrFun hb (ix5 n ⟨u.val % 8, by omega⟩ e r l)
  have e3 : ((cfg0.win 2).blk (pt (u.val / 8) ht)).view.emb (ix5 n (⟨u.val % 8, by omega⟩ : Fin 8) e r l) = (ix5 n u e r l : S8x344x2x8x128.Idx) := by
    have hp : (pt (u.val / 8) ht).val = u.val / 8 := rfl
    blk_ext [h2]
  refine Eq.trans ?_ (hb.trans ((words_block c _ _ _ _ _ _ _ _ _ _ _ _ _ _).trans ?_))
  · show _ = (dats m 0 c).arrAt 2 cfg0.N (((cfg0.win 2).blk (pt (u.val / 8) ht)).view.emb (ix5 n (⟨u.val % 8, by omega⟩ : Fin 8) e r l))
    rw [e3]
  · show join8 (blockBytes (iblk m c 0 (pt (u.val / 8) ht)) n ⟨u.val % 8, by omega⟩ e r l) ⟨n.val / 2, by omega⟩ = _
    congr 1
    funext p b
    refine (planes_at m c _ _ _ _).trans (congrArg (m ((c : Thread nD τ).loc main_arg0) : S3x512x11008.Idx → BitVec 8) (congrArg (ix3 p _) (Fin.ext ?_)))
    show 256 * (u.val / 8) + (u.val % 8 * 32 + b.val % 2 * 16 + (r.val * 2 + b.val / 2)) = u.val * 32 + b.val % 2 * 16 + (r.val * 2 + b.val / 2)
    omega

/-- The second result after the run. -/
theorem final_columns (c : Dev nD) (a : Fin 256) (k : Fin 11008) :
    ((dats m 0 c).arrAt 3 cfg0.N : S256x11008.Idx → EReal) (ix2 a k)
      = (m ((c : Thread nD τ).loc main_arg1) : S256x11008.Idx → EReal) (ix2 a ⟨k.val / 32 * 32 + k.val % 2 * 16 + k.val / 2 % 16, by omega⟩) := by
  have ht : k.val / 256 < 43 := by omega
  obtain ⟨h0, h1, h2, h3⟩ := index_at (pt (k.val / 256) ht)
  have hb := Cert.PrepIdeal.Value.blocks3 m c (pt (k.val / 256) ht) (flush0_3 _)
  rw [Cert.PrepIdeal.Value.flushed3_A] at hb
  have hb := congrFun hb (ix2 a ⟨k.val % 256, by omega⟩)
  have e3 : ((cfg0.win 3).blk (pt (k.val / 256) ht)).view.emb (ix2 a (⟨k.val % 256, by omega⟩ : Fin 256)) = (ix2 a k : S256x11008.Idx) := by
    have hp : (pt (k.val / 256) ht).val = k.val / 256 := rfl
    blk_ext [h3]
  refine Eq.trans ?_ (hb.trans ((columns_block c _ _ _ _ _ _ _ _ _ _ _ _ _ _ _).trans ((x_block_at m c _ _ _).trans ?_)))
  · show _ = (dats m 0 c).arrAt 3 cfg0.N (((cfg0.win 3).blk (pt (k.val / 256) ht)).view.emb (ix2 a (⟨k.val % 256, by omega⟩ : Fin 256)))
    rw [e3]
  · refine congrArg (m ((c : Thread nD τ).loc main_arg1) : S256x11008.Idx → EReal) (congrArg (ix2 a) (Fin.ext ?_))
    show 256 * (k.val / 256) + (k.val % 256 / 32 * 32 + k.val % 256 % 2 * 16 + k.val % 256 / 2 % 16) = k.val / 32 * 32 + k.val % 2 * 16 + k.val / 2 % 16
    omega

/-- The first result in common. -/
def words (c : Dev nD) : S8x344x2x8x128.Idx → BitVec 32 := (dats m 0 c).arrAt 2 cfg0.N

/-- The second result in common. -/
def columns (c : Dev nD) : S256x11008.Idx → EReal := (dats m 0 c).arrAt 3 cfg0.N

/-- The reference's first result is the common one when the arguments agree. -/
theorem reference_words (m' : (ℓ : Loc Cert.PrepReferenceIdeal.nD Cert.PrepReferenceIdeal.τ Cert.PrepReferenceIdeal.sig) → Buf (Elt Ideal) ℓ) (c : Dev nD)
    (h : m' ((c.tc : Thread Cert.PrepReferenceIdeal.nD Cert.PrepReferenceIdeal.τ).loc Cert.PrepReferenceIdeal.main_arg0) = m ((c.tc : Thread nD τ).loc main_arg0)) :
    Cert.PrepReferenceIdeal.Value.res_main_v77 m' c = words m c := by
  funext (y : S8x344x2x8x128.Idx)
  obtain ⟨n, u, e, r, l, rfl⟩ : ∃ (n : Fin 8) (u : Fin 344) (e : Fin 2) (r : Fin 8) (l : Fin 128), y = ix5 n u e r l :=
    ⟨y 0, y 1, y 2, y 3, y 4, by funext a; fin_cases a <;> rfl⟩
  refine (words_at m' c n u e r l).trans ?_
  rw [h]
  exact (final_words m c n u e r l).symm

/-- x with its columns reordered, as the reference prints it, is the common second result. -/
theorem reference_columns (x : FVec Ideal Cert.PrepReferenceIdeal.S256x11008 .bf16) (c : Dev nD) (h : x = m ((c.tc : Thread nD τ).loc main_arg1)) :
    reordered x = columns m c := by
  funext (y : S256x11008.Idx)
  obtain ⟨a, k, rfl⟩ : ∃ (a : Fin 256) (k : Fin 11008), y = ix2 a k := ⟨y 0, y 1, by funext a; fin_cases a <;> rfl⟩
  refine (x_at x a k).trans ?_
  rw [h]
  exact (final_columns m c a k).symm

end Cert.PrepIdeal.Body

end
-- ==== Proof.ScalesPieces.lean ====
/-
  What the body of the first-level dequantization stores, as one expression for every piece: the transposed words of a plane, a
  row of scales or zeros for every lane, and the tiles of products.
-/
module

public import proofs.«01_k».proof.Proof.Gen.ScalesIdeal.Frame
public import proofs.«01_k».proof.Proof.PrepBits
public import Idealize.ShloMosaic.PureOps.Ideal

@[expose] public section

set_option maxRecDepth 16384

noncomputable section

namespace Cert.ScalesIdeal.Body

open Cert.ScalesIdeal Cert.ScalesIdeal.Gen Cert.PrepBits
open Idealize.ShloMosaic Idealize.ShloMosaic.TcCoe Idealize.ShloMosaic.Tactic
open Idealize.SL Idealize.SL.Sem

section
variable (arg : Memref sig .tc .vmem S3x512x688 .i8) (harg : arg.IsWhole) (x : Vec Ideal S3x512x688 .i8)

/-- 128 columns of a plane, as words of four rows, transposed. -/
def turned (v : Vec Ideal S1x512x128 .i8) : IVec S1x128x128 32 :=
  shapeCast S1x128x128 (transpose S128x128 [1, 0] (bitcast S128x128 32 (shapeCast S512x128 v shapeCasts_S1x512x128_S512x128) bitcasts_S512x128_w8_S128x128_w32) transposes_S128x128_p1_0_S128x128) shapeCasts_S128x128_S1x128x128

/-- The last 48 columns of a plane, as words of four rows, transposed. -/
def turnedLast (v : Vec Ideal S1x512x48 .i8) : IVec S1x48x128 32 :=
  shapeCast S1x48x128 (transpose S48x128 [1, 0] (bitcast S128x48 32 (shapeCast S512x48 v shapeCasts_S1x512x48_S512x48) bitcasts_S512x48_w8_S128x48_w32) transposes_S128x48_p1_0_S48x128) shapeCasts_S48x128_S1x48x128

/-- The transposed words' piece of plane `p` and columns `128 o` on. -/
def turnedPiece (p : Fin 3) (o : Fin 5) : View.Piece (Elt Ideal) S3x704x128 .i32 :=
  ⟨Rect.unit ![p.val, 128 * o.val, 0] S1x128x128.size (by intro a; fin_cases a <;> simp [S3x704x128, S1x128x128] <;> omega),
    turned (View.readAt (Elt Ideal) arg.view (Rect.unit (s := S3x512x688) ![p.val, 0, 128 * o.val] S1x512x128.size
      (by intro a; fin_cases a <;> simp [S3x512x688, S1x512x128] <;> omega)).toLoadRect (harg.unread x))⟩

/-- The piece of the last columns of plane `p`. -/
def lastPiece (p : Fin 3) : View.Piece (Elt Ideal) S3x704x128 .i32 :=
  ⟨Rect.unit ![p.val, 640, 0] S1x48x128.size (by intro a; fin_cases a <;> simp [S3x704x128, S1x48x128] <;> omega),
    turnedLast (View.readAt (Elt Ideal) arg.view (Rect.unit (s := S3x512x688) ![p.val, 0, 640] S1x512x48.size
      (by intro a; fin_cases a <;> simp [S3x512x688, S1x512x48] <;> omega)).toLoadRect (harg.unread x))⟩

/-- The eighteen pieces of three planes. -/
def turnedPieces : List (View.Piece (Elt Ideal) S3x704x128 .i32) :=
  [2, 1, 0].flatMap fun p : Fin 3 => lastPiece arg harg x p :: ([4, 3, 2, 1, 0].map fun o : Fin 5 => turnedPiece arg harg x p o)

end

/-- The zeros of the columns from 688 on. -/
def zeroWords : View.Piece (Elt Ideal) S3x704x128 .i32 :=
  ⟨Rect.unit ![0, 688, 0] S3x16x128.size inb_S3x704x128_S3x16x128_0_688_0, k0_pay243⟩

/-- The zeros of the scales and zeros from 688 on. -/
def zeroScales : View.Piece (Elt Ideal) S2x704x1024 .bf16 :=
  ⟨Rect.unit ![0, 688, 0] S2x16x1024.size inb_S2x704x1024_S2x16x1024_0_688_0, (k0_pay244 : FVec Ideal S2x16x1024 .bf16)⟩

/-- The matrix that selects the row of scales or zeros of every lane. -/
def onehot : FVec Ideal S256x1024 .bf16 := k0_pay242 (iota .tc S256x1024 32 [0] iota_S256x1024_d0_w32) k0_pay239 k0_pay240 4#32 k0_pay241

section
variable (arg : Memref sig .tc .vmem S256x688 .bf16) (harg : arg.IsWhole) (x : Vec Ideal S256x688 .bf16)

/-- The piece of scales (0) or zeros (1), a row of them for every lane. -/
def scalePiece (i : Fin 2) : View.Piece (Elt Ideal) S2x704x1024 .bf16 :=
  ⟨Rect.unit ![i.val, 0, 0] S1x688x1024.size (by intro a; fin_cases a <;> simp [S2x704x1024, S1x688x1024] <;> omega),
    k0_pay1 onehot (View.readAt (Elt Ideal) arg.view (Rect.unit (s := S256x688) ![0, 0] S256x688.size inb_S256x688_S256x688_0_0).toLoadRect (harg.unread x))⟩

end

section
variable (arg8 : Memref sig .tc .vmem S3x704x128 .i32) (arg9 : Memref sig .tc .vmem S2x704x1024 .bf16)
  (X8 : BufTy.Contents (Elt Ideal) arg8.view.ty) (X9 : BufTy.Contents (Elt Ideal) arg9.view.ty)

/-- Eight rows of a plane's words, every fourth one from row `32 k + b`. -/
def rows (p : Fin 3) (k : Fin 22) (b : Fin 4) : IVec S8x128 32 :=
  shapeCast S8x128 (View.readAt (Elt Ideal) arg8.view
    (⟨![p.val, 32 * k.val + b.val, 0], S1x8x128.size, ![1, 4, 1], by intro a; fin_cases a <;> simp [S3x704x128, S1x8x128] <;> omega⟩ : LoadRect S3x704x128) X8) shapeCasts_S1x8x128_S8x128

/-- Byte `j` of the words of a unit's rows. -/
def planeWords (p : Fin 3) (k : Fin 22) (j : Fin 4) : IVec S8x128 32 := fun x =>
  byteOf j (rows arg8 X8 p k 0 x) (rows arg8 X8 p k 1 x) (rows arg8 X8 p k 2 x) (rows arg8 X8 p k 3 x)

/-- The words of codes of unit `k`, byte `j` and fields `f` and `f + 4`. -/
def codeWords (k : Fin 22) (j f : Fin 4) : IVec S8x128 32 := fun x =>
  merged f (planeWords arg8 X8 0 k j x) (planeWords arg8 X8 1 k j x) (planeWords arg8 X8 2 k j x)

/-- The words of one field of eight: for the upper four, moved down by a nibble. -/
def fieldWords (f : Fin 8) (w : IVec S8x128 32) : IVec S8x128 32 := if f.val < 4 then w else shrui w (broadcast S8x128 4#32)

/-- The codes of a field as numbers. -/
def codes (w : IVec S8x128 32) : FVec Ideal S32x128 .bf16 :=
  sitofp .bf16 (bitcast S32x128 8 (andi w (broadcast S8x128 117901063#32)) bitcasts_S8x128_w32_S32x128_w8)

/-- The scales (0) or zeros (1) of a unit's rows and a field's lanes. -/
def scaleRows (i : Fin 2) (k : Fin 22) (f : Fin 8) : FVec Ideal S32x128 .bf16 :=
  shapeCast S32x128 (View.readAt (Elt Ideal) arg9.view
    (Rect.unit (s := S2x704x1024) ![i.val, 32 * k.val, 128 * f.val] S1x32x128.size (by intro a; fin_cases a <;> simp [S2x704x1024, S1x32x128] <;> omega)).toLoadRect X9) shapeCasts_S1x32x128_S32x128

/-- The products of a unit, a byte and a field. -/
def tile (k : Fin 22) (j : Fin 4) (f : Fin 8) : FVec Ideal S32x128 .bf16 :=
  mulf (subf (codes (fieldWords f (codeWords arg8 X8 k j ⟨f.val % 4, by omega⟩))) (scaleRows arg9 X9 1 k f)) (scaleRows arg9 X9 0 k f)

/-- Their piece of a result. -/
def tilePiece (k : Fin 22) (j : Fin 4) (f : Fin 8) : View.Piece (Elt Ideal) S32x704x128 .bf16 :=
  ⟨Rect.unit ![f.val % 4 * 8 + j.val / 2 * 4 + f.val / 4 * 2 + j.val % 2, 32 * k.val, 0] S1x32x128.size
      (by intro a; fin_cases a <;> simp [S32x704x128, S1x32x128] <;> omega),
    shapeCast S1x32x128 (tile arg8 arg9 X8 X9 k j f) shapeCasts_S32x128_S1x32x128⟩

/-- The 32 pieces of a unit. -/
def unitPieces (k : Fin 22) : List (View.Piece (Elt Ideal) S32x704x128 .bf16) :=
  [3, 2, 1, 0].flatMap fun j : Fin 4 => [7, 6, 5, 4, 3, 2, 1, 0].map fun f : Fin 8 => tilePiece arg8 arg9 X8 X9 k j f

/-- All pieces of a result. -/
def tilePieces : List (View.Piece (Elt Ideal) S32x704x128 .bf16) :=
  [21, 20, 19, 18, 17, 16, 15, 14, 13, 12, 11, 10, 9, 8, 7, 6, 5, 4, 3, 2, 1, 0].flatMap fun k : Fin 22 => unitPieces arg8 arg9 X8 X9 k

end

section
variable (c : Dev nD) (arg0 : Memref sig .tc .vmem S3x512x688 .i8) (harg0 : arg0.IsWhole) (arg1 : Memref sig .tc .vmem S3x512x688 .i8) (harg1 : arg1.IsWhole)
  (arg2 : Memref sig .tc .vmem S256x688 .bf16) (harg2 : arg2.IsWhole) (arg3 : Memref sig .tc .vmem S256x688 .bf16) (harg3 : arg3.IsWhole)
  (arg4 : Memref sig .tc .vmem S256x688 .bf16) (harg4 : arg4.IsWhole) (arg5 : Memref sig .tc .vmem S256x688 .bf16) (harg5 : arg5.IsWhole)
  (arg6 : Memref sig .tc .vmem S32x704x128 .bf16) (harg6 : arg6.IsWhole) (arg7 : Memref sig .tc .vmem S32x704x128 .bf16) (harg7 : arg7.IsWhole)
  (arg8 : Memref sig .tc .vmem S3x704x128 .i32) (harg8 : arg8.IsWhole) (arg9 : Memref sig .tc .vmem S2x704x1024 .bf16) (harg9 : arg9.IsWhole)
  (x0 x1 : Vec Ideal S3x512x688 .i8) (x2 x3 x4 x5 : Vec Ideal S256x688 .bf16)

/-- The words that the first result is computed from. -/
def words1 : List (View.Piece (Elt Ideal) S3x704x128 .i32) := turnedPieces arg0 harg0 x0 ++ [zeroWords]

/-- The scales and zeros that the first result is computed from. -/
def scales1 : List (View.Piece (Elt Ideal) S2x704x1024 .bf16) := [scalePiece arg3 harg3 x3 1, scalePiece arg2 harg2 x2 0] ++ [zeroScales]

/-- The words that the second result is computed from. -/
def words2 : List (View.Piece (Elt Ideal) S3x704x128 .i32) := turnedPieces arg1 harg1 x1 ++ words1 arg0 harg0 x0

/-- The scales and zeros that the second result is computed from. -/
def scales2 : List (View.Piece (Elt Ideal) S2x704x1024 .bf16) := [scalePiece arg5 harg5 x5 1, scalePiece arg4 harg4 x4 0] ++ scales1 arg2 harg2 arg3 harg3 x2 x3

set_option maxHeartbeats 4000000 in
/-- The first result is these pieces. -/
theorem pieces1 : (kernelRun0_A c arg0 harg0 arg1 harg1 arg2 harg2 arg3 harg3 arg4 harg4 arg5 harg5 arg6 harg6 arg7 harg7 arg8 harg8 arg9 harg9 x0 x1 x2 x3 x4 x5).1
    = tilePieces arg8 arg9 (arg8.view.writes (Elt Ideal) arg8.view.junk (words1 arg0 harg0 x0)) (arg9.view.writes (Elt Ideal) arg9.view.junk (scales1 arg2 harg2 arg3 harg3 x2 x3)) := by
  sl_kernel_rfl

set_option maxHeartbeats 4000000 in
/-- The second result is these pieces. -/
theorem pieces2 : (kernelRun0_A c arg0 harg0 arg1 harg1 arg2 harg2 arg3 harg3 arg4 harg4 arg5 harg5 arg6 harg6 arg7 harg7 arg8 harg8 arg9 harg9 x0 x1 x2 x3 x4 x5).2.1
    = tilePieces arg8 arg9 (arg8.view.writes (Elt Ideal) arg8.view.junk (words2 arg0 harg0 arg1 harg1 x0 x1)) (arg9.view.writes (Elt Ideal) arg9.view.junk (scales2 arg2 harg2 arg3 harg3 arg4 harg4 arg5 harg5 x2 x3 x4 x5)) := by
  sl_kernel_rfl

end

end Cert.ScalesIdeal.Body

end
-- ==== Proof.ScalesBlock.lean ====
/-
  What the body of the first-level dequantization leaves, element by element: a code less its zero, times its scale.
-/
module

public import proofs.«01_k».proof.Proof.ScalesPieces
public import proofs.«01_k».proof.Proof.ZeroOne
public import proofs.«01_k».proof.Proof.IdealWords
public import Idealize.ShloMosaic.Lib.Pointwise
public import Idealize.ShloMosaic.Lib.BitcastFour
public import Idealize.ShloMosaic.Lib.Pipeline.Value

@[expose] public section

set_option maxRecDepth 16384

noncomputable section

namespace Cert.ScalesIdeal.Body

open Cert.ScalesIdeal Cert.ScalesIdeal.Gen Cert.PrepBits
open Cert.PrepReferenceIdeal.Body (code3 join8)
open Idealize.ShloMosaic Idealize.ShloMosaic.TcCoe Idealize.ShloMosaic.Tactic
open Idealize.SL Idealize.SL.Sem

section
variable {Val : EltTy → Type} [∀ e, Nonempty (Val e)] {S : Shape} {e : EltTy}

/-- The last stores over earlier ones: where one of them lies, their common array. -/
theorem canon_append_of_pieces (G : S.Idx → Val e) (R : List (View.Piece Val S e)) :
    ∀ (L : List (View.Piece Val S e)) (_ : ∀ p ∈ L, ∀ x : p.1.shape.Idx, p.2 x = G (p.1.emb x)) (y : S.Idx)
      (_ : ∃ p ∈ L, y ∈ p.1.set), View.canon (L ++ R) y = G y
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, List.cons_append, View.canon_cons_emb]
      exact hL p (List.mem_cons_self ..) x
    · rw [List.cons_append, View.canon_cons_of_not_mem _ _ hm]
      refine canon_append_of_pieces G R L (fun q hq => hL q (List.mem_cons_of_mem _ hq)) y ?_
      obtain ⟨q, hq, hyq⟩ := hy
      rcases List.mem_cons.mp hq with rfl | hq
      · exact absurd hyq hm
      · exact ⟨q, hq, hyq⟩

/-- Where none of them lies, the earlier ones. -/
theorem canon_append_of_not_mem (R : List (View.Piece Val S e)) :
    ∀ (L : List (View.Piece Val S e)) (y : S.Idx) (_ : ∀ p ∈ L, y ∉ p.1.set), View.canon (L ++ R) y = View.canon R y
  | [], _, _ => rfl
  | p :: L, y, hy => by
    rw [List.cons_append, View.canon_cons_of_not_mem _ _ (hy p (List.mem_cons_self ..))]
    exact canon_append_of_not_mem R L y fun q hq => hy q (List.mem_cons_of_mem _ hq)

end

/-- A word of the turned columns is four bytes of one column. -/
theorem turned_at (v : Vec Ideal S1x512x128 .i8) (z : Fin 1) (k l : Fin 128) :
    turned v (ix3 z k l) = word4 fun j => (v : S1x512x128.Idx → BitVec 8) (ix3 0 ⟨4 * l.val + j.val, by omega⟩ k) := by
  pointwise [turned]
  refine BitVec.eq_of_getLsbD_eq fun i hi => ?_
  rw [word4_getLsbD _ i hi]
  refine (bitcast_8_32_getLsbD_ix2 _ bitcasts_S512x128_w8_S128x128_w32 l k i hi ⟨4 * l.val + i / 8, by omega⟩ rfl).trans ?_
  pointwise

/-- The same for the last columns. -/
theorem turnedLast_at (v : Vec Ideal S1x512x48 .i8) (z : Fin 1) (k : Fin 48) (l : Fin 128) :
    turnedLast v (ix3 z k l) = word4 fun j => (v : S1x512x48.Idx → BitVec 8) (ix3 0 ⟨4 * l.val + j.val, by omega⟩ k) := by
  pointwise [turnedLast]
  refine BitVec.eq_of_getLsbD_eq fun i hi => ?_
  rw [word4_getLsbD _ i hi]
  refine (bitcast_8_32_getLsbD_ix2 _ bitcasts_S512x48_w8_S128x48_w32 l k i hi ⟨4 * l.val + i / 8, by omega⟩ rfl).trans ?_
  pointwise

section
variable (arg : Memref sig .tc .vmem S3x512x688 .i8) (harg : arg.IsWhole) (x : Vec Ideal S3x512x688 .i8)

/-- The turned planes, zero from column 688 on. -/
def turnedPlanes : S3x704x128.Idx → BitVec 32 := fun y =>
  word4 fun j => if h : (y 1).val < 688 then
    (x : S3x512x688.Idx → BitVec 8) (ix3 (y 0) ⟨4 * (y 2).val + j.val, by have : (y 2).val < 128 := (y 2).isLt; omega⟩ ⟨(y 1).val, h⟩) else 0

/-- Every piece of 128 columns holds the turned planes. -/
theorem turnedPiece_at (p : Fin 3) (o : Fin 5) (y : (turnedPiece arg harg x p o).1.shape.Idx) :
    (turnedPiece arg harg x p o).2 y = turnedPlanes x ((turnedPiece arg harg x p o).1.emb y) := by
  obtain ⟨z, k, l, rfl⟩ : ∃ (z : Fin 1) (k l : Fin 128), y = (ix3 z k l : S1x128x128.Idx) := ⟨y 0, y 1, y 2, by funext a; fin_cases a <;> rfl⟩
  refine (turned_at _ z k l).trans (congrArg word4 (funext fun j => ?_))
  rw [View.readAt_apply, harg.read_unread]
  refine Eq.trans ?_ (dif_pos (show 128 * o.val + 1 * k.val < 688 by omega)).symm
  refine congrArg x (funext fun a => Fin.ext ?_)
  fin_cases a
  · show p.val + 1 * 0 = p.val + 1 * z.val; omega
  · show 0 + 1 * (4 * l.val + j.val) = 4 * (0 + 1 * l.val) + j.val; omega
  · show 128 * o.val + 1 * k.val = 128 * o.val + 1 * k.val; rfl

/-- So does every piece of the last columns. -/
theorem lastPiece_at (p : Fin 3) (y : (lastPiece arg harg x p).1.shape.Idx) :
    (lastPiece arg harg x p).2 y = turnedPlanes x ((lastPiece arg harg x p).1.emb y) := by
  obtain ⟨z, k, l, rfl⟩ : ∃ (z : Fin 1) (k : Fin 48) (l : Fin 128), y = (ix3 z k l : S1x48x128.Idx) := ⟨y 0, y 1, y 2, by funext a; fin_cases a <;> rfl⟩
  refine (turnedLast_at _ z k l).trans (congrArg word4 (funext fun j => ?_))
  rw [View.readAt_apply, harg.read_unread]
  refine Eq.trans ?_ (dif_pos (show 640 + 1 * k.val < 688 by omega)).symm
  refine congrArg x (funext fun a => Fin.ext ?_)
  fin_cases a
  · show p.val + 1 * 0 = p.val + 1 * z.val; omega
  · show 0 + 1 * (4 * l.val + j.val) = 4 * (0 + 1 * l.val) + j.val; omega
  · show 640 + 1 * k.val = 640 + 1 * k.val; rfl

/-- A word of the planes, whatever was stored before them. -/
theorem words_at (R : List (View.Piece (Elt Ideal) S3x704x128 .i32)) (p : Fin 3) (g : Fin 704) (l : Fin 128) (hg : g.val < 688) :
    (View.canon (turnedPieces arg harg x ++ R) : S3x704x128.Idx → BitVec 32) (ix3 p g l)
      = word4 fun j => (x : S3x512x688.Idx → BitVec 8) (ix3 p ⟨4 * l.val + j.val, by omega⟩ ⟨g.val, hg⟩) := by
  refine (canon_append_of_pieces (turnedPlanes x) R _ ?_ _ ?_).trans (congrArg word4 (funext fun j => dif_pos hg))
  · intro q hq
    obtain ⟨p', -, hq⟩ := List.mem_flatMap.mp hq
    rcases List.mem_cons.mp hq with rfl | hq
    · exact lastPiece_at arg harg x p'
    · obtain ⟨o, -, rfl⟩ := List.mem_map.mp hq
      exact turnedPiece_at arg harg x p' o
  · have hp : ∀ p : Fin 3, p ∈ [(2 : Fin 3), 1, 0] := by decide
    have ho : ∀ o : Fin 5, o ∈ [(4 : Fin 5), 3, 2, 1, 0] := by decide
    by_cases h : g.val < 640
    · refine ⟨turnedPiece arg harg x p ⟨g.val / 128, by omega⟩, List.mem_flatMap.mpr ⟨p, hp p, List.mem_cons_of_mem _ (List.mem_map.mpr ⟨_, ho _, rfl⟩)⟩, ?_⟩
      unfold turnedPiece
      rw [Rect.mem_set_unit]
      intro a
      fin_cases a
      · show p.val ≤ p.val ∧ p.val < p.val + 1; omega
      · show 128 * (g.val / 128) ≤ g.val ∧ g.val < 128 * (g.val / 128) + 128; omega
      · show 0 ≤ l.val ∧ l.val < 0 + 128; omega
    · refine ⟨lastPiece arg harg x p, List.mem_flatMap.mpr ⟨p, hp p, List.mem_cons_self ..⟩, ?_⟩
      unfold lastPiece
      rw [Rect.mem_set_unit]
      intro a
      fin_cases a
      · show p.val ≤ p.val ∧ p.val < p.val + 1; omega
      · show 640 ≤ g.val ∧ g.val < 640 + 48; omega
      · show 0 ≤ l.val ∧ l.val < 0 + 128; omega

end

/-- An entry of zeros and ones whose second word is known. -/
theorem entry_of (r s : ℕ) (w : BitVec 32) (h : w = BitVec.ofNat 32 s) (hr : r < 2 ^ 32) (hs : s < 2 ^ 32) :
    FloatOps.sitofp (F := Ideal) FTy.f32 (BitVec.setWidth 32 (IntOp.cmpi CmpIPredicate.eq (BitVec.ofNat 32 r) w)) = if r = s then (1 : EReal) else 0 := by
  subst h; exact Cert.ZeroOne.entry r s hr hs

set_option maxHeartbeats 4000000 in
/-- The selecting matrix: a one where the row is the group of the lane's rows. -/
theorem onehot_at (r : Fin 256) (c : Fin 1024) :
    (onehot : S256x1024.Idx → EReal) (ix2 r c) = if r.val = c.val / 128 * 32 + c.val % 128 / 4 then (1 : EReal) else 0 := by
  pointwise [onehot, k0_pay242, k0_pay239, k0_pay240, k0_pay241]
  refine entry_of _ _ _ ?_ (by omega) (by omega)
  clear r
  revert c
  decide +kernel

/-- A lane's scale or zero. -/
theorem pay1_at (v : Vec Ideal S256x688 .bf16) (z : Fin 1) (g : Fin 688) (c : Fin 1024) :
    (k0_pay1 onehot v : S1x688x1024.Idx → EReal) (ix3 z g c) = (v : S256x688.Idx → EReal) (ix2 ⟨c.val / 128 * 32 + c.val % 128 / 4, by omega⟩ g) := by
  generalize hw : onehot = w
  pointwise [k0_pay1]
  subst hw
  refine (Finset.sum_congr rfl fun j _ => ?_).trans (Cert.ZeroOne.sum_single (fun j => (v : S256x688.Idx → EReal) (ix2 j g)) (c.val / 128 * 32 + c.val % 128 / 4) 0 (by omega))
  rw [onehot_at, Nat.zero_add]

end Cert.ScalesIdeal.Body

end
-- ==== Proof.ScalesBits.lean ====
/-
  The bits of a code: masked out of the word that joins eight, it is the code of the three planes' bytes.
-/
module

public import proofs.«01_k».proof.Proof.PrepBits
public import Idealize.ShloMosaic.PureOps.Ideal

@[expose] public section

set_option maxRecDepth 16384

noncomputable section

namespace Cert.PrepBits

open Idealize.ShloMosaic Cert.PrepReferenceIdeal.Body

/-- A bit of a word that joins eight codes: bit `i` of the nibble of half `h` and byte `b`. -/
theorem join8_getLsbD (B : Fin 3 → Fin 4 → BitVec 8) (k b : Fin 4) (h : Fin 2) (i : Fin 3) :
    (join8 B k).getLsbD (8 * b.val + 4 * h.val + i.val) = (B i b).getLsbD (h.val * 4 + k.val) := by
  have h0 (x : BitVec 32) : IntOp.shli .host x 0#32 = x <<< 0 := hshl_at x 0
  have h4 (x : BitVec 32) : IntOp.shli .host x 4#32 = x <<< 4 := hshl_at x 4
  have h8 (x : BitVec 32) : IntOp.shli .host x 8#32 = x <<< 8 := hshl_at x 8
  have h12 (x : BitVec 32) : IntOp.shli .host x 12#32 = x <<< 12 := hshl_at x 12
  have h16 (x : BitVec 32) : IntOp.shli .host x 16#32 = x <<< 16 := hshl_at x 16
  have h20 (x : BitVec 32) : IntOp.shli .host x 20#32 = x <<< 20 := hshl_at x 20
  have h24 (x : BitVec 32) : IntOp.shli .host x 24#32 = x <<< 24 := hshl_at x 24
  have h28 (x : BitVec 32) : IntOp.shli .host x 28#32 = x <<< 28 := hshl_at x 28
  have hc (b0 b1 b2 : BitVec 8) (h : Fin 2) (s q : ℕ) (hq : q < 32) :
      (code3 b0 b1 b2 (BitVec.ofNat 32 (h.val * 4 + k.val)) <<< s).getLsbD q
        = (!decide (q < s) && (decide (q - s = 0) && b0.getLsbD (h.val * 4 + k.val) || decide (q - s = 1) && b1.getLsbD (h.val * 4 + k.val)
            || decide (q - s = 2) && b2.getLsbD (h.val * 4 + k.val))) := by
    rw [BitVec.getLsbD_shiftLeft, code3_getLsbD b0 b1 b2 ⟨h.val * 4 + k.val, by omega⟩ (q - s) (by omega)]
    simp [hq]
  have hq : 8 * b.val + 4 * h.val + i.val < 32 := by omega
  simp only [join8, h0, h4, h8, h12, h16, h20, h24, h28, IntOp.ori, BitVec.getLsbD_or, hc _ _ _ _ _ _ hq]
  clear hq hc h0 h4 h8 h12 h16 h20 h24 h28
  fin_cases b <;> fin_cases h <;> fin_cases i <;> simp

/-- A code is below eight, so that it is the same number in eight bits. -/
theorem code3_byte (b0 b1 b2 : BitVec 8) (f : Fin 8) :
    ((code3 b0 b1 b2 (BitVec.ofNat 32 f.val)).setWidth 8).toInt = (code3 b0 b1 b2 (BitVec.ofNat 32 f.val)).toInt := by
  have h : code3 b0 b1 b2 (BitVec.ofNat 32 f.val) = code3 b0 b1 b2 (BitVec.ofNat 32 f.val) &&& 7#32 := by
    refine BitVec.eq_of_getLsbD_eq fun i hi => ?_
    rw [BitVec.getLsbD_and, code3_getLsbD _ _ _ _ i hi]
    by_cases h3 : i < 3
    · interval_cases i <;> simp
    · simp [show ¬ i = 0 by omega, show ¬ i = 1 by omega, show ¬ i = 2 by omega]
  have hlt : (code3 b0 b1 b2 (BitVec.ofNat 32 f.val)).toNat < 8 := by
    rw [h, BitVec.toNat_and]
    exact Nat.lt_succ_of_le Nat.and_le_right
  have e8 : ((code3 b0 b1 b2 (BitVec.ofNat 32 f.val)).setWidth 8).toNat = (code3 b0 b1 b2 (BitVec.ofNat 32 f.val)).toNat := by
    rw [BitVec.toNat_setWidth]; omega
  rw [BitVec.toInt_eq_toNat_of_lt (by omega), BitVec.toInt_eq_toNat_of_lt (by omega), e8]

/-- The code of half `h` and byte `b`, masked out of the word. -/
theorem join8_code (B : Fin 3 → Fin 4 → BitVec 8) (k b : Fin 4) (h : Fin 2) :
    ((join8 B k >>> (4 * h.val)) &&& 117901063#32).extractLsb' (8 * b.val) 8
      = (code3 (B 0 b) (B 1 b) (B 2 b) (BitVec.ofNat 32 (h.val * 4 + k.val))).setWidth 8 := by
  refine BitVec.eq_of_getLsbD_eq fun i hi => ?_
  rw [BitVec.getLsbD_extractLsb', BitVec.getLsbD_and, BitVec.getLsbD_ushiftRight, BitVec.getLsbD_setWidth,
    code3_getLsbD _ _ _ ⟨h.val * 4 + k.val, by omega⟩ i (by omega), decide_eq_true hi, Bool.true_and, Bool.true_and]
  by_cases h3 : i < 3
  · have hm : (117901063#32).getLsbD (8 * b.val + i) = true := by
      have : ∀ (b : Fin 4) (i : Fin 3), (117901063#32).getLsbD (8 * b.val + i.val) = true := by decide
      exact this b ⟨i, h3⟩
    rw [hm, Bool.and_true, show 4 * h.val + (8 * b.val + i) = 8 * b.val + 4 * h.val + (⟨i, h3⟩ : Fin 3).val by show _ = 8 * b.val + 4 * h.val + i; omega, join8_getLsbD]
    interval_cases i <;> simp
  · have hm : (117901063#32).getLsbD (8 * b.val + i) = false := by
      have : ∀ (b : Fin 4) (i : Fin 8), 3 ≤ i.val → (117901063#32).getLsbD (8 * b.val + i.val) = false := by decide
      exact this b ⟨i, hi⟩ (Nat.le_of_not_lt h3)
    rw [hm, Bool.and_false]
    simp [show ¬ i = 0 by omega, show ¬ i = 1 by omega, show ¬ i = 2 by omega]

end Cert.PrepBits

end
-- ==== Proof.ScalesRefValue.lean ====
/-
  The reference of the first level, element by element: a code less its zero, times its scale, in tiles of 128 rows.
-/
module

public import proofs.«01_k».proof.Proof.Gen.ScalesReferenceIdeal.Run
public import proofs.«01_k».proof.Proof.PrepRefValue
public import Idealize.ShloMosaic.Lib.Pointwise
public import Idealize.ShloMosaic.Lib.ValueIdxCore
public import Idealize.ShloMosaic.Lib.Pipeline.Value

@[expose] public section

set_option maxRecDepth 16384

noncomputable section

namespace Cert.ScalesReferenceIdeal.Body

open Cert.ScalesReferenceIdeal Cert.ScalesReferenceIdeal.Gen
open Cert.PrepReferenceIdeal.Body (code3)
open Idealize.ShloMosaic Idealize.ShloMosaic.TcCoe Idealize.ShloMosaic.Tactic
open Idealize.SL Idealize.SL.Sem

/-- An element of the first level: field `f`, byte row `n`, column `g`; zero past the last column. -/
def level (q : S3x512x688.Idx → BitVec 8) (s z : S256x688.Idx → EReal) (f : Fin 8) (n : Fin 512) (g : Fin 704) : EReal :=
  if h : g.val < 688 then
    (FloatOps.sitofp (F := Ideal) .bf16 (code3 (q (ix3 0 n ⟨g.val, h⟩)) (q (ix3 1 n ⟨g.val, h⟩)) (q (ix3 2 n ⟨g.val, h⟩)) (BitVec.ofNat 32 f.val))
      - z (ix2 ⟨32 * f.val + n.val / 16, by omega⟩ ⟨g.val, h⟩)) * s (ix2 ⟨32 * f.val + n.val / 16, by omega⟩ ⟨g.val, h⟩)
  else 0

/-- One plane's bits at their places in the codes: bit f of every byte, moved up by `s`. -/
def fields (q : IVec S3x512x688 8) (off : Fin 3 → ℕ) (h : S3x512x688.Slices off S1x512x688) (s : BitVec 32) : IVec S8x512x688 32 :=
  Host.shli (andi (Host.shrsi (broadcastInDim S8x512x688 ![0, 1, 2] bcast_S1x512x688_S8x512x688_0_1_2 (broadcastInDim S1x512x688 ![1, 2] bcast_S512x688_S1x512x688_1_2 (shapeCast _ (extractStridedSlice S1x512x688 off (extui 32 q natLt_8_32) h) shapeCasts_S1x512x688_S512x688))) (broadcastInDim S8x512x688 ![0, 1, 2] bcast_S8x1x1_S8x512x688_0_1_2 (iotaInDim S8x1x1 32 0))) (broadcastInDim S8x512x688 ![] bcast_S_S8x512x688 (constantI S_ 32 1#32))) (broadcastInDim S8x512x688 ![] bcast_S_S8x512x688 (constantI S_ 32 s))

/-- The codes: field, byte row, column. -/
def codes (q : IVec S3x512x688 8) : IVec S8x512x688 32 :=
  ori (ori (fields q ![0, 0, 0] slices_S3x512x688_S1x512x688_0_0_0 0#32) (fields q ![1, 0, 0] slices_S3x512x688_S1x512x688_1_0_0 1#32)) (fields q ![2, 0, 0] slices_S3x512x688_S1x512x688_2_0_0 2#32)

/-- A row of scales or zeros for every sixteen rows. -/
def grouped (x : FVec Ideal S256x688 .bf16) : FVec Ideal S256x16x688 .bf16 :=
  broadcastInDim S256x16x688 ![0, 1, 2] bcast_S256x1x688_S256x16x688_0_1_2 (broadcastInDim S256x1x688 ![0, 2] bcast_S256x688_S256x1x688_0_2 x)

/-- Codes less zeros, times scales. -/
def products (q : IVec S3x512x688 8) (s z : FVec Ideal S256x688 .bf16) : FVec Ideal S4096x688 .bf16 :=
  shapeCast _ (mulf (subf (shapeCast S256x16x688 (sitofp (F := Ideal) .bf16 (codes q)) shapeCasts_S8x512x688_S256x16x688) (grouped z)) (grouped s)) shapeCasts_S256x16x688_S4096x688

/-- The products with columns of zeros past the last. -/
def padded (x : FVec Ideal S4096x688 .bf16) : FVec Ideal S4096x704 .bf16 :=
  concatenate S4096x704 1 [⟨S4096x688, x⟩, ⟨S4096x16, broadcastInDim S4096x16 ![] bcast_S_S4096x16 (constant (F := Ideal) S_ .bf16 0x0000#16)⟩] concatenates_S4096x688_S4096x16_S4096x704_d1

/-- The products in tiles. -/
def tiled (x : FVec Ideal S4096x704 .bf16) : FVec Ideal S32x704x128 .bf16 :=
  shapeCast _ (transpose S4x2x2x2x704x128 [1, 3, 0, 4, 5, 2] (shapeCast S2x4x128x2x2x704 x shapeCasts_S4096x704_S2x4x128x2x2x704) transposes_S2x4x128x2x2x704_S4x2x2x2x704x128_1_3_0_4_5_2) shapeCasts_S4x2x2x2x704x128_S32x704x128

/-- A result of the reference. -/
def result (q : IVec S3x512x688 8) (s z : FVec Ideal S256x688 .bf16) : FVec Ideal S32x704x128 .bf16 := tiled (padded (products q s z))

/-- A code, element by element. -/
theorem codes_at (q : IVec S3x512x688 8) (f : Fin 8) (n : Fin 512) (k : Fin 688) :
    codes q (ix3 f n k) = code3 (q (ix3 0 n k)) (q (ix3 1 n k)) (q (ix3 2 n k)) (BitVec.ofNat 32 f.val) := by
  pointwise [codes, fields]
  rfl

/-- A row of scales or zeros, element by element. -/
theorem grouped_at (x : FVec Ideal S256x688 .bf16) (a : Fin 256) (b : Fin 16) (g : Fin 688) : grouped x (ix3 a b g) = x (ix2 a g) := by
  pointwise [grouped]

/-- The rows of the codes in groups of sixteen. -/
theorem groups_at (w : FVec Ideal S8x512x688 .bf16) (a : Fin 256) (b : Fin 16) (g : Fin 688) :
    shapeCast S256x16x688 w shapeCasts_S8x512x688_S256x16x688 (ix3 a b g) = w (ix3 ⟨a.val / 32, by omega⟩ ⟨a.val % 32 * 16 + b.val, by omega⟩ g) := by
  pointwise

/-- The groups as rows. -/
theorem ungrouped_at (w : FVec Ideal S256x16x688 .bf16) (r : Fin 4096) (g : Fin 688) :
    shapeCast S4096x688 w shapeCasts_S256x16x688_S4096x688 (ix2 r g) = w (ix3 ⟨r.val / 16, by omega⟩ ⟨r.val % 16, by omega⟩ g) := by
  pointwise

/-- The rows in tiles, element by element. -/
theorem tiled_at (x : FVec Ideal S4096x704 .bf16) (t : Fin 32) (g : Fin 704) (l : Fin 128) :
    tiled x (ix3 t g l) = x (ix2 ⟨512 * (t.val / 8 + 4 * (t.val / 2 % 2)) + (4 * l.val + (2 * (t.val / 4 % 2) + t.val % 2)), by omega⟩ g) := by
  pointwise [tiled]
  exact congrArg x (congrArg (ix2 · g) (Fin.ext (by show t.val / 2 % 2 * 2048 + t.val / 8 * 512 + l.val * 4 + t.val / 4 % 2 * 2 + t.val % 2 = 512 * (t.val / 8 + 4 * (t.val / 2 % 2)) + (4 * l.val + (2 * (t.val / 4 % 2) + t.val % 2)); omega)))

/-- The padded products, element by element. -/
theorem padded_at (x : FVec Ideal S4096x688 .bf16) (r : Fin 4096) (g : Fin 704) :
    padded x (ix2 r g) = if h : g.val < 688 then x (ix2 r ⟨g.val, h⟩) else (0 : EReal) := by
  unfold padded
  by_cases h : g.val < 688
  · rw [dif_pos h]
    refine concatenate_pair_apply_left (1 : Fin S4096x704.rank) x _ _ (ix2 r g) rfl (ix2 r ⟨g.val, h⟩) fun b => ?_
    fin_cases b <;> rfl
  · rw [dif_neg h]
    refine (concatenate_pair_apply_right (s₂ := S4096x16) (1 : Fin S4096x704.rank) x _ _ (ix2 r g) rfl rfl (ix2 r (⟨g.val - 688, by omega⟩ : Fin 16)) ?_ ?_).trans ?_
    · intro b hb
      fin_cases b
      · rfl
      · exact absurd rfl hb
    · show g.val - 688 + 688 = g.val; omega
    · pointwise

/-- The products, element by element: row `n` of field `f`. -/
theorem products_at (q : IVec S3x512x688 8) (s z : FVec Ideal S256x688 .bf16) (f : Fin 8) (n : Fin 512) (g : Fin 688) :
    products q s z (ix2 ⟨512 * f.val + n.val, by omega⟩ g)
      = ((FloatOps.sitofp (F := Ideal) .bf16 (code3 (q (ix3 0 n g)) (q (ix3 1 n g)) (q (ix3 2 n g)) (BitVec.ofNat 32 f.val)) : EReal)
        - z (ix2 ⟨32 * f.val + n.val / 16, by omega⟩ g)) * s (ix2 ⟨32 * f.val + n.val / 16, by omega⟩ g) := by
  unfold products
  rw [ungrouped_at]
  have e1 : (⟨(512 * f.val + n.val) / 16, by omega⟩ : Fin 256) = ⟨32 * f.val + n.val / 16, by omega⟩ := Fin.ext (by show (512 * f.val + n.val) / 16 = 32 * f.val + n.val / 16; omega)
  have e2 : (⟨(512 * f.val + n.val) % 16, by omega⟩ : Fin 16) = ⟨n.val % 16, by omega⟩ := Fin.ext (by show (512 * f.val + n.val) % 16 = n.val % 16; omega)
  rw [e1, e2]
  generalize ha : (⟨32 * f.val + n.val / 16, by omega⟩ : Fin 256) = a
  generalize hb : (⟨n.val % 16, by omega⟩ : Fin 16) = b
  have ha' : a.val = 32 * f.val + n.val / 16 := by rw [← ha]
  have hb' : b.val = n.val % 16 := by rw [← hb]
  have e3 : (⟨a.val / 32, by omega⟩ : Fin 8) = f := Fin.ext (by show a.val / 32 = f.val; omega)
  have e4 : (⟨a.val % 32 * 16 + b.val, by omega⟩ : Fin 512) = n := Fin.ext (by show a.val % 32 * 16 + b.val = n.val; omega)
  show (shapeCast S256x16x688 (sitofp (F := Ideal) .bf16 (codes q)) shapeCasts_S8x512x688_S256x16x688 (ix3 a b g) - grouped z (ix3 a b g) : EReal) * grouped s (ix3 a b g) = _
  rw [groups_at, grouped_at, grouped_at, e3, e4]
  show ((FloatOps.sitofp (F := Ideal) .bf16 (codes q (ix3 f n g)) : EReal) - _) * _ = _
  rw [codes_at]

/-- A result, element by element. -/
theorem result_at (q : IVec S3x512x688 8) (s z : FVec Ideal S256x688 .bf16) (t : Fin 32) (g : Fin 704) (l : Fin 128) :
    result q s z (ix3 t g l) = level q s z ⟨t.val / 8 + 4 * (t.val / 2 % 2), by omega⟩ ⟨4 * l.val + (2 * (t.val / 4 % 2) + t.val % 2), by omega⟩ g := by
  unfold result
  rw [tiled_at, padded_at]
  unfold level
  by_cases h : g.val < 688
  · rw [dif_pos h, dif_pos h]
    exact products_at q s z ⟨t.val / 8 + 4 * (t.val / 2 % 2), by omega⟩ ⟨4 * l.val + (2 * (t.val / 4 % 2) + t.val % 2), by omega⟩ ⟨g.val, h⟩
  · rw [dif_neg h, dif_neg h]

end Cert.ScalesReferenceIdeal.Body

end
-- ==== Proof.ScalesTile.lean ====
/-
  The products of the body of the first-level dequantization, and the two results' blocks.
-/
module

public import proofs.«01_k».proof.Proof.ScalesBlock
public import proofs.«01_k».proof.Proof.ScalesBits
public import proofs.«01_k».proof.Proof.ScalesRefValue

@[expose] public section

set_option maxRecDepth 16384

noncomputable section

namespace Cert.ScalesIdeal.Body

open Cert.ScalesIdeal Cert.ScalesIdeal.Gen Cert.PrepBits
open Cert.PrepReferenceIdeal.Body (code3 join8)
open Cert.ScalesReferenceIdeal.Body (level)
open Idealize.ShloMosaic Idealize.ShloMosaic.TcCoe Idealize.ShloMosaic.Tactic
open Idealize.SL Idealize.SL.Sem

section
variable (arg : Memref sig .tc .vmem S3x512x688 .i8) (harg : arg.IsWhole) (x : Vec Ideal S3x512x688 .i8)
  (arg8 : Memref sig .tc .vmem S3x704x128 .i32) (R : List (View.Piece (Elt Ideal) S3x704x128 .i32))

/-- The scratch of words that a result is computed from. -/
def wordScratch : BufTy.Contents (Elt Ideal) arg8.view.ty := arg8.view.writes (Elt Ideal) arg8.view.junk (turnedPieces arg harg x ++ R)

/-- A word of eight rows read back. -/
theorem rows_at (p : Fin 3) (k : Fin 22) (b : Fin 4) (r : Fin 8) (l : Fin 128) (h : 32 * k.val + (4 * r.val + b.val) < 688) :
    rows arg8 (wordScratch arg harg x arg8 R) p k b (ix2 r l)
      = word4 fun j => (x : S3x512x688.Idx → BitVec 8) (ix3 p ⟨4 * l.val + j.val, by omega⟩ ⟨32 * k.val + (4 * r.val + b.val), h⟩) := by
  have h1 (w : IVec S1x8x128 32) : shapeCast S8x128 w shapeCasts_S1x8x128_S8x128 (ix2 r l) = w (ix3 0 r l) := by pointwise
  refine (h1 _).trans ?_
  unfold wordScratch
  rw [View.readAt_writes_junk_eq_canon]
  refine Eq.trans ?_ (words_at arg harg x R p ⟨32 * k.val + (4 * r.val + b.val), by omega⟩ l h)
  refine congrArg (View.canon (turnedPieces arg harg x ++ R)) (funext fun a => Fin.ext ?_)
  fin_cases a
  · show p.val + 1 * 0 = p.val; omega
  · show 32 * k.val + b.val + 4 * r.val = 32 * k.val + (4 * r.val + b.val); omega
  · show 0 + 1 * l.val = l.val; omega

/-- One byte of the words of a unit's rows. -/
theorem planeWords_at (p : Fin 3) (k : Fin 22) (j : Fin 4) (r : Fin 8) (l : Fin 128) (h : 32 * k.val + (4 * r.val + 3) < 688) :
    planeWords arg8 (wordScratch arg harg x arg8 R) p k j (ix2 r l)
      = word4 fun b => (x : S3x512x688.Idx → BitVec 8) (ix3 p ⟨4 * l.val + j.val, by omega⟩ ⟨32 * k.val + (4 * r.val + b.val), by omega⟩) := by
  unfold planeWords
  rw [rows_at arg harg x arg8 R p k 0 r l (by show _ + (_ + 0) < _; omega), rows_at arg harg x arg8 R p k 1 r l (by show _ + (_ + 1) < _; omega),
    rows_at arg harg x arg8 R p k 2 r l (by show _ + (_ + 2) < _; omega), rows_at arg harg x arg8 R p k 3 r l h]
  exact byteOf_word4 j fun b j => (x : S3x512x688.Idx → BitVec 8) (ix3 p ⟨4 * l.val + j.val, by omega⟩ ⟨32 * k.val + (4 * r.val + b.val), by omega⟩)

/-- A word of codes. -/
theorem codeWords_at (k : Fin 22) (j f : Fin 4) (r : Fin 8) (l : Fin 128) (h : 32 * k.val + (4 * r.val + 3) < 688) :
    codeWords arg8 (wordScratch arg harg x arg8 R) k j f (ix2 r l)
      = join8 (fun p b => (x : S3x512x688.Idx → BitVec 8) (ix3 p ⟨4 * l.val + j.val, by omega⟩ ⟨32 * k.val + (4 * r.val + b.val), by omega⟩)) f := by
  unfold codeWords
  rw [planeWords_at arg harg x arg8 R 0 k j r l h, planeWords_at arg harg x arg8 R 1 k j r l h, planeWords_at arg harg x arg8 R 2 k j r l h]
  exact merged_word4 f fun p b => (x : S3x512x688.Idx → BitVec 8) (ix3 p ⟨4 * l.val + j.val, by omega⟩ ⟨32 * k.val + (4 * r.val + b.val), by omega⟩)

/-- A field's word moved down by the field's half. -/
theorem fieldWords_at (f : Fin 8) (w : IVec S8x128 32) (y : S8x128.Idx) : fieldWords f w y = w y >>> (4 * (f.val / 4)) := by
  unfold fieldWords
  by_cases h : f.val < 4
  · rw [if_pos h, show f.val / 4 = 0 by omega]; simp
  · rw [if_neg h, show f.val / 4 = 1 by omega]
    exact shr_at (w y) 4

/-- A code as a number. -/
theorem codes_at (k : Fin 22) (j : Fin 4) (f : Fin 8) (i : Fin 32) (l : Fin 128) (h : 32 * k.val + i.val < 688) :
    (codes (fieldWords f (codeWords arg8 (wordScratch arg harg x arg8 R) k j ⟨f.val % 4, by omega⟩)) : S32x128.Idx → EReal) (ix2 i l)
      = FloatOps.sitofp (F := Ideal) .bf16 (code3 ((x : S3x512x688.Idx → BitVec 8) (ix3 0 ⟨4 * l.val + j.val, by omega⟩ ⟨32 * k.val + i.val, h⟩))
        ((x : S3x512x688.Idx → BitVec 8) (ix3 1 ⟨4 * l.val + j.val, by omega⟩ ⟨32 * k.val + i.val, h⟩))
        ((x : S3x512x688.Idx → BitVec 8) (ix3 2 ⟨4 * l.val + j.val, by omega⟩ ⟨32 * k.val + i.val, h⟩)) (BitVec.ofNat 32 f.val)) := by
  have hr : 32 * k.val + (4 * (i.val / 4) + 3) < 688 := by omega
  have e : bitcast S32x128 8 (andi (fieldWords f (codeWords arg8 (wordScratch arg harg x arg8 R) k j ⟨f.val % 4, by omega⟩)) (broadcast S8x128 117901063#32)) bitcasts_S8x128_w32_S32x128_w8 (ix2 i l)
      = (code3 ((x : S3x512x688.Idx → BitVec 8) (ix3 0 ⟨4 * l.val + j.val, by omega⟩ ⟨32 * k.val + i.val, h⟩))
        ((x : S3x512x688.Idx → BitVec 8) (ix3 1 ⟨4 * l.val + j.val, by omega⟩ ⟨32 * k.val + i.val, h⟩))
        ((x : S3x512x688.Idx → BitVec 8) (ix3 2 ⟨4 * l.val + j.val, by omega⟩ ⟨32 * k.val + i.val, h⟩)) (BitVec.ofNat 32 f.val)).setWidth 8 := by
    refine (Cert.KernelIdeal.Body.narrow8 _ _ i l).trans ?_
    show ((fieldWords f _ (ix2 _ l)) &&& 117901063#32).extractLsb' (8 * (i.val % 4)) 8 = _
    rw [fieldWords_at, codeWords_at arg harg x arg8 R k j _ ⟨i.val / 4, by omega⟩ l hr]
    refine (join8_code _ ⟨f.val % 4, by omega⟩ ⟨i.val % 4, by omega⟩ ⟨f.val / 4, by omega⟩).trans ?_
    have ei : (⟨32 * k.val + (4 * (i.val / 4) + i.val % 4), by omega⟩ : Fin 688) = ⟨32 * k.val + i.val, h⟩ := Fin.ext (by show 32 * k.val + (4 * (i.val / 4) + i.val % 4) = 32 * k.val + i.val; omega)
    show (code3 ((x : S3x512x688.Idx → BitVec 8) (ix3 0 _ ⟨32 * k.val + (4 * (i.val / 4) + i.val % 4), _⟩)) ((x : S3x512x688.Idx → BitVec 8) (ix3 1 _ ⟨32 * k.val + (4 * (i.val / 4) + i.val % 4), _⟩))
      ((x : S3x512x688.Idx → BitVec 8) (ix3 2 _ ⟨32 * k.val + (4 * (i.val / 4) + i.val % 4), _⟩)) (BitVec.ofNat 32 (f.val / 4 * 4 + f.val % 4))).setWidth 8 = _
    rw [ei, show f.val / 4 * 4 + f.val % 4 = f.val by omega]
  unfold codes
  show (((bitcast S32x128 8 (andi (fieldWords f (codeWords arg8 (wordScratch arg harg x arg8 R) k j ⟨f.val % 4, by omega⟩)) (broadcast S8x128 117901063#32)) bitcasts_S8x128_w32_S32x128_w8 (ix2 i l)).toInt : ℝ) : EReal) = _
  rw [e, code3_byte]
  rfl

end

section
variable (args argz : Memref sig .tc .vmem S256x688 .bf16) (hargs : args.IsWhole) (hargz : argz.IsWhole) (s z : Vec Ideal S256x688 .bf16)
  (arg9 : Memref sig .tc .vmem S2x704x1024 .bf16) (R : List (View.Piece (Elt Ideal) S2x704x1024 .bf16))

/-- The two pieces of scales and zeros that a result is computed from. -/
def scalePieces : List (View.Piece (Elt Ideal) S2x704x1024 .bf16) := [scalePiece argz hargz z 1, scalePiece args hargs s 0]

/-- The scratch of scales and zeros that a result is computed from. -/
def scaleScratch : BufTy.Contents (Elt Ideal) arg9.view.ty := arg9.view.writes (Elt Ideal) arg9.view.junk (scalePieces args argz hargs hargz s z ++ R)

/-- Scales and zeros, a row of them for every lane. -/
def spread : S2x704x1024.Idx → EReal := fun y =>
  if h : (y 1).val < 688 then
    ((if (y 0).val = 0 then s else z : Vec Ideal S256x688 .bf16) : S256x688.Idx → EReal)
      (ix2 ⟨(y 2).val / 128 * 32 + (y 2).val % 128 / 4, by have : (y 2).val < 1024 := (y 2).isLt; omega⟩ ⟨(y 1).val, h⟩) else 0

/-- A piece of scales or zeros holds them spread. -/
theorem scalePiece_at (arg : Memref sig .tc .vmem S256x688 .bf16) (harg : arg.IsWhole) (i : Fin 2) (y : (scalePiece arg harg (if i.val = 0 then s else z) i).1.shape.Idx) :
    (scalePiece arg harg (if i.val = 0 then s else z) i).2 y = spread s z ((scalePiece arg harg (if i.val = 0 then s else z) i).1.emb y) := by
  obtain ⟨a, g, c, rfl⟩ : ∃ (a : Fin 1) (g : Fin 688) (c : Fin 1024), y = (ix3 a g c : S1x688x1024.Idx) := ⟨y 0, y 1, y 2, by funext a; fin_cases a <;> rfl⟩
  refine (pay1_at _ a g c).trans ?_
  rw [View.readAt_apply, harg.read_unread]
  refine Eq.trans ?_ (dif_pos (show 0 + 1 * g.val < 688 by omega)).symm
  have e : (i.val + 1 * a.val = 0) = (i.val = 0) := by rw [show i.val + 1 * a.val = i.val by omega]
  show _ = ((if i.val + 1 * a.val = 0 then s else z : Vec Ideal S256x688 .bf16) : S256x688.Idx → EReal) _
  simp only [e]
  refine congrArg (if i.val = 0 then s else z : Vec Ideal S256x688 .bf16) (funext fun b => Fin.ext ?_)
  fin_cases b
  · show 0 + 1 * (c.val / 128 * 32 + c.val % 128 / 4) = (0 + 1 * c.val) / 128 * 32 + (0 + 1 * c.val) % 128 / 4; omega
  · show 0 + 1 * g.val = 0 + 1 * g.val; rfl

/-- A scale or zero of the scratch. -/
theorem scales_at (i : Fin 2) (g : Fin 704) (c : Fin 1024) (hg : g.val < 688) :
    (View.canon (scalePieces args argz hargs hargz s z ++ R) : S2x704x1024.Idx → EReal) (ix3 i g c)
      = ((if i.val = 0 then s else z : Vec Ideal S256x688 .bf16) : S256x688.Idx → EReal) (ix2 ⟨c.val / 128 * 32 + c.val % 128 / 4, by omega⟩ ⟨g.val, hg⟩) := by
  refine (canon_append_of_pieces (spread s z) R _ ?_ _ ?_).trans (dif_pos hg)
  · intro q hq
    rcases List.mem_cons.mp hq with rfl | hq
    · exact scalePiece_at s z argz hargz 1
    · obtain rfl := List.mem_singleton.mp hq
      exact scalePiece_at s z args hargs 0
  · have hm : ∃ p ∈ scalePieces args argz hargs hargz s z, ∃ (arg : Memref sig .tc .vmem S256x688 .bf16) (harg : arg.IsWhole) (v : Vec Ideal S256x688 .bf16), p = scalePiece arg harg v i := by
      match i with
      | 0 => exact ⟨_, List.mem_cons_of_mem _ (List.mem_singleton.mpr rfl), _, _, _, rfl⟩
      | 1 => exact ⟨_, List.mem_cons_self .., _, _, _, rfl⟩
    obtain ⟨p, hp, arg, harg, v, rfl⟩ := hm
    refine ⟨_, hp, ?_⟩
    unfold scalePiece
    rw [Rect.mem_set_unit]
    intro a
    fin_cases a
    · show i.val ≤ i.val ∧ i.val < i.val + 1; omega
    · show 0 ≤ g.val ∧ g.val < 0 + 688; omega
    · show 0 ≤ c.val ∧ c.val < 0 + 1024; omega

/-- Past the last column the scratch holds what it held before. -/
theorem scales_past (i : Fin 2) (g : Fin 704) (c : Fin 1024) (hg : ¬ g.val < 688) :
    (View.canon (scalePieces args argz hargs hargz s z ++ R) : S2x704x1024.Idx → EReal) (ix3 i g c) = (View.canon R : S2x704x1024.Idx → EReal) (ix3 i g c) := by
  refine canon_append_of_not_mem R _ _ fun q hq hy => ?_
  have hq : ∃ (arg : Memref sig .tc .vmem S256x688 .bf16) (harg : arg.IsWhole) (v : Vec Ideal S256x688 .bf16) (i : Fin 2), q = scalePiece arg harg v i := by
    rcases List.mem_cons.mp hq with rfl | hq
    · exact ⟨_, _, _, _, rfl⟩
    · exact ⟨_, _, _, _, List.mem_singleton.mp hq⟩
  obtain ⟨arg, harg, v, i', rfl⟩ := hq
  unfold scalePiece at hy
  rw [Rect.mem_set_unit] at hy
  have : g.val < 0 + 688 := (hy 1).2
  omega

/-- A lane's scale or zero, as an element of the scratch. -/
theorem scaleRows_eq (i : Fin 2) (k : Fin 22) (f : Fin 8) (r : Fin 32) (l : Fin 128) :
    (scaleRows arg9 (scaleScratch args argz hargs hargz s z arg9 R) i k f : S32x128.Idx → EReal) (ix2 r l)
      = (View.canon (scalePieces args argz hargs hargz s z ++ R) : S2x704x1024.Idx → EReal) (ix3 i ⟨32 * k.val + r.val, by omega⟩ ⟨128 * f.val + l.val, by omega⟩) := by
  have h1 (w : FVec Ideal S1x32x128 .bf16) : shapeCast S32x128 w shapeCasts_S1x32x128_S32x128 (ix2 r l) = w (ix3 0 r l) := by pointwise
  refine (h1 _).trans ?_
  unfold scaleScratch
  rw [View.readAt_writes_junk_eq_canon]
  refine congrArg (View.canon (scalePieces args argz hargs hargz s z ++ R) : S2x704x1024.Idx → EReal) (funext fun a => Fin.ext ?_)
  fin_cases a
  · show i.val + 1 * 0 = i.val; omega
  · show 32 * k.val + 1 * r.val = 32 * k.val + r.val; omega
  · show 128 * f.val + 1 * l.val = 128 * f.val + l.val; omega

end

section
variable (arg : Memref sig .tc .vmem S3x512x688 .i8) (harg : arg.IsWhole) (x : Vec Ideal S3x512x688 .i8)
  (arg8 : Memref sig .tc .vmem S3x704x128 .i32) (R : List (View.Piece (Elt Ideal) S3x704x128 .i32))
  (args argz : Memref sig .tc .vmem S256x688 .bf16) (hargs : args.IsWhole) (hargz : argz.IsWhole) (s z : Vec Ideal S256x688 .bf16)
  (arg9 : Memref sig .tc .vmem S2x704x1024 .bf16) (Q : List (View.Piece (Elt Ideal) S2x704x1024 .bf16))
  (hQ : ∀ (g : Fin 704) (c : Fin 1024), ¬ g.val < 688 → (View.canon Q : S2x704x1024.Idx → EReal) (ix3 0 g c) = 0)

include hQ in
/-- A product: an element of the first level. -/
theorem tile_at (k : Fin 22) (j : Fin 4) (f : Fin 8) (i : Fin 32) (l : Fin 128) :
    (tile arg8 arg9 (wordScratch arg harg x arg8 R) (scaleScratch args argz hargs hargz s z arg9 Q) k j f : S32x128.Idx → EReal) (ix2 i l)
      = level x s z f ⟨4 * l.val + j.val, by omega⟩ ⟨32 * k.val + i.val, by omega⟩ := by
  unfold tile
  show ((codes _ : S32x128.Idx → EReal) (ix2 i l) - (scaleRows arg9 _ 1 k f : S32x128.Idx → EReal) (ix2 i l)) * (scaleRows arg9 _ 0 k f : S32x128.Idx → EReal) (ix2 i l) = _
  rw [scaleRows_eq, scaleRows_eq]
  unfold level
  by_cases h : 32 * k.val + i.val < 688
  · rw [dif_pos h, codes_at arg harg x arg8 R k j f i l h, scales_at args argz hargs hargz s z Q 1 _ _ h, scales_at args argz hargs hargz s z Q 0 _ _ h]
    have e : (⟨(128 * f.val + l.val) / 128 * 32 + (128 * f.val + l.val) % 128 / 4, by omega⟩ : Fin 256) = ⟨32 * f.val + (4 * l.val + j.val) / 16, by omega⟩ :=
      Fin.ext (by show (128 * f.val + l.val) / 128 * 32 + (128 * f.val + l.val) % 128 / 4 = 32 * f.val + (4 * l.val + j.val) / 16; omega)
    rw [e]
    rfl
  · rw [dif_neg h, scales_past args argz hargs hargz s z Q 0 _ _ h, hQ _ _ h, mul_zero]

/-- The field and the byte of a tile, from the tile's number. -/
theorem place_at : ∀ (f : Fin 8) (j : Fin 4), (f.val % 4 * 8 + j.val / 2 * 4 + f.val / 4 * 2 + j.val % 2) / 8 + 4 * ((f.val % 4 * 8 + j.val / 2 * 4 + f.val / 4 * 2 + j.val % 2) / 2 % 2) = f.val ∧ 2 * ((f.val % 4 * 8 + j.val / 2 * 4 + f.val / 4 * 2 + j.val % 2) / 4 % 2) + (f.val % 4 * 8 + j.val / 2 * 4 + f.val / 4 * 2 + j.val % 2) % 2 = j.val := by decide

/-- A result's block. -/
def levels : S32x704x128.Idx → EReal := fun y =>
  level x s z ⟨(y 0).val / 8 + 4 * ((y 0).val / 2 % 2), by have : (y 0).val < 32 := (y 0).isLt; omega⟩
    ⟨4 * (y 2).val + (2 * ((y 0).val / 4 % 2) + (y 0).val % 2), by have : (y 2).val < 128 := (y 2).isLt; omega⟩ (y 1)

include hQ in
/-- Every piece of a result holds the first level. -/
theorem tilePiece_at (k : Fin 22) (j : Fin 4) (f : Fin 8)
    (y : (tilePiece arg8 arg9 (wordScratch arg harg x arg8 R) (scaleScratch args argz hargs hargz s z arg9 Q) k j f).1.shape.Idx) :
    (tilePiece arg8 arg9 (wordScratch arg harg x arg8 R) (scaleScratch args argz hargs hargz s z arg9 Q) k j f).2 y
      = levels x s z ((tilePiece arg8 arg9 (wordScratch arg harg x arg8 R) (scaleScratch args argz hargs hargz s z arg9 Q) k j f).1.emb y) := by
  obtain ⟨a, i, l, rfl⟩ : ∃ (a : Fin 1) (i : Fin 32) (l : Fin 128), y = (ix3 a i l : S1x32x128.Idx) := ⟨y 0, y 1, y 2, by funext a; fin_cases a <;> rfl⟩
  have ha : (f.val % 4 * 8 + j.val / 2 * 4 + f.val / 4 * 2 + j.val % 2 + 1 * a.val) = (f.val % 4 * 8 + j.val / 2 * 4 + f.val / 4 * 2 + j.val % 2) := by omega
  have h1 (w : FVec Ideal S32x128 .bf16) : shapeCast S1x32x128 w shapeCasts_S32x128_S1x32x128 (ix3 a i l) = w (ix2 i l) := by pointwise
  refine (h1 _).trans ((tile_at arg harg x arg8 R args argz hargs hargz s z arg9 Q hQ k j f i l).trans ?_)
  show _ = level x s z ⟨(f.val % 4 * 8 + j.val / 2 * 4 + f.val / 4 * 2 + j.val % 2 + 1 * a.val) / 8 + 4 * ((f.val % 4 * 8 + j.val / 2 * 4 + f.val / 4 * 2 + j.val % 2 + 1 * a.val) / 2 % 2), _⟩
    ⟨4 * (0 + 1 * l.val) + (2 * ((f.val % 4 * 8 + j.val / 2 * 4 + f.val / 4 * 2 + j.val % 2 + 1 * a.val) / 4 % 2) + (f.val % 4 * 8 + j.val / 2 * 4 + f.val / 4 * 2 + j.val % 2 + 1 * a.val) % 2), _⟩
    ⟨32 * k.val + 1 * i.val, _⟩
  congr 1
  · exact Fin.ext (by show f.val = (f.val % 4 * 8 + j.val / 2 * 4 + f.val / 4 * 2 + j.val % 2 + 1 * a.val) / 8 + 4 * ((f.val % 4 * 8 + j.val / 2 * 4 + f.val / 4 * 2 + j.val % 2 + 1 * a.val) / 2 % 2); rw [ha]; exact (place_at f j).1.symm)
  · exact Fin.ext (by show 4 * l.val + j.val = 4 * (0 + 1 * l.val) + (2 * ((f.val % 4 * 8 + j.val / 2 * 4 + f.val / 4 * 2 + j.val % 2 + 1 * a.val) / 4 % 2) + (f.val % 4 * 8 + j.val / 2 * 4 + f.val / 4 * 2 + j.val % 2 + 1 * a.val) % 2); rw [ha, (place_at f j).2]; omega)
  · exact Fin.ext (by show 32 * k.val + i.val = 32 * k.val + 1 * i.val; omega)

include hQ in
/-- Stores of these pieces that cover a result leave the first level. -/
theorem block_at {sig' : RefSig} {κ : Kind} {sp : Space} (VO : View sig' κ sp S32x704x128 .bf16) (w : VO.ty.Contents (Elt Ideal)) (y : S32x704x128.Idx)
    (hc : ∃ p ∈ tilePieces arg8 arg9 (wordScratch arg harg x arg8 R) (scaleScratch args argz hargs hargz s z arg9 Q), y ∈ p.1.set) :
    (VO.read (Elt Ideal) (VO.writes (Elt Ideal) w (tilePieces arg8 arg9 (wordScratch arg harg x arg8 R) (scaleScratch args argz hargs hargz s z arg9 Q))) : S32x704x128.Idx → EReal) y = levels x s z y := by
  refine View.read_writes_apply_of_pieces VO _ (levels x s z) _ ?_ y hc
  intro q hq
  obtain ⟨k, -, hq⟩ := List.mem_flatMap.mp hq
  obtain ⟨j, -, hq⟩ := List.mem_flatMap.mp hq
  obtain ⟨f, -, rfl⟩ := List.mem_map.mp hq
  exact tilePiece_at arg harg x arg8 R args argz hargs hargz s z arg9 Q hQ k j f

end

/-- The zeros past the last column, on their own. -/
theorem zeroScales_at (i : Fin 2) (g : Fin 704) (c : Fin 1024) (hg : ¬ g.val < 688) :
    (View.canon [zeroScales] : S2x704x1024.Idx → EReal) (ix3 i g c) = 0 := by
  refine canon_append_of_pieces (fun _ => (0 : EReal)) [] [zeroScales] ?_ _ ⟨zeroScales, List.mem_singleton.mpr rfl, ?_⟩
  · intro q hq y
    obtain rfl := List.mem_singleton.mp hq
    obtain ⟨a, b, d, rfl⟩ : ∃ (a : Fin 2) (b : Fin 16) (d : Fin 1024), y = (ix3 a b d : S2x16x1024.Idx) := ⟨y 0, y 1, y 2, by funext a; fin_cases a <;> rfl⟩
    show (k0_pay244 (F := Ideal)) (ix3 a b d) = 0
    pointwise [k0_pay244]
  · unfold zeroScales
    rw [Rect.mem_set_unit]
    intro a
    fin_cases a
    · show 0 ≤ i.val ∧ i.val < 0 + 2; omega
    · show 688 ≤ g.val ∧ g.val < 688 + 16; omega
    · show 0 ≤ c.val ∧ c.val < 0 + 1024; omega

section
variable (c : Dev nD) (arg0 : Memref sig .tc .vmem S3x512x688 .i8) (harg0 : arg0.IsWhole) (arg1 : Memref sig .tc .vmem S3x512x688 .i8) (harg1 : arg1.IsWhole)
  (arg2 : Memref sig .tc .vmem S256x688 .bf16) (harg2 : arg2.IsWhole) (arg3 : Memref sig .tc .vmem S256x688 .bf16) (harg3 : arg3.IsWhole)
  (arg4 : Memref sig .tc .vmem S256x688 .bf16) (harg4 : arg4.IsWhole) (arg5 : Memref sig .tc .vmem S256x688 .bf16) (harg5 : arg5.IsWhole)
  (arg6 : Memref sig .tc .vmem S32x704x128 .bf16) (harg6 : arg6.IsWhole) (arg7 : Memref sig .tc .vmem S32x704x128 .bf16) (harg7 : arg7.IsWhole)
  (arg8 : Memref sig .tc .vmem S3x704x128 .i32) (harg8 : arg8.IsWhole) (arg9 : Memref sig .tc .vmem S2x704x1024 .bf16) (harg9 : arg9.IsWhole)
  (x0 x1 : Vec Ideal S3x512x688 .i8) (x2 x3 x4 x5 : Vec Ideal S256x688 .bf16)

/-- The first result's block. -/
theorem block1 (y : S32x704x128.Idx) :
    (out0_A_6 c arg0 harg0 arg1 harg1 arg2 harg2 arg3 harg3 arg4 harg4 arg5 harg5 arg6 harg6 arg7 harg7 arg8 harg8 arg9 harg9 x0 x1 x2 x3 x4 x5 : S32x704x128.Idx → EReal) y = levels x0 x2 x3 y := by
  have hc := cover0_A_6 c arg0 harg0 arg1 harg1 arg2 harg2 arg3 harg3 arg4 harg4 arg5 harg5 arg6 harg6 arg7 harg7 arg8 harg8 arg9 harg9 x0 x1 x2 x3 x4 x5 y
  unfold out0_A_6
  rw [pieces1] at hc ⊢
  exact block_at arg0 harg0 x0 arg8 [zeroWords] arg2 arg3 harg2 harg3 x2 x3 arg9 [zeroScales] (fun g c h => zeroScales_at 0 g c h) VO0_6 _ y hc

/-- The second result's block. -/
theorem block2 (y : S32x704x128.Idx) :
    (out0_A_7 c arg0 harg0 arg1 harg1 arg2 harg2 arg3 harg3 arg4 harg4 arg5 harg5 arg6 harg6 arg7 harg7 arg8 harg8 arg9 harg9 x0 x1 x2 x3 x4 x5 : S32x704x128.Idx → EReal) y = levels x1 x4 x5 y := by
  have hc := cover0_A_7 c arg0 harg0 arg1 harg1 arg2 harg2 arg3 harg3 arg4 harg4 arg5 harg5 arg6 harg6 arg7 harg7 arg8 harg8 arg9 harg9 x0 x1 x2 x3 x4 x5 y
  unfold out0_A_7
  rw [pieces2] at hc ⊢
  exact block_at arg1 harg1 x1 arg8 (words1 arg0 harg0 x0) arg4 arg5 harg4 harg5 x4 x5 arg9 (scales1 arg2 harg2 arg3 harg3 x2 x3)
    (fun g c h => (scales_past arg2 arg3 harg2 harg3 x2 x3 [zeroScales] 0 g c h).trans (zeroScales_at 0 g c h)) VO0_7 _ y hc

end

end Cert.ScalesIdeal.Body

end
-- ==== Proof.ScalesValue.lean ====
/-
  The two results of the first-level dequantization, element by element, beside the reference's.
-/
module

public import proofs.«01_k».proof.Proof.Gen.ScalesIdeal.Value
public import proofs.«01_k».proof.Proof.ScalesTile
public import Idealize.ShloMosaic.Lib.Pipeline.ValueKit.Geometry

@[expose] public section

set_option maxRecDepth 16384

noncomputable section

namespace Cert.ScalesIdeal.Body

open Cert.ScalesIdeal Cert.ScalesIdeal.Gen
open Cert.ScalesReferenceIdeal.Body (level result result_at)
open Idealize.ShloMosaic Idealize.ShloMosaic.TcCoe Idealize.ShloMosaic.Tactic
open Idealize.SL Idealize.SL.Sem

/-- The one point. -/
def pt : Fin cfg0.N := ⟨0, (by decide +kernel : 0 < grid0.N)⟩

/-- Every block is the whole array. -/
theorem index_at : win0_0.index pt = ![0, 0, 0] ∧ win0_1.index pt = ![0, 0, 0] ∧ win0_2.index pt = ![0, 0] ∧ win0_3.index pt = ![0, 0]
    ∧ win0_4.index pt = ![0, 0] ∧ win0_5.index pt = ![0, 0] ∧ win0_6.index pt = ![0, 0, 0] ∧ win0_7.index pt = ![0, 0, 0] := by
  decide +kernel

variable (m : (ℓ : Loc nD τ sig) → Buf (Elt Ideal) ℓ)

/-- The block of the first planes. -/
theorem planes0_eq (c : Dev nD) : (iblk m c 0 pt : S3x512x688.Idx → BitVec 8) = m ((c : Thread nD τ).loc main_arg0) := by
  obtain ⟨h0, h1, h2, h3, h4, h5, h6, h7⟩ := index_at
  funext (y : S3x512x688.Idx)
  obtain ⟨a, b, d, rfl⟩ : ∃ (a : Fin 3) (b : Fin 512) (d : Fin 688), y = ix3 a b d := ⟨y 0, y 1, y 2, by funext a; fin_cases a <;> rfl⟩
  blk_ext [iblk, V, h0]

/-- The block of the second planes. -/
theorem planes1_eq (c : Dev nD) : (iblk m c 1 pt : S3x512x688.Idx → BitVec 8) = m ((c : Thread nD τ).loc main_arg1) := by
  obtain ⟨h0, h1, h2, h3, h4, h5, h6, h7⟩ := index_at
  funext (y : S3x512x688.Idx)
  obtain ⟨a, b, d, rfl⟩ : ∃ (a : Fin 3) (b : Fin 512) (d : Fin 688), y = ix3 a b d := ⟨y 0, y 1, y 2, by funext a; fin_cases a <;> rfl⟩
  blk_ext [iblk, V, h1]

/-- The block of the first scales. -/
theorem block2_eq (c : Dev nD) : (iblk m c 2 pt : S256x688.Idx → EReal) = m ((c : Thread nD τ).loc main_arg2) := by
  obtain ⟨h0, h1, h2, h3, h4, h5, h6, h7⟩ := index_at
  funext (y : S256x688.Idx)
  obtain ⟨a, b, rfl⟩ : ∃ (a : Fin 256) (b : Fin 688), y = ix2 a b := ⟨y 0, y 1, by funext a; fin_cases a <;> rfl⟩
  blk_ext [iblk, V, h2]

/-- The block of the first zeros. -/
theorem block3_eq (c : Dev nD) : (iblk m c 3 pt : S256x688.Idx → EReal) = m ((c : Thread nD τ).loc main_arg3) := by
  obtain ⟨h0, h1, h2, h3, h4, h5, h6, h7⟩ := index_at
  funext (y : S256x688.Idx)
  obtain ⟨a, b, rfl⟩ : ∃ (a : Fin 256) (b : Fin 688), y = ix2 a b := ⟨y 0, y 1, by funext a; fin_cases a <;> rfl⟩
  blk_ext [iblk, V, h3]

/-- The block of the second scales. -/
theorem block4_eq (c : Dev nD) : (iblk m c 4 pt : S256x688.Idx → EReal) = m ((c : Thread nD τ).loc main_arg4) := by
  obtain ⟨h0, h1, h2, h3, h4, h5, h6, h7⟩ := index_at
  funext (y : S256x688.Idx)
  obtain ⟨a, b, rfl⟩ : ∃ (a : Fin 256) (b : Fin 688), y = ix2 a b := ⟨y 0, y 1, by funext a; fin_cases a <;> rfl⟩
  blk_ext [iblk, V, h4]

/-- The block of the second zeros. -/
theorem block5_eq (c : Dev nD) : (iblk m c 5 pt : S256x688.Idx → EReal) = m ((c : Thread nD τ).loc main_arg5) := by
  obtain ⟨h0, h1, h2, h3, h4, h5, h6, h7⟩ := index_at
  funext (y : S256x688.Idx)
  obtain ⟨a, b, rfl⟩ : ∃ (a : Fin 256) (b : Fin 688), y = ix2 a b := ⟨y 0, y 1, by funext a; fin_cases a <;> rfl⟩
  blk_ext [iblk, V, h5]

/-- The first result after the run. -/
theorem final_first (c : Dev nD) (t : Fin 32) (g : Fin 704) (l : Fin 128) :
    ((dats m 0 c).arrAt 6 cfg0.N : S32x704x128.Idx → EReal) (ix3 t g l)
      = levels (m ((c : Thread nD τ).loc main_arg0)) (m ((c : Thread nD τ).loc main_arg2)) (m ((c : Thread nD τ).loc main_arg3)) (ix3 t g l) := by
  obtain ⟨h0, h1, h2, h3, h4, h5, h6, h7⟩ := index_at
  have hb := Cert.ScalesIdeal.Value.blocks6 m c pt (flush0_6 _)
  rw [Cert.ScalesIdeal.Value.flushed6_A] at hb
  have hb := congrFun hb (ix3 t g l)
  have e3 : ((cfg0.win 6).blk pt).view.emb (ix3 t g l : S32x704x128.Idx) = (ix3 t g l : S32x704x128.Idx) := by
    blk_ext [h6]
  refine Eq.trans ?_ (hb.trans ((block1 c _ _ _ _ _ _ _ _ _ _ _ _ _ _ _ _ _ _ _ _ _ _ _ _ _ _ _).trans ?_))
  · show _ = (dats m 0 c).arrAt 6 cfg0.N (((cfg0.win 6).blk pt).view.emb (ix3 t g l : S32x704x128.Idx))
    rw [e3]
  · rw [planes0_eq, block2_eq, block3_eq]
    exact congrArg (levels _ _ _) (funext fun a => Fin.ext (by fin_cases a <;> rfl))

/-- The first result in common. -/
def first (c : Dev nD) : S32x704x128.Idx → EReal := (dats m 0 c).arrAt 6 cfg0.N

/-- The reference's first result is the common one when the arguments agree. -/
theorem reference_first (q : IVec S3x512x688 8) (s z : FVec Ideal S256x688 .bf16) (c : Dev nD) (hq : q = m ((c.tc : Thread nD τ).loc main_arg0))
    (hs : s = m ((c.tc : Thread nD τ).loc main_arg2)) (hz : z = m ((c.tc : Thread nD τ).loc main_arg3)) : result q s z = first m c := by
  funext (y : S32x704x128.Idx)
  obtain ⟨t, g, l, rfl⟩ : ∃ (t : Fin 32) (g : Fin 704) (l : Fin 128), y = ix3 t g l := ⟨y 0, y 1, y 2, by funext a; fin_cases a <;> rfl⟩
  refine (result_at q s z t g l).trans ?_
  rw [hq, hs, hz]
  exact (final_first m c t g l).symm

/-- The second result after the run. -/
theorem final_second (c : Dev nD) (t : Fin 32) (g : Fin 704) (l : Fin 128) :
    ((dats m 0 c).arrAt 7 cfg0.N : S32x704x128.Idx → EReal) (ix3 t g l)
      = levels (m ((c : Thread nD τ).loc main_arg1)) (m ((c : Thread nD τ).loc main_arg4)) (m ((c : Thread nD τ).loc main_arg5)) (ix3 t g l) := by
  obtain ⟨h0, h1, h2, h3, h4, h5, h6, h7⟩ := index_at
  have hb := Cert.ScalesIdeal.Value.blocks7 m c pt (flush0_7 _)
  rw [Cert.ScalesIdeal.Value.flushed7_A] at hb
  have hb := congrFun hb (ix3 t g l)
  have e3 : ((cfg0.win 7).blk pt).view.emb (ix3 t g l : S32x704x128.Idx) = (ix3 t g l : S32x704x128.Idx) := by
    blk_ext [h7]
  refine Eq.trans ?_ (hb.trans ((block2 c _ _ _ _ _ _ _ _ _ _ _ _ _ _ _ _ _ _ _ _ _ _ _ _ _ _ _).trans ?_))
  · show _ = (dats m 0 c).arrAt 7 cfg0.N (((cfg0.win 7).blk pt).view.emb (ix3 t g l : S32x704x128.Idx))
    rw [e3]
  · rw [planes1_eq, block4_eq, block5_eq]
    exact congrArg (levels _ _ _) (funext fun a => Fin.ext (by fin_cases a <;> rfl))

/-- The second result in common. -/
def second (c : Dev nD) : S32x704x128.Idx → EReal := (dats m 0 c).arrAt 7 cfg0.N

/-- The reference's second result is the common one when the arguments agree. -/
theorem reference_second (q : IVec S3x512x688 8) (s z : FVec Ideal S256x688 .bf16) (c : Dev nD) (hq : q = m ((c.tc : Thread nD τ).loc main_arg1))
    (hs : s = m ((c.tc : Thread nD τ).loc main_arg4)) (hz : z = m ((c.tc : Thread nD τ).loc main_arg5)) : result q s z = second m c := by
  funext (y : S32x704x128.Idx)
  obtain ⟨t, g, l, rfl⟩ : ∃ (t : Fin 32) (g : Fin 704) (l : Fin 128), y = ix3 t g l := ⟨y 0, y 1, y 2, by funext a; fin_cases a <;> rfl⟩
  refine (result_at q s z t g l).trans ?_
  rw [hq, hs, hz]
  exact (final_second m c t g l).symm

end Cert.ScalesIdeal.Body

end
-- ==== Proof.lean ====
/-
  The claim assembled: the frames of the kernel, of its idealization and of the reference, and that the idealization and
  the reference end with equal results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.IdealFrame
public import proofs.«01_k».proof.Proof.Compare
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.PrepValue
public import proofs.«01_k».proof.Proof.Gen.Scales
public import proofs.«01_k».proof.Proof.Gen.Scales.Frame
public import proofs.«01_k».proof.Proof.Gen.ScalesIdeal
public import proofs.«01_k».proof.Proof.Gen.ScalesIdeal.Frame
public import proofs.«01_k».proof.Proof.Gen.ScalesIdeal.Value
public import proofs.«01_k».proof.Proof.Gen.ScalesReferenceIdeal
public import proofs.«01_k».proof.Proof.Gen.ScalesReferenceIdeal.Run
public import proofs.«01_k».proof.Proof.ScalesValue
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel (hKernel := Cert.Kernel.Gen.facts) :=
  fun m g _ => Cert.Kernel.Body.frame m g

/-- The idealized kernel's frame. -/
theorem frame_ideal : Cert.quiescent_KernelIdeal (hKernelIdeal := Cert.KernelIdeal.Gen.facts) :=
  fun m g _ => Cert.KernelIdeal.Body.frame m g

/-- The reference's frame: it has no semaphore. -/
theorem frame_reference : Cert.quiescent_ReferenceIdeal (hReferenceIdeal := Cert.ReferenceIdeal.Gen.facts) :=
  fun m g _ => (θ_run _ _ _).mono (fun _ h => ⟨fun c => (h c).2, Idealize.ShloMosaic.sem_eq_zero_of_no_sems (by decide) _⟩) (Cert.ReferenceIdeal.Value.run m g)

/-- Both programs end with the same result and unchanged arguments when their arguments agree. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Body.result m c, ?_, ?_⟩
  · refine (θ_run _ _ _).mono (fun r hr c => ?_) (Cert.KernelIdeal.Body.run_main m g)
    exact ⟨Cert.KernelIdeal.Body.final_result m hr.1 c, Cert.KernelIdeal.Body.final_in m hr.1 c 0 rfl, Cert.KernelIdeal.Body.final_in m hr.1 c 1 rfl,
      Cert.KernelIdeal.Body.final_in m hr.1 c 2 rfl, Cert.KernelIdeal.Body.final_in m hr.1 c 3 rfl, Cert.KernelIdeal.Body.final_in m hr.1 c 4 rfl⟩
  · refine (θ_run _ _ _).mono (fun r hr c => ?_) (Cert.ReferenceIdeal.Value.run m' g')
    obtain ⟨h0, h1, h2, h3, h4⟩ := h c
    exact ⟨(hr c).1.trans (Cert.Compare.reference_value m m' c h0 h1 h2 h3 h4), (hr c).2⟩

/-- The preparation's frame. -/
theorem frame_prep : Cert.quiescent_Prep (hPrep := Cert.Prep.Gen.facts) :=
  fun m g _ => Cert.Prep.Gen.frame m g

/-- The idealized preparation's frame. -/
theorem frame_prep_ideal : Cert.quiescent_PrepIdeal (hPrepIdeal := Cert.PrepIdeal.Gen.facts) :=
  fun m g _ => Cert.PrepIdeal.Gen.frame m g

/-- The frame of the preparation's reference: it has no semaphore. -/
theorem frame_prep_reference : Cert.quiescent_PrepReferenceIdeal (hPrepReferenceIdeal := Cert.PrepReferenceIdeal.Gen.facts) :=
  fun m g _ => (θ_run _ _ _).mono (fun _ h => ⟨fun c => (h c).2.2, Idealize.ShloMosaic.sem_eq_zero_of_no_sems (by decide) _⟩) (Cert.PrepReferenceIdeal.Value.run m g)

/-- The preparation and its reference end with the same two results and unchanged arguments when their arguments agree. -/
theorem algebraic_prep : Cert.algebraic_PrepIdeal_PrepReferenceIdeal (hPrepIdeal := Cert.PrepIdeal.Gen.facts) (hPrepReferenceIdeal := Cert.PrepReferenceIdeal.Gen.facts) := by
  intro m g m' g' _ h
  refine ⟨fun c => Cert.PrepIdeal.Body.words m c, fun c => Cert.PrepIdeal.Body.columns m c, Cert.PrepIdeal.Value.run_blocks m g, ?_⟩
  refine (θ_run _ _ _).mono (fun r hr c => ?_) (Cert.PrepReferenceIdeal.Value.run m' g')
  obtain ⟨h0, h1⟩ := h c
  exact ⟨(hr c).1.trans (Cert.PrepIdeal.Body.reference_words m m' c h0), (hr c).2.1.trans (Cert.PrepIdeal.Body.reference_columns m _ c h1), (hr c).2.2⟩

/-- The first level's frame. -/
theorem frame_scales : Cert.quiescent_Scales (hScales := Cert.Scales.Gen.facts) :=
  fun m g _ => Cert.Scales.Gen.frame m g

/-- The idealized first level's frame. -/
theorem frame_scales_ideal : Cert.quiescent_ScalesIdeal (hScalesIdeal := Cert.ScalesIdeal.Gen.facts) :=
  fun m g _ => Cert.ScalesIdeal.Gen.frame m g

/-- The frame of the first level's reference: it has no semaphore. -/
theorem frame_scales_reference : Cert.quiescent_ScalesReferenceIdeal (hScalesReferenceIdeal := Cert.ScalesReferenceIdeal.Gen.facts) :=
  fun m g _ => (θ_run _ _ _).mono (fun _ h => ⟨fun c => (h c).2.2, Idealize.ShloMosaic.sem_eq_zero_of_no_sems (by decide) _⟩) (Cert.ScalesReferenceIdeal.Value.run m g)

/-- The first level and its reference end with the same two results and unchanged arguments when their arguments agree. -/
theorem algebraic_scales : Cert.algebraic_ScalesIdeal_ScalesReferenceIdeal (hScalesIdeal := Cert.ScalesIdeal.Gen.facts) (hScalesReferenceIdeal := Cert.ScalesReferenceIdeal.Gen.facts) := by
  intro m g m' g' _ h
  refine ⟨fun c => Cert.ScalesIdeal.Body.first m c, fun c => Cert.ScalesIdeal.Body.second m c, Cert.ScalesIdeal.Value.run_blocks m g, ?_⟩
  refine (θ_run _ _ _).mono (fun r hr c => ?_) (Cert.ScalesReferenceIdeal.Value.run m' g')
  obtain ⟨h0, h1, h2, h3, h4, h5⟩ := h c
  exact ⟨(hr c).1.trans (Cert.ScalesIdeal.Body.reference_first m _ _ _ c h0 h2 h3), (hr c).2.1.trans (Cert.ScalesIdeal.Body.reference_second m _ _ _ c h1 h4 h5), (hr c).2.2⟩

/-- Every claim. -/
theorem claim : Cert.Claim :=
  ⟨Cert.Kernel.Gen.facts, Cert.KernelIdeal.Gen.facts, Cert.ReferenceIdeal.Gen.facts, Cert.Prep.Gen.facts, Cert.PrepIdeal.Gen.facts, Cert.PrepReferenceIdeal.Gen.facts,
    Cert.Scales.Gen.facts, Cert.ScalesIdeal.Gen.facts, Cert.ScalesReferenceIdeal.Gen.facts,
    frame_kernel, frame_ideal, frame_reference, frame_prep, frame_prep_ideal, frame_prep_reference,
    frame_scales, frame_scales_ideal, frame_scales_reference, trivial, algebraic, trivial, algebraic_prep, trivial, algebraic_scales⟩

end Cert.Proof

end
